-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Decode0 (m : (ℓ : Loc Cert.Decode0.nD Cert.Decode0.τ Cert.Decode0.sig) → Buf (Elt Bits) ℓ) : Prop :=
  True

def Pre_Decode0Ideal (m : (ℓ : Loc Cert.Decode0Ideal.nD Cert.Decode0Ideal.τ Cert.Decode0Ideal.sig) → Buf (Elt Ideal) ℓ) : Prop :=
  True

def Pre_Scores0Ideal (m : (ℓ : Loc Cert.Scores0Ideal.nD Cert.Scores0Ideal.τ Cert.Scores0Ideal.sig) → Buf (Elt Ideal) ℓ) : Prop :=
  True

def Pre_Decode1 (m : (ℓ : Loc Cert.Decode1.nD Cert.Decode1.τ Cert.Decode1.sig) → Buf (Elt Bits) ℓ) : Prop :=
  True

def Pre_Decode1Ideal (m : (ℓ : Loc Cert.Decode1Ideal.nD Cert.Decode1Ideal.τ Cert.Decode1Ideal.sig) → Buf (Elt Ideal) ℓ) : Prop :=
  True

def Pre_Scores1Ideal (m : (ℓ : Loc Cert.Scores1Ideal.nD Cert.Scores1Ideal.τ Cert.Scores1Ideal.sig) → Buf (Elt Ideal) ℓ) : Prop :=
  True

def Pre_Decode2 (m : (ℓ : Loc Cert.Decode2.nD Cert.Decode2.τ Cert.Decode2.sig) → Buf (Elt Bits) ℓ) : Prop :=
  True

def Pre_Decode2Ideal (m : (ℓ : Loc Cert.Decode2Ideal.nD Cert.Decode2Ideal.τ Cert.Decode2Ideal.sig) → Buf (Elt Ideal) ℓ) : Prop :=
  True

def Pre_Scores2Ideal (m : (ℓ : Loc Cert.Scores2Ideal.nD Cert.Scores2Ideal.τ Cert.Scores2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Decode0 [hDecode0 : Cert.Decode0.Facts] : Prop :=
  ∀ (m : (ℓ : Loc Cert.Decode0.nD Cert.Decode0.τ Cert.Decode0.sig) → Buf (Elt Bits) ℓ) (g : Dev Cert.Decode0.nD → PrngReg), Pre_Decode0 m →
    θ_run (Cert.Decode0.defs (F := Bits)) (onTc (τ := Cert.Decode0.τ) (Cert.Decode0.main (F := Bits))) ⟨m, fun _ => 0, g⟩ (fun r => (∀ c : Dev Cert.Decode0.nD,
      r.2.mem ((c.tc : Thread Cert.Decode0.nD Cert.Decode0.τ).loc Cert.Decode0.main_arg0) = m ((c.tc : Thread Cert.Decode0.nD Cert.Decode0.τ).loc Cert.Decode0.main_arg0))
      ∧ r.2.sem = fun _ => 0)

def quiescent_Decode0Ideal [hDecode0Ideal : Cert.Decode0Ideal.Facts] : Prop :=
  ∀ (m : (ℓ : Loc Cert.Decode0Ideal.nD Cert.Decode0Ideal.τ Cert.Decode0Ideal.sig) → Buf (Elt Ideal) ℓ) (g : Dev Cert.Decode0Ideal.nD → PrngReg), Pre_Decode0Ideal m →
    θ_run (Cert.Decode0Ideal.defs (F := Ideal)) (onTc (τ := Cert.Decode0Ideal.τ) (Cert.Decode0Ideal.main (F := Ideal))) ⟨m, fun _ => 0, g⟩ (fun r => (∀ c : Dev Cert.Decode0Ideal.nD,
      r.2.mem ((c.tc : Thread Cert.Decode0Ideal.nD Cert.Decode0Ideal.τ).loc Cert.Decode0Ideal.main_arg0) = m ((c.tc : Thread Cert.Decode0Ideal.nD Cert.Decode0Ideal.τ).loc Cert.Decode0Ideal.main_arg0))
      ∧ r.2.sem = fun _ => 0)

def quiescent_Scores0Ideal [hScores0Ideal : Cert.Scores0Ideal.Facts] : Prop :=
  ∀ (m : (ℓ : Loc Cert.Scores0Ideal.nD Cert.Scores0Ideal.τ Cert.Scores0Ideal.sig) → Buf (Elt Ideal) ℓ) (g : Dev Cert.Scores0Ideal.nD → PrngReg), Pre_Scores0Ideal m →
    θ_run (Cert.Scores0Ideal.defs (F := Ideal)) (onTc (τ := Cert.Scores0Ideal.τ) (Cert.Scores0Ideal.main (F := Ideal))) ⟨m, fun _ => 0, g⟩ (fun r => (∀ c : Dev Cert.Scores0Ideal.nD,
      r.2.mem ((c.tc : Thread Cert.Scores0Ideal.nD Cert.Scores0Ideal.τ).loc Cert.Scores0Ideal.main_arg0) = m ((c.tc : Thread Cert.Scores0Ideal.nD Cert.Scores0Ideal.τ).loc Cert.Scores0Ideal.main_arg0))
      ∧ r.2.sem = fun _ => 0)

def quiescent_Decode1 [hDecode1 : Cert.Decode1.Facts] : Prop :=
  ∀ (m : (ℓ : Loc Cert.Decode1.nD Cert.Decode1.τ Cert.Decode1.sig) → Buf (Elt Bits) ℓ) (g : Dev Cert.Decode1.nD → PrngReg), Pre_Decode1 m →
    θ_run (Cert.Decode1.defs (F := Bits)) (onTc (τ := Cert.Decode1.τ) (Cert.Decode1.main (F := Bits))) ⟨m, fun _ => 0, g⟩ (fun r => (∀ c : Dev Cert.Decode1.nD,
      r.2.mem ((c.tc : Thread Cert.Decode1.nD Cert.Decode1.τ).loc Cert.Decode1.main_arg0) = m ((c.tc : Thread Cert.Decode1.nD Cert.Decode1.τ).loc Cert.Decode1.main_arg0))
      ∧ r.2.sem = fun _ => 0)

def quiescent_Decode1Ideal [hDecode1Ideal : Cert.Decode1Ideal.Facts] : Prop :=
  ∀ (m : (ℓ : Loc Cert.Decode1Ideal.nD Cert.Decode1Ideal.τ Cert.Decode1Ideal.sig) → Buf (Elt Ideal) ℓ) (g : Dev Cert.Decode1Ideal.nD → PrngReg), Pre_Decode1Ideal m →
    θ_run (Cert.Decode1Ideal.defs (F := Ideal)) (onTc (τ := Cert.Decode1Ideal.τ) (Cert.Decode1Ideal.main (F := Ideal))) ⟨m, fun _ => 0, g⟩ (fun r => (∀ c : Dev Cert.Decode1Ideal.nD,
      r.2.mem ((c.tc : Thread Cert.Decode1Ideal.nD Cert.Decode1Ideal.τ).loc Cert.Decode1Ideal.main_arg0) = m ((c.tc : Thread Cert.Decode1Ideal.nD Cert.Decode1Ideal.τ).loc Cert.Decode1Ideal.main_arg0))
      ∧ r.2.sem = fun _ => 0)

def quiescent_Scores1Ideal [hScores1Ideal : Cert.Scores1Ideal.Facts] : Prop :=
  ∀ (m : (ℓ : Loc Cert.Scores1Ideal.nD Cert.Scores1Ideal.τ Cert.Scores1Ideal.sig) → Buf (Elt Ideal) ℓ) (g : Dev Cert.Scores1Ideal.nD → PrngReg), Pre_Scores1Ideal m →
    θ_run (Cert.Scores1Ideal.defs (F := Ideal)) (onTc (τ := Cert.Scores1Ideal.τ) (Cert.Scores1Ideal.main (F := Ideal))) ⟨m, fun _ => 0, g⟩ (fun r => (∀ c : Dev Cert.Scores1Ideal.nD,
      r.2.mem ((c.tc : Thread Cert.Scores1Ideal.nD Cert.Scores1Ideal.τ).loc Cert.Scores1Ideal.main_arg0) = m ((c.tc : Thread Cert.Scores1Ideal.nD Cert.Scores1Ideal.τ).loc Cert.Scores1Ideal.main_arg0))
      ∧ r.2.sem = fun _ => 0)

def quiescent_Decode2 [hDecode2 : Cert.Decode2.Facts] : Prop :=
  ∀ (m : (ℓ : Loc Cert.Decode2.nD Cert.Decode2.τ Cert.Decode2.sig) → Buf (Elt Bits) ℓ) (g : Dev Cert.Decode2.nD → PrngReg), Pre_Decode2 m →
    θ_run (Cert.Decode2.defs (F := Bits)) (onTc (τ := Cert.Decode2.τ) (Cert.Decode2.main (F := Bits))) ⟨m, fun _ => 0, g⟩ (fun r => (∀ c : Dev Cert.Decode2.nD,
      r.2.mem ((c.tc : Thread Cert.Decode2.nD Cert.Decode2.τ).loc Cert.Decode2.main_arg0) = m ((c.tc : Thread Cert.Decode2.nD Cert.Decode2.τ).loc Cert.Decode2.main_arg0))
      ∧ r.2.sem = fun _ => 0)

def quiescent_Decode2Ideal [hDecode2Ideal : Cert.Decode2Ideal.Facts] : Prop :=
  ∀ (m : (ℓ : Loc Cert.Decode2Ideal.nD Cert.Decode2Ideal.τ Cert.Decode2Ideal.sig) → Buf (Elt Ideal) ℓ) (g : Dev Cert.Decode2Ideal.nD → PrngReg), Pre_Decode2Ideal m →
    θ_run (Cert.Decode2Ideal.defs (F := Ideal)) (onTc (τ := Cert.Decode2Ideal.τ) (Cert.Decode2Ideal.main (F := Ideal))) ⟨m, fun _ => 0, g⟩ (fun r => (∀ c : Dev Cert.Decode2Ideal.nD,
      r.2.mem ((c.tc : Thread Cert.Decode2Ideal.nD Cert.Decode2Ideal.τ).loc Cert.Decode2Ideal.main_arg0) = m ((c.tc : Thread Cert.Decode2Ideal.nD Cert.Decode2Ideal.τ).loc Cert.Decode2Ideal.main_arg0))
      ∧ r.2.sem = fun _ => 0)

def quiescent_Scores2Ideal [hScores2Ideal : Cert.Scores2Ideal.Facts] : Prop :=
  ∀ (m : (ℓ : Loc Cert.Scores2Ideal.nD Cert.Scores2Ideal.τ Cert.Scores2Ideal.sig) → Buf (Elt Ideal) ℓ) (g : Dev Cert.Scores2Ideal.nD → PrngReg), Pre_Scores2Ideal m →
    θ_run (Cert.Scores2Ideal.defs (F := Ideal)) (onTc (τ := Cert.Scores2Ideal.τ) (Cert.Scores2Ideal.main (F := Ideal))) ⟨m, fun _ => 0, g⟩ (fun r => (∀ c : Dev Cert.Scores2Ideal.nD,
      r.2.mem ((c.tc : Thread Cert.Scores2Ideal.nD Cert.Scores2Ideal.τ).loc Cert.Scores2Ideal.main_arg0) = m ((c.tc : Thread Cert.Scores2Ideal.nD Cert.Scores2Ideal.τ).loc Cert.Scores2Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Decode0_Decode0Ideal : Prop :=
  True

def algebraic_Decode0Ideal_Scores0Ideal [hDecode0Ideal : Cert.Decode0Ideal.Facts] [hScores0Ideal : Cert.Scores0Ideal.Facts] : Prop :=
  ∀ (m : (ℓ : Loc Cert.Decode0Ideal.nD Cert.Decode0Ideal.τ Cert.Decode0Ideal.sig) → Buf (Elt Ideal) ℓ) (g : Dev Cert.Decode0Ideal.nD → PrngReg)
    (m' : (ℓ : Loc Cert.Scores0Ideal.nD Cert.Scores0Ideal.τ Cert.Scores0Ideal.sig) → Buf (Elt Ideal) ℓ) (g' : Dev Cert.Scores0Ideal.nD → PrngReg), Pre_Decode0Ideal m →
    (∀ c : Dev Cert.Decode0Ideal.nD,
      m' ((c.tc : Thread Cert.Scores0Ideal.nD Cert.Scores0Ideal.τ).loc Cert.Scores0Ideal.main_arg0) = m ((c.tc : Thread Cert.Decode0Ideal.nD Cert.Decode0Ideal.τ).loc Cert.Decode0Ideal.main_arg0)) →
    ∃ (v0 : (c : Dev Cert.Decode0Ideal.nD) → Buf (Elt Ideal) ((c.tc : Thread Cert.Decode0Ideal.nD Cert.Decode0Ideal.τ).loc Cert.Decode0Ideal.main_v0_4)),
      θ_run (Cert.Decode0Ideal.defs (F := Ideal)) (onTc (τ := Cert.Decode0Ideal.τ) (Cert.Decode0Ideal.main (F := Ideal))) ⟨m, fun _ => 0, g⟩ (fun r => ∀ c : Dev Cert.Decode0Ideal.nD,
          r.2.mem ((c.tc : Thread Cert.Decode0Ideal.nD Cert.Decode0Ideal.τ).loc Cert.Decode0Ideal.main_v0_4) = v0 c
          ∧ r.2.mem ((c.tc : Thread Cert.Decode0Ideal.nD Cert.Decode0Ideal.τ).loc Cert.Decode0Ideal.main_arg0) = m ((c.tc : Thread Cert.Decode0Ideal.nD Cert.Decode0Ideal.τ).loc Cert.Decode0Ideal.main_arg0))
      ∧ θ_run (Cert.Scores0Ideal.defs (F := Ideal)) (onTc (τ := Cert.Scores0Ideal.τ) (Cert.Scores0Ideal.main (F := Ideal))) ⟨m', fun _ => 0, g'⟩ (fun r => ∀ c : Dev Cert.Scores0Ideal.nD,
          r.2.mem ((c.tc : Thread Cert.Scores0Ideal.nD Cert.Scores0Ideal.τ).loc Cert.Scores0Ideal.main_v10) = v0 c
          ∧ r.2.mem ((c.tc : Thread Cert.Scores0Ideal.nD Cert.Scores0Ideal.τ).loc Cert.Scores0Ideal.main_arg0) = m' ((c.tc : Thread Cert.Scores0Ideal.nD Cert.Scores0Ideal.τ).loc Cert.Scores0Ideal.main_arg0))

def preserves_Decode1_Decode1Ideal : Prop :=
  True

def algebraic_Decode1Ideal_Scores1Ideal [hDecode1Ideal : Cert.Decode1Ideal.Facts] [hScores1Ideal : Cert.Scores1Ideal.Facts] : Prop :=
  ∀ (m : (ℓ : Loc Cert.Decode1Ideal.nD Cert.Decode1Ideal.τ Cert.Decode1Ideal.sig) → Buf (Elt Ideal) ℓ) (g : Dev Cert.Decode1Ideal.nD → PrngReg)
    (m' : (ℓ : Loc Cert.Scores1Ideal.nD Cert.Scores1Ideal.τ Cert.Scores1Ideal.sig) → Buf (Elt Ideal) ℓ) (g' : Dev Cert.Scores1Ideal.nD → PrngReg), Pre_Decode1Ideal m →
    (∀ c : Dev Cert.Decode1Ideal.nD,
      m' ((c.tc : Thread Cert.Scores1Ideal.nD Cert.Scores1Ideal.τ).loc Cert.Scores1Ideal.main_arg0) = m ((c.tc : Thread Cert.Decode1Ideal.nD Cert.Decode1Ideal.τ).loc Cert.Decode1Ideal.main_arg0)) →
    ∃ (v0 : (c : Dev Cert.Decode1Ideal.nD) → Buf (Elt Ideal) ((c.tc : Thread Cert.Decode1Ideal.nD Cert.Decode1Ideal.τ).loc Cert.Decode1Ideal.main_v0_4)),
      θ_run (Cert.Decode1Ideal.defs (F := Ideal)) (onTc (τ := Cert.Decode1Ideal.τ) (Cert.Decode1Ideal.main (F := Ideal))) ⟨m, fun _ => 0, g⟩ (fun r => ∀ c : Dev Cert.Decode1Ideal.nD,
          r.2.mem ((c.tc : Thread Cert.Decode1Ideal.nD Cert.Decode1Ideal.τ).loc Cert.Decode1Ideal.main_v0_4) = v0 c
          ∧ r.2.mem ((c.tc : Thread Cert.Decode1Ideal.nD Cert.Decode1Ideal.τ).loc Cert.Decode1Ideal.main_arg0) = m ((c.tc : Thread Cert.Decode1Ideal.nD Cert.Decode1Ideal.τ).loc Cert.Decode1Ideal.main_arg0))
      ∧ θ_run (Cert.Scores1Ideal.defs (F := Ideal)) (onTc (τ := Cert.Scores1Ideal.τ) (Cert.Scores1Ideal.main (F := Ideal))) ⟨m', fun _ => 0, g'⟩ (fun r => ∀ c : Dev Cert.Scores1Ideal.nD,
          r.2.mem ((c.tc : Thread Cert.Scores1Ideal.nD Cert.Scores1Ideal.τ).loc Cert.Scores1Ideal.main_v10) = v0 c
          ∧ r.2.mem ((c.tc : Thread Cert.Scores1Ideal.nD Cert.Scores1Ideal.τ).loc Cert.Scores1Ideal.main_arg0) = m' ((c.tc : Thread Cert.Scores1Ideal.nD Cert.Scores1Ideal.τ).loc Cert.Scores1Ideal.main_arg0))

def preserves_Decode2_Decode2Ideal : Prop :=
  True

def algebraic_Decode2Ideal_Scores2Ideal [hDecode2Ideal : Cert.Decode2Ideal.Facts] [hScores2Ideal : Cert.Scores2Ideal.Facts] : Prop :=
  ∀ (m : (ℓ : Loc Cert.Decode2Ideal.nD Cert.Decode2Ideal.τ Cert.Decode2Ideal.sig) → Buf (Elt Ideal) ℓ) (g : Dev Cert.Decode2Ideal.nD → PrngReg)
    (m' : (ℓ : Loc Cert.Scores2Ideal.nD Cert.Scores2Ideal.τ Cert.Scores2Ideal.sig) → Buf (Elt Ideal) ℓ) (g' : Dev Cert.Scores2Ideal.nD → PrngReg), Pre_Decode2Ideal m →
    (∀ c : Dev Cert.Decode2Ideal.nD,
      m' ((c.tc : Thread Cert.Scores2Ideal.nD Cert.Scores2Ideal.τ).loc Cert.Scores2Ideal.main_arg0) = m ((c.tc : Thread Cert.Decode2Ideal.nD Cert.Decode2Ideal.τ).loc Cert.Decode2Ideal.main_arg0)) →
    ∃ (v0 : (c : Dev Cert.Decode2Ideal.nD) → Buf (Elt Ideal) ((c.tc : Thread Cert.Decode2Ideal.nD Cert.Decode2Ideal.τ).loc Cert.Decode2Ideal.main_v0_4)),
      θ_run (Cert.Decode2Ideal.defs (F := Ideal)) (onTc (τ := Cert.Decode2Ideal.τ) (Cert.Decode2Ideal.main (F := Ideal))) ⟨m, fun _ => 0, g⟩ (fun r => ∀ c : Dev Cert.Decode2Ideal.nD,
          r.2.mem ((c.tc : Thread Cert.Decode2Ideal.nD Cert.Decode2Ideal.τ).loc Cert.Decode2Ideal.main_v0_4) = v0 c
          ∧ r.2.mem ((c.tc : Thread Cert.Decode2Ideal.nD Cert.Decode2Ideal.τ).loc Cert.Decode2Ideal.main_arg0) = m ((c.tc : Thread Cert.Decode2Ideal.nD Cert.Decode2Ideal.τ).loc Cert.Decode2Ideal.main_arg0))
      ∧ θ_run (Cert.Scores2Ideal.defs (F := Ideal)) (onTc (τ := Cert.Scores2Ideal.τ) (Cert.Scores2Ideal.main (F := Ideal))) ⟨m', fun _ => 0, g'⟩ (fun r => ∀ c : Dev Cert.Scores2Ideal.nD,
          r.2.mem ((c.tc : Thread Cert.Scores2Ideal.nD Cert.Scores2Ideal.τ).loc Cert.Scores2Ideal.main_v10) = v0 c
          ∧ r.2.mem ((c.tc : Thread Cert.Scores2Ideal.nD Cert.Scores2Ideal.τ).loc Cert.Scores2Ideal.main_arg0) = m' ((c.tc : Thread Cert.Scores2Ideal.nD Cert.Scores2Ideal.τ).loc Cert.Scores2Ideal.main_arg0))

def Claim : Prop :=
  ∃ (hKernel : Cert.Kernel.Facts) (hKernelIdeal : Cert.KernelIdeal.Facts) (hReferenceIdeal : Cert.ReferenceIdeal.Facts) (hDecode0 : Cert.Decode0.Facts) (hDecode0Ideal : Cert.Decode0Ideal.Facts) (hScores0Ideal : Cert.Scores0Ideal.Facts) (hDecode1 : Cert.Decode1.Facts) (hDecode1Ideal : Cert.Decode1Ideal.Facts) (hScores1Ideal : Cert.Scores1Ideal.Facts) (hDecode2 : Cert.Decode2.Facts) (hDecode2Ideal : Cert.Decode2Ideal.Facts) (hScores2Ideal : Cert.Scores2Ideal.Facts),
    quiescent_Kernel (hKernel := hKernel)
    ∧ quiescent_KernelIdeal (hKernelIdeal := hKernelIdeal)
    ∧ quiescent_ReferenceIdeal (hReferenceIdeal := hReferenceIdeal)
    ∧ quiescent_Decode0 (hDecode0 := hDecode0)
    ∧ quiescent_Decode0Ideal (hDecode0Ideal := hDecode0Ideal)
    ∧ quiescent_Scores0Ideal (hScores0Ideal := hScores0Ideal)
    ∧ quiescent_Decode1 (hDecode1 := hDecode1)
    ∧ quiescent_Decode1Ideal (hDecode1Ideal := hDecode1Ideal)
    ∧ quiescent_Scores1Ideal (hScores1Ideal := hScores1Ideal)
    ∧ quiescent_Decode2 (hDecode2 := hDecode2)
    ∧ quiescent_Decode2Ideal (hDecode2Ideal := hDecode2Ideal)
    ∧ quiescent_Scores2Ideal (hScores2Ideal := hScores2Ideal)
    ∧ preserves_Kernel_KernelIdeal
    ∧ algebraic_KernelIdeal_ReferenceIdeal (hKernelIdeal := hKernelIdeal) (hReferenceIdeal := hReferenceIdeal)
    ∧ preserves_Decode0_Decode0Ideal
    ∧ algebraic_Decode0Ideal_Scores0Ideal (hDecode0Ideal := hDecode0Ideal) (hScores0Ideal := hScores0Ideal)
    ∧ preserves_Decode1_Decode1Ideal
    ∧ algebraic_Decode1Ideal_Scores1Ideal (hDecode1Ideal := hDecode1Ideal) (hScores1Ideal := hScores1Ideal)
    ∧ preserves_Decode2_Decode2Ideal
    ∧ algebraic_Decode2Ideal_Scores2Ideal (hDecode2Ideal := hDecode2Ideal) (hScores2Ideal := hScores2Ideal)
-- ==== Kernel.lean ====
abbrev S4x128x80x80 : Shape := ⟨4, ![4, 128, 80, 80]⟩
abbrev S4x256x40x40 : Shape := ⟨4, ![4, 256, 40, 40]⟩
abbrev S4x512x20x20 : Shape := ⟨4, ![4, 512, 20, 20]⟩
abbrev S4x240x80 : Shape := ⟨3, ![4, 240, 80]⟩
abbrev S4x120x40 : Shape := ⟨3, ![4, 120, 40]⟩
abbrev S4x60x20 : Shape := ⟨3, ![4, 60, 20]⟩
abbrev S4x128x6400 : Shape := ⟨3, ![4, 128, 6400]⟩
abbrev S4x256x1600 : Shape := ⟨3, ![4, 256, 1600]⟩
abbrev S4x512x400 : Shape := ⟨3, ![4, 512, 400]⟩
abbrev S4x32x128 : Shape := ⟨3, ![4, 32, 128]⟩
abbrev S4x32x256 : Shape := ⟨3, ![4, 32, 256]⟩
abbrev S4x32x512 : Shape := ⟨3, ![4, 32, 512]⟩
abbrev S4x3x80x80 : Shape := ⟨4, ![4, 3, 80, 80]⟩
abbrev S4x32 : Shape := ⟨2, ![4, 32]⟩
abbrev S4x60x40 : Shape := ⟨3, ![4, 60, 40]⟩
abbrev S8x120x40 : Shape := ⟨3, ![8, 120, 40]⟩
abbrev S4x3x40x40 : Shape := ⟨4, ![4, 3, 40, 40]⟩
abbrev S4x3x20x20 : Shape := ⟨4, ![4, 3, 20, 20]⟩
abbrev S8x32 : Shape := ⟨2, ![8, 32]⟩
abbrev S4 : Shape := ⟨1, ![4]⟩
abbrev S4x1x1 : Shape := ⟨3, ![4, 1, 1]⟩
abbrev S4x1 : Shape := ⟨2, ![4, 1]⟩
abbrev S8 : Shape := ⟨1, ![8]⟩
abbrev S8x1x1 : Shape := ⟨3, ![8, 1, 1]⟩
abbrev S8x1 : Shape := ⟨2, ![8, 1]⟩
abbrev S12x32 : Shape := ⟨2, ![12, 32]⟩
abbrev S32x6400 : Shape := ⟨2, ![32, 6400]⟩
abbrev S1x32 : Shape := ⟨2, ![1, 32]⟩
abbrev S32 : Shape := ⟨1, ![32]⟩
abbrev S32x1 : Shape := ⟨2, ![32, 1]⟩
abbrev S1x128x6400 : Shape := ⟨3, ![1, 128, 6400]⟩
abbrev S128x6400 : Shape := ⟨2, ![128, 6400]⟩
abbrev S32x128 : Shape := ⟨2, ![32, 128]⟩
abbrev S1x32x128 : Shape := ⟨3, ![1, 32, 128]⟩
abbrev S32x1600 : Shape := ⟨2, ![32, 1600]⟩
abbrev S1x256x1600 : Shape := ⟨3, ![1, 256, 1600]⟩
abbrev S256x1600 : Shape := ⟨2, ![256, 1600]⟩
abbrev S32x256 : Shape := ⟨2, ![32, 256]⟩
abbrev S1x32x256 : Shape := ⟨3, ![1, 32, 256]⟩
abbrev S32x400 : Shape := ⟨2, ![32, 400]⟩
abbrev S1x512x400 : Shape := ⟨3, ![1, 512, 400]⟩
abbrev S512x400 : Shape := ⟨2, ![512, 400]⟩
abbrev S32x512 : Shape := ⟨2, ![32, 512]⟩
abbrev S1x32x512 : Shape := ⟨3, ![1, 32, 512]⟩
abbrev S4x25x128 : Shape := ⟨3, ![4, 25, 128]⟩
abbrev S4x25x256 : Shape := ⟨3, ![4, 25, 256]⟩
abbrev S4x25x512 : Shape := ⟨3, ![4, 25, 512]⟩

abbrev nBuf : Space → Nat
  | .hbm => 27
  | .vmem => 21
  | .smem => 0
  | _ => 0

abbrev bufTy : (tb : Table) → Fin (tcTables nBuf tb) → BufTy
  | .hbm, ⟨0, _⟩ => ⟨S4x128x80x80, .f32⟩
  | .hbm, ⟨1, _⟩ => ⟨S4x256x40x40, .f32⟩
  | .hbm, ⟨2, _⟩ => ⟨S4x512x20x20, .f32⟩
  | .hbm, ⟨3, _⟩ => ⟨S4x240x80, .f32⟩
  | .hbm, ⟨4, _⟩ => ⟨S4x240x80, .f32⟩
  | .hbm, ⟨5, _⟩ => ⟨S4x240x80, .f32⟩
  | .hbm, ⟨6, _⟩ => ⟨S4x240x80, .f32⟩
  | .hbm, ⟨7, _⟩ => ⟨S4x240x80, .f32⟩
  | .hbm, ⟨8, _⟩ => ⟨S4x120x40, .f32⟩
  | .hbm, ⟨9, _⟩ => ⟨S4x120x40, .f32⟩
  | .hbm, ⟨10, _⟩ => ⟨S4x120x40, .f32⟩
  | .hbm, ⟨11, _⟩ => ⟨S4x120x40, .f32⟩
  | .hbm, ⟨12, _⟩ => ⟨S4x120x40, .f32⟩
  | .hbm, ⟨13, _⟩ => ⟨S4x60x20, .f32⟩
  | .hbm, ⟨14, _⟩ => ⟨S4x60x20, .f32⟩
  | .hbm, ⟨15, _⟩ => ⟨S4x60x20, .f32⟩
  | .hbm, ⟨16, _⟩ => ⟨S4x60x20, .f32⟩
  | .hbm, ⟨17, _⟩ => ⟨S4x60x20, .f32⟩
  | .hbm, ⟨18, _⟩ => ⟨S4x128x6400, .f32⟩
  | .hbm, ⟨19, _⟩ => ⟨S4x256x1600, .f32⟩
  | .hbm, ⟨20, _⟩ => ⟨S4x512x400, .f32⟩
  | .hbm, ⟨21, _⟩ => ⟨S4x32x128, .f32⟩
  | .hbm, ⟨22, _⟩ => ⟨S4x32x256, .f32⟩
  | .hbm, ⟨23, _⟩ => ⟨S4x32x512, .f32⟩
  | .hbm, ⟨24, _⟩ => ⟨S4x25x128, .f32⟩
  | .hbm, ⟨25, _⟩ => ⟨S4x25x256, .f32⟩
  | .hbm, ⟨26, _⟩ => ⟨S4x25x512, .f32⟩
  | .local _ .vmem, ⟨0, _⟩ => ⟨S4x240x80, .f32⟩
  | .local _ .vmem, ⟨1, _⟩ => ⟨S4x240x80, .f32⟩
  | .local _ .vmem, ⟨2, _⟩ => ⟨S4x240x80, .f32⟩
  | .local _ .vmem, ⟨3, _⟩ => ⟨S4x240x80, .f32⟩
  | .local _ .vmem, ⟨4, _⟩ => ⟨S4x240x80, .f32⟩
  | .local _ .vmem, ⟨5, _⟩ => ⟨S4x120x40, .f32⟩
  | .local _ .vmem, ⟨6, _⟩ => ⟨S4x120x40, .f32⟩
  | .local _ .vmem, ⟨7, _⟩ => ⟨S4x120x40, .f32⟩
  | .local _ .vmem, ⟨8, _⟩ => ⟨S4x120x40, .f32⟩
  | .local _ .vmem, ⟨9, _⟩ => ⟨S4x120x40, .f32⟩
  | .local _ .vmem, ⟨10, _⟩ => ⟨S4x60x20, .f32⟩
  | .local _ .vmem, ⟨11, _⟩ => ⟨S4x60x20, .f32⟩
  | .local _ .vmem, ⟨12, _⟩ => ⟨S4x60x20, .f32⟩
  | .local _ .vmem, ⟨13, _⟩ => ⟨S4x60x20, .f32⟩
  | .local _ .vmem, ⟨14, _⟩ => ⟨S4x60x20, .f32⟩
  | .local _ .vmem, ⟨15, _⟩ => ⟨S4x128x6400, .f32⟩
  | .local _ .vmem, ⟨16, _⟩ => ⟨S4x256x1600, .f32⟩
  | .local _ .vmem, ⟨17, _⟩ => ⟨S4x512x400, .f32⟩
  | .local _ .vmem, ⟨18, _⟩ => ⟨S4x32x128, .f32⟩
  | .local _ .vmem, ⟨19, _⟩ => ⟨S4x32x256, .f32⟩
  | .local _ .vmem, ⟨20, _⟩ => ⟨S4x32x512, .f32⟩
  | _, _ => ⟨S4x128x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c25_i32 : BitVec 32 := 25#32
  let v88 : BitVec 32 := Scalar.addi c0_i32 c25_i32
  let c1_i32 : BitVec 32 := 1#32
  ⟨c0_i32, v88, c1_i32⟩
abbrev stage0_0 : Fin 1 → Memref sig .tc .vmem S4x240x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x240x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x240x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x240x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x240x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x120x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x120x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x120x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x120x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x120x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x60x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x60x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x60x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x60x20 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x60x20 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x128x6400 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x256x1600 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x512x400 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x32x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x32x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x32x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== ReferenceIdeal.lean ====
abbrev S4x128x80x80 : Shape := ⟨4, ![4, 128, 80, 80]⟩
abbrev S4x256x40x40 : Shape := ⟨4, ![4, 256, 40, 40]⟩
abbrev S4x512x20x20 : Shape := ⟨4, ![4, 512, 20, 20]⟩
abbrev S4x240x80 : Shape := ⟨3, ![4, 240, 80]⟩
abbrev S4x120x40 : Shape := ⟨3, ![4, 120, 40]⟩
abbrev S4x60x20 : Shape := ⟨3, ![4, 60, 20]⟩
abbrev S4x19200 : Shape := ⟨2, ![4, 19200]⟩
abbrev S_ : Shape := ⟨0, ![]⟩
abbrev S4x25 : Shape := ⟨2, ![4, 25]⟩
abbrev S4x4800 : Shape := ⟨2, ![4, 4800]⟩
abbrev S4x1200 : Shape := ⟨2, ![4, 1200]⟩
abbrev S4x1 : Shape := ⟨2, ![4, 1]⟩
abbrev S4 : Shape := ⟨1, ![4]⟩
abbrev S4x2 : Shape := ⟨2, ![4, 2]⟩
abbrev S4x3x80x80 : Shape := ⟨4, ![4, 3, 80, 80]⟩
abbrev S4x80x80x128 : Shape := ⟨4, ![4, 80, 80, 128]⟩
abbrev S4x25x1 : Shape := ⟨3, ![4, 25, 1]⟩
abbrev S4x25x2 : Shape := ⟨3, ![4, 25, 2]⟩
abbrev S4x25x3 : Shape := ⟨3, ![4, 25, 3]⟩
abbrev S4x25x128 : Shape := ⟨3, ![4, 25, 128]⟩
abbrev S4x3x40x40 : Shape := ⟨4, ![4, 3, 40, 40]⟩
abbrev S4x40x40x256 : Shape := ⟨4, ![4, 40, 40, 256]⟩
abbrev S4x25x256 : Shape := ⟨3, ![4, 25, 256]⟩
abbrev S4x3x20x20 : Shape := ⟨4, ![4, 3, 20, 20]⟩
abbrev S4x20x20x512 : Shape := ⟨4, ![4, 20, 20, 512]⟩
abbrev S4x25x512 : Shape := ⟨3, ![4, 25, 512]⟩

abbrev nBuf : Space → Nat
  | .hbm => 424
  | .vmem => 0
  | .smem => 0
  | _ => 0

abbrev hbmTy0_0 (i : Nat) : BufTy := match i % 128 with
  | 0 => ⟨S4x128x80x80, .f32⟩
  | 1 => ⟨S4x256x40x40, .f32⟩
  | 2 => ⟨S4x512x20x20, .f32⟩
  | 3 => ⟨S4x240x80, .f32⟩
  | 4 => ⟨S4x240x80, .f32⟩
  | 5 => ⟨S4x240x80, .f32⟩
  | 6 => ⟨S4x240x80, .f32⟩
  | 7 => ⟨S4x240x80, .f32⟩
  | 8 => ⟨S4x120x40, .f32⟩
  | 9 => ⟨S4x120x40, .f32⟩
  | 10 => ⟨S4x120x40, .f32⟩
  | 11 => ⟨S4x120x40, .f32⟩
  | 12 => ⟨S4x120x40, .f32⟩
  | 13 => ⟨S4x60x20, .f32⟩
  | 14 => ⟨S4x60x20, .f32⟩
  | 15 => ⟨S4x60x20, .f32⟩
  | 16 => ⟨S4x60x20, .f32⟩
  | 17 => ⟨S4x60x20, .f32⟩
  | 18 => ⟨S4x19200, .f32⟩
  | 19 => ⟨S4x19200, .f32⟩
  | 20 => ⟨S4x19200, .f32⟩
  | 21 => ⟨S4x19200, .f32⟩
  | 22 => ⟨S4x19200, .f32⟩
  | 23 => ⟨S4x19200, .f32⟩
  | 24 => ⟨S4x19200, .f32⟩
  | 25 => ⟨S4x19200, .f32⟩
  | 26 => ⟨S4x19200, .i32⟩
  | 27 => ⟨S_, .i32⟩
  | 28 => ⟨S4x25, .i32⟩
  | 29 => ⟨S_, .i1⟩
  | 30 => ⟨S4x25, .i1⟩
  | 31 => ⟨S4x4800, .f32⟩
  | 32 => ⟨S4x4800, .f32⟩
  | 33 => ⟨S4x4800, .f32⟩
  | 34 => ⟨S4x4800, .f32⟩
  | 35 => ⟨S4x4800, .f32⟩
  | 36 => ⟨S4x4800, .f32⟩
  | 37 => ⟨S4x4800, .f32⟩
  | 38 => ⟨S4x4800, .f32⟩
  | 39 => ⟨S4x4800, .i32⟩
  | 40 => ⟨S_, .i32⟩
  | 41 => ⟨S4x25, .i32⟩
  | 42 => ⟨S_, .i1⟩
  | 43 => ⟨S4x25, .i1⟩
  | 44 => ⟨S4x1200, .f32⟩
  | 45 => ⟨S4x1200, .f32⟩
  | 46 => ⟨S4x1200, .f32⟩
  | 47 => ⟨S4x1200, .f32⟩
  | 48 => ⟨S4x1200, .f32⟩
  | 49 => ⟨S4x1200, .f32⟩
  | 50 => ⟨S4x1200, .f32⟩
  | 51 => ⟨S4x1200, .f32⟩
  | 52 => ⟨S4x1200, .i32⟩
  | 53 => ⟨S_, .i32⟩
  | 54 => ⟨S4x25, .i32⟩
  | 55 => ⟨S_, .i1⟩
  | 56 => ⟨S4x25, .i1⟩
  | 57 => ⟨S_, .i32⟩
  | 58 => ⟨S_, .i32⟩
  | 59 => ⟨S4x19200, .f32⟩
  | 60 => ⟨S4x19200, .f32⟩
  | 61 => ⟨S4x19200, .f32⟩
  | 62 => ⟨S4x19200, .f32⟩
  | 63 => ⟨S4x19200, .f32⟩
  | 64 => ⟨S4x19200, .i32⟩
  | 65 => ⟨S4x4800, .f32⟩
  | 66 => ⟨S4x4800, .f32⟩
  | 67 => ⟨S4x4800, .f32⟩
  | 68 => ⟨S4x4800, .f32⟩
  | 69 => ⟨S4x4800, .f32⟩
  | 70 => ⟨S4x4800, .i32⟩
  | 71 => ⟨S4x1200, .f32⟩
  | 72 => ⟨S4x1200, .f32⟩
  | 73 => ⟨S4x1200, .f32⟩
  | 74 => ⟨S4x1200, .f32⟩
  | 75 => ⟨S4x1200, .f32⟩
  | 76 => ⟨S4x1200, .i32⟩
  | 77 => ⟨S_, .i32⟩
  | 78 => ⟨S_, .i32⟩
  | 79 => ⟨S4x19200, .f32⟩
  | 80 => ⟨S4x25, .i32⟩
  | 81 => ⟨S4x25, .i1⟩
  | 82 => ⟨S4x4800, .f32⟩
  | 83 => ⟨S4x25, .i32⟩
  | 84 => ⟨S4x25, .i1⟩
  | 85 => ⟨S4x1200, .f32⟩
  | 86 => ⟨S4x25, .i32⟩
  | 87 => ⟨S4x25, .i1⟩
  | 88 => ⟨S_, .i32⟩
  | 89 => ⟨S_, .i1⟩
  | 90 => ⟨S_, .i32⟩
  | 91 => ⟨S_, .i32⟩
  | 92 => ⟨S4x25, .i32⟩
  | 93 => ⟨S4x1, .f32⟩
  | 94 => ⟨S4x1, .i32⟩
  | 95 => ⟨S4, .f32⟩
  | 96 => ⟨S4, .i32⟩
  | 97 => ⟨S_, .i32⟩
  | 98 => ⟨S4x25, .i32⟩
  | 99 => ⟨S4x25, .i1⟩
  | 100 => ⟨S4x1, .i32⟩
  | 101 => ⟨S4x25, .i32⟩
  | 102 => ⟨S4x25, .i32⟩
  | 103 => ⟨S_, .i32⟩
  | 104 => ⟨S4x25, .i32⟩
  | 105 => ⟨S4x25, .i1⟩
  | 106 => ⟨S_, .f32⟩
  | 107 => ⟨S4, .f32⟩
  | 108 => ⟨S4, .i1⟩
  | 109 => ⟨S4x1, .i1⟩
  | 110 => ⟨S4x25, .i1⟩
  | 111 => ⟨S4x25, .i1⟩
  | 112 => ⟨S4, .i32⟩
  | 113 => ⟨S4x1, .i32⟩
  | 114 => ⟨S4x1, .i32⟩
  | 115 => ⟨S4x2, .i32⟩
  | 116 => ⟨S4, .f32⟩
  | 117 => ⟨S4x1, .f32⟩
  | 118 => ⟨S4x19200, .f32⟩
  | 119 => ⟨S4x19200, .f32⟩
  | 120 => ⟨S4, .i32⟩
  | 121 => ⟨S4x1, .i32⟩
  | 122 => ⟨S4x1, .i32⟩
  | 123 => ⟨S4x2, .i32⟩
  | 124 => ⟨S4, .f32⟩
  | 125 => ⟨S4x1, .f32⟩
  | 126 => ⟨S4x19200, .f32⟩
  | 127 => ⟨S4x19200, .f32⟩
  | _ => ⟨S4x128x80x80, .f32⟩

abbrev hbmTy0_1 (i : Nat) : BufTy := match i % 128 with
  | 0 => ⟨S4x19200, .f32⟩
  | 1 => ⟨S_, .f32⟩
  | 2 => ⟨S4x19200, .f32⟩
  | 3 => ⟨S4x19200, .f32⟩
  | 4 => ⟨S4, .i32⟩
  | 5 => ⟨S4x1, .i32⟩
  | 6 => ⟨S4x1, .i32⟩
  | 7 => ⟨S4x2, .i32⟩
  | 8 => ⟨S4, .f32⟩
  | 9 => ⟨S4x1, .f32⟩
  | 10 => ⟨S4x19200, .f32⟩
  | 11 => ⟨S4x19200, .f32⟩
  | 12 => ⟨S4, .i32⟩
  | 13 => ⟨S4x1, .i32⟩
  | 14 => ⟨S4x1, .i32⟩
  | 15 => ⟨S4x2, .i32⟩
  | 16 => ⟨S4, .f32⟩
  | 17 => ⟨S4x1, .f32⟩
  | 18 => ⟨S4x19200, .f32⟩
  | 19 => ⟨S4x19200, .f32⟩
  | 20 => ⟨S4x19200, .f32⟩
  | 21 => ⟨S_, .f32⟩
  | 22 => ⟨S4x19200, .f32⟩
  | 23 => ⟨S4x19200, .f32⟩
  | 24 => ⟨S4x19200, .f32⟩
  | 25 => ⟨S4, .i32⟩
  | 26 => ⟨S4x1, .i32⟩
  | 27 => ⟨S4x1, .i32⟩
  | 28 => ⟨S4x2, .i32⟩
  | 29 => ⟨S4, .f32⟩
  | 30 => ⟨S4x1, .f32⟩
  | 31 => ⟨S4x19200, .f32⟩
  | 32 => ⟨S4x19200, .f32⟩
  | 33 => ⟨S4x19200, .f32⟩
  | 34 => ⟨S4x19200, .f32⟩
  | 35 => ⟨S_, .f32⟩
  | 36 => ⟨S4x19200, .f32⟩
  | 37 => ⟨S4x19200, .i1⟩
  | 38 => ⟨S_, .f32⟩
  | 39 => ⟨S4x19200, .f32⟩
  | 40 => ⟨S4x19200, .f32⟩
  | 41 => ⟨S4x1, .i32⟩
  | 42 => ⟨S4x19200, .i32⟩
  | 43 => ⟨S4x19200, .i1⟩
  | 44 => ⟨S_, .f32⟩
  | 45 => ⟨S4x19200, .f32⟩
  | 46 => ⟨S4x19200, .f32⟩
  | 47 => ⟨S4x25, .i32⟩
  | 48 => ⟨S4x1, .f32⟩
  | 49 => ⟨S4x1, .i32⟩
  | 50 => ⟨S4, .f32⟩
  | 51 => ⟨S4, .i32⟩
  | 52 => ⟨S_, .i32⟩
  | 53 => ⟨S4x25, .i32⟩
  | 54 => ⟨S4x25, .i1⟩
  | 55 => ⟨S4x1, .i32⟩
  | 56 => ⟨S4x25, .i32⟩
  | 57 => ⟨S4x25, .i32⟩
  | 58 => ⟨S_, .i32⟩
  | 59 => ⟨S4x25, .i32⟩
  | 60 => ⟨S4x25, .i1⟩
  | 61 => ⟨S_, .f32⟩
  | 62 => ⟨S4, .f32⟩
  | 63 => ⟨S4, .i1⟩
  | 64 => ⟨S4x1, .i1⟩
  | 65 => ⟨S4x25, .i1⟩
  | 66 => ⟨S4x25, .i1⟩
  | 67 => ⟨S4, .i32⟩
  | 68 => ⟨S4x1, .i32⟩
  | 69 => ⟨S4x1, .i32⟩
  | 70 => ⟨S4x2, .i32⟩
  | 71 => ⟨S4, .f32⟩
  | 72 => ⟨S4x1, .f32⟩
  | 73 => ⟨S4x4800, .f32⟩
  | 74 => ⟨S4x4800, .f32⟩
  | 75 => ⟨S4, .i32⟩
  | 76 => ⟨S4x1, .i32⟩
  | 77 => ⟨S4x1, .i32⟩
  | 78 => ⟨S4x2, .i32⟩
  | 79 => ⟨S4, .f32⟩
  | 80 => ⟨S4x1, .f32⟩
  | 81 => ⟨S4x4800, .f32⟩
  | 82 => ⟨S4x4800, .f32⟩
  | 83 => ⟨S4x4800, .f32⟩
  | 84 => ⟨S_, .f32⟩
  | 85 => ⟨S4x4800, .f32⟩
  | 86 => ⟨S4x4800, .f32⟩
  | 87 => ⟨S4, .i32⟩
  | 88 => ⟨S4x1, .i32⟩
  | 89 => ⟨S4x1, .i32⟩
  | 90 => ⟨S4x2, .i32⟩
  | 91 => ⟨S4, .f32⟩
  | 92 => ⟨S4x1, .f32⟩
  | 93 => ⟨S4x4800, .f32⟩
  | 94 => ⟨S4x4800, .f32⟩
  | 95 => ⟨S4, .i32⟩
  | 96 => ⟨S4x1, .i32⟩
  | 97 => ⟨S4x1, .i32⟩
  | 98 => ⟨S4x2, .i32⟩
  | 99 => ⟨S4, .f32⟩
  | 100 => ⟨S4x1, .f32⟩
  | 101 => ⟨S4x4800, .f32⟩
  | 102 => ⟨S4x4800, .f32⟩
  | 103 => ⟨S4x4800, .f32⟩
  | 104 => ⟨S_, .f32⟩
  | 105 => ⟨S4x4800, .f32⟩
  | 106 => ⟨S4x4800, .f32⟩
  | 107 => ⟨S4x4800, .f32⟩
  | 108 => ⟨S4, .i32⟩
  | 109 => ⟨S4x1, .i32⟩
  | 110 => ⟨S4x1, .i32⟩
  | 111 => ⟨S4x2, .i32⟩
  | 112 => ⟨S4, .f32⟩
  | 113 => ⟨S4x1, .f32⟩
  | 114 => ⟨S4x4800, .f32⟩
  | 115 => ⟨S4x4800, .f32⟩
  | 116 => ⟨S4x4800, .f32⟩
  | 117 => ⟨S4x4800, .f32⟩
  | 118 => ⟨S_, .f32⟩
  | 119 => ⟨S4x4800, .f32⟩
  | 120 => ⟨S4x4800, .i1⟩
  | 121 => ⟨S_, .f32⟩
  | 122 => ⟨S4x4800, .f32⟩
  | 123 => ⟨S4x4800, .f32⟩
  | 124 => ⟨S4x1, .i32⟩
  | 125 => ⟨S4x4800, .i32⟩
  | 126 => ⟨S4x4800, .i1⟩
  | 127 => ⟨S_, .f32⟩
  | _ => ⟨S4x128x80x80, .f32⟩

abbrev hbmTy0_2 (i : Nat) : BufTy := match i % 128 with
  | 0 => ⟨S4x4800, .f32⟩
  | 1 => ⟨S4x4800, .f32⟩
  | 2 => ⟨S4x25, .i32⟩
  | 3 => ⟨S4x1, .f32⟩
  | 4 => ⟨S4x1, .i32⟩
  | 5 => ⟨S4, .f32⟩
  | 6 => ⟨S4, .i32⟩
  | 7 => ⟨S_, .i32⟩
  | 8 => ⟨S4x25, .i32⟩
  | 9 => ⟨S4x25, .i1⟩
  | 10 => ⟨S4x1, .i32⟩
  | 11 => ⟨S4x25, .i32⟩
  | 12 => ⟨S4x25, .i32⟩
  | 13 => ⟨S_, .i32⟩
  | 14 => ⟨S4x25, .i32⟩
  | 15 => ⟨S4x25, .i1⟩
  | 16 => ⟨S_, .f32⟩
  | 17 => ⟨S4, .f32⟩
  | 18 => ⟨S4, .i1⟩
  | 19 => ⟨S4x1, .i1⟩
  | 20 => ⟨S4x25, .i1⟩
  | 21 => ⟨S4x25, .i1⟩
  | 22 => ⟨S4, .i32⟩
  | 23 => ⟨S4x1, .i32⟩
  | 24 => ⟨S4x1, .i32⟩
  | 25 => ⟨S4x2, .i32⟩
  | 26 => ⟨S4, .f32⟩
  | 27 => ⟨S4x1, .f32⟩
  | 28 => ⟨S4x1200, .f32⟩
  | 29 => ⟨S4x1200, .f32⟩
  | 30 => ⟨S4, .i32⟩
  | 31 => ⟨S4x1, .i32⟩
  | 32 => ⟨S4x1, .i32⟩
  | 33 => ⟨S4x2, .i32⟩
  | 34 => ⟨S4, .f32⟩
  | 35 => ⟨S4x1, .f32⟩
  | 36 => ⟨S4x1200, .f32⟩
  | 37 => ⟨S4x1200, .f32⟩
  | 38 => ⟨S4x1200, .f32⟩
  | 39 => ⟨S_, .f32⟩
  | 40 => ⟨S4x1200, .f32⟩
  | 41 => ⟨S4x1200, .f32⟩
  | 42 => ⟨S4, .i32⟩
  | 43 => ⟨S4x1, .i32⟩
  | 44 => ⟨S4x1, .i32⟩
  | 45 => ⟨S4x2, .i32⟩
  | 46 => ⟨S4, .f32⟩
  | 47 => ⟨S4x1, .f32⟩
  | 48 => ⟨S4x1200, .f32⟩
  | 49 => ⟨S4x1200, .f32⟩
  | 50 => ⟨S4, .i32⟩
  | 51 => ⟨S4x1, .i32⟩
  | 52 => ⟨S4x1, .i32⟩
  | 53 => ⟨S4x2, .i32⟩
  | 54 => ⟨S4, .f32⟩
  | 55 => ⟨S4x1, .f32⟩
  | 56 => ⟨S4x1200, .f32⟩
  | 57 => ⟨S4x1200, .f32⟩
  | 58 => ⟨S4x1200, .f32⟩
  | 59 => ⟨S_, .f32⟩
  | 60 => ⟨S4x1200, .f32⟩
  | 61 => ⟨S4x1200, .f32⟩
  | 62 => ⟨S4x1200, .f32⟩
  | 63 => ⟨S4, .i32⟩
  | 64 => ⟨S4x1, .i32⟩
  | 65 => ⟨S4x1, .i32⟩
  | 66 => ⟨S4x2, .i32⟩
  | 67 => ⟨S4, .f32⟩
  | 68 => ⟨S4x1, .f32⟩
  | 69 => ⟨S4x1200, .f32⟩
  | 70 => ⟨S4x1200, .f32⟩
  | 71 => ⟨S4x1200, .f32⟩
  | 72 => ⟨S4x1200, .f32⟩
  | 73 => ⟨S_, .f32⟩
  | 74 => ⟨S4x1200, .f32⟩
  | 75 => ⟨S4x1200, .i1⟩
  | 76 => ⟨S_, .f32⟩
  | 77 => ⟨S4x1200, .f32⟩
  | 78 => ⟨S4x1200, .f32⟩
  | 79 => ⟨S4x1, .i32⟩
  | 80 => ⟨S4x1200, .i32⟩
  | 81 => ⟨S4x1200, .i1⟩
  | 82 => ⟨S_, .f32⟩
  | 83 => ⟨S4x1200, .f32⟩
  | 84 => ⟨S4x1200, .f32⟩
  | 85 => ⟨S_, .i32⟩
  | 86 => ⟨S_, .i32⟩
  | 87 => ⟨S4x3x80x80, .i32⟩
  | 88 => ⟨S4x19200, .i32⟩
  | 89 => ⟨S4x3x80x80, .i32⟩
  | 90 => ⟨S4x19200, .i32⟩
  | 91 => ⟨S4x80x80x128, .f32⟩
  | 92 => ⟨S4x25, .i32⟩
  | 93 => ⟨S4x25, .i32⟩
  | 94 => ⟨S4x25x1, .i32⟩
  | 95 => ⟨S4x25x1, .i32⟩
  | 96 => ⟨S4x25x2, .i32⟩
  | 97 => ⟨S4x25, .i32⟩
  | 98 => ⟨S4x25, .i32⟩
  | 99 => ⟨S4x25x1, .i32⟩
  | 100 => ⟨S4x25x1, .i32⟩
  | 101 => ⟨S4x25x2, .i32⟩
  | 102 => ⟨S4x25, .i32⟩
  | 103 => ⟨S4x25x1, .i32⟩
  | 104 => ⟨S4x25x1, .i32⟩
  | 105 => ⟨S4x25x1, .i32⟩
  | 106 => ⟨S4x25x3, .i32⟩
  | 107 => ⟨S4x25x128, .f32⟩
  | 108 => ⟨S4x25x1, .i1⟩
  | 109 => ⟨S_, .f32⟩
  | 110 => ⟨S_, .f32⟩
  | 111 => ⟨S4x25x128, .i1⟩
  | 112 => ⟨S4x25x128, .f32⟩
  | 113 => ⟨S4x25x128, .f32⟩
  | 114 => ⟨S4x3x40x40, .i32⟩
  | 115 => ⟨S4x4800, .i32⟩
  | 116 => ⟨S4x3x40x40, .i32⟩
  | 117 => ⟨S4x4800, .i32⟩
  | 118 => ⟨S4x40x40x256, .f32⟩
  | 119 => ⟨S4x25, .i32⟩
  | 120 => ⟨S4x25, .i32⟩
  | 121 => ⟨S4x25x1, .i32⟩
  | 122 => ⟨S4x25x1, .i32⟩
  | 123 => ⟨S4x25x2, .i32⟩
  | 124 => ⟨S4x25, .i32⟩
  | 125 => ⟨S4x25, .i32⟩
  | 126 => ⟨S4x25x1, .i32⟩
  | 127 => ⟨S4x25x1, .i32⟩
  | _ => ⟨S4x128x80x80, .f32⟩

abbrev hbmTy0_3 (i : Nat) : BufTy := match i % 128 with
  | 0 => ⟨S4x25x2, .i32⟩
  | 1 => ⟨S4x25, .i32⟩
  | 2 => ⟨S4x25x1, .i32⟩
  | 3 => ⟨S4x25x1, .i32⟩
  | 4 => ⟨S4x25x1, .i32⟩
  | 5 => ⟨S4x25x3, .i32⟩
  | 6 => ⟨S4x25x256, .f32⟩
  | 7 => ⟨S4x25x1, .i1⟩
  | 8 => ⟨S_, .f32⟩
  | 9 => ⟨S_, .f32⟩
  | 10 => ⟨S4x25x256, .i1⟩
  | 11 => ⟨S4x25x256, .f32⟩
  | 12 => ⟨S4x25x256, .f32⟩
  | 13 => ⟨S4x3x20x20, .i32⟩
  | 14 => ⟨S4x1200, .i32⟩
  | 15 => ⟨S4x3x20x20, .i32⟩
  | 16 => ⟨S4x1200, .i32⟩
  | 17 => ⟨S4x20x20x512, .f32⟩
  | 18 => ⟨S4x25, .i32⟩
  | 19 => ⟨S4x25, .i32⟩
  | 20 => ⟨S4x25x1, .i32⟩
  | 21 => ⟨S4x25x1, .i32⟩
  | 22 => ⟨S4x25x2, .i32⟩
  | 23 => ⟨S4x25, .i32⟩
  | 24 => ⟨S4x25, .i32⟩
  | 25 => ⟨S4x25x1, .i32⟩
  | 26 => ⟨S4x25x1, .i32⟩
  | 27 => ⟨S4x25x2, .i32⟩
  | 28 => ⟨S4x25, .i32⟩
  | 29 => ⟨S4x25x1, .i32⟩
  | 30 => ⟨S4x25x1, .i32⟩
  | 31 => ⟨S4x25x1, .i32⟩
  | 32 => ⟨S4x25x3, .i32⟩
  | 33 => ⟨S4x25x512, .f32⟩
  | 34 => ⟨S4x25x1, .i1⟩
  | 35 => ⟨S_, .f32⟩
  | 36 => ⟨S_, .f32⟩
  | 37 => ⟨S4x25x512, .i1⟩
  | 38 => ⟨S4x25x512, .f32⟩
  | 39 => ⟨S4x25x512, .f32⟩
  | _ => ⟨S4x128x80x80, .f32⟩

abbrev hbmTy (i : Nat) : BufTy := match i / 128 with
  | 0 => hbmTy0_0 i
  | 1 => hbmTy0_1 i
  | 2 => hbmTy0_2 i
  | 3 => hbmTy0_3 i
  | _ => ⟨S4x128x80x80, .f32⟩

abbrev bufTy : (tb : Table) → Fin (tcTables nBuf tb) → BufTy
  | .hbm, ⟨i, _⟩ => hbmTy i
  | _, _ => ⟨S4x128x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_1 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_3 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_c_5 : Ref sig .tc := ⟨.hbm, 57, rfl⟩
abbrev main_c_6 : Ref sig .tc := ⟨.hbm, 58, rfl⟩
abbrev main_v33_0 : Ref sig .tc := ⟨.hbm, 59, rfl⟩
abbrev main_v33_1 : Ref sig .tc := ⟨.hbm, 60, rfl⟩
abbrev main_v33_2 : Ref sig .tc := ⟨.hbm, 61, rfl⟩
abbrev main_v33_3 : Ref sig .tc := ⟨.hbm, 62, rfl⟩
abbrev main_v33_4 : Ref sig .tc := ⟨.hbm, 63, rfl⟩
abbrev main_v33_5 : Ref sig .tc := ⟨.hbm, 64, rfl⟩
abbrev main_v33_6 : Ref sig .tc := ⟨.hbm, 65, rfl⟩
abbrev main_v33_7 : Ref sig .tc := ⟨.hbm, 66, rfl⟩
abbrev main_v33_8 : Ref sig .tc := ⟨.hbm, 67, rfl⟩
abbrev main_v33_9 : Ref sig .tc := ⟨.hbm, 68, rfl⟩
abbrev main_v33_10 : Ref sig .tc := ⟨.hbm, 69, rfl⟩
abbrev main_v33_11 : Ref sig .tc := ⟨.hbm, 70, rfl⟩
abbrev main_v33_12 : Ref sig .tc := ⟨.hbm, 71, rfl⟩
abbrev main_v33_13 : Ref sig .tc := ⟨.hbm, 72, rfl⟩
abbrev main_v33_14 : Ref sig .tc := ⟨.hbm, 73, rfl⟩
abbrev main_v33_15 : Ref sig .tc := ⟨.hbm, 74, rfl⟩
abbrev main_v33_16 : Ref sig .tc := ⟨.hbm, 75, rfl⟩
abbrev main_v33_17 : Ref sig .tc := ⟨.hbm, 76, rfl⟩
abbrev main_v33_18 : Ref sig .tc := ⟨.hbm, 77, rfl⟩
abbrev main_v33_19 : Ref sig .tc := ⟨.hbm, 78, rfl⟩
abbrev main_v33_20 : Ref sig .tc := ⟨.hbm, 79, rfl⟩
abbrev main_v33_21 : Ref sig .tc := ⟨.hbm, 80, rfl⟩
abbrev main_v33_22 : Ref sig .tc := ⟨.hbm, 81, rfl⟩
abbrev main_v33_23 : Ref sig .tc := ⟨.hbm, 82, rfl⟩
abbrev main_v33_24 : Ref sig .tc := ⟨.hbm, 83, rfl⟩
abbrev main_v33_25 : Ref sig .tc := ⟨.hbm, 84, rfl⟩
abbrev main_v33_26 : Ref sig .tc := ⟨.hbm, 85, rfl⟩
abbrev main_v33_27 : Ref sig .tc := ⟨.hbm, 86, rfl⟩
abbrev main_v33_28 : Ref sig .tc := ⟨.hbm, 87, rfl⟩
abbrev main_while0c_c_37 : Ref sig .tc := ⟨.hbm, 88, rfl⟩
abbrev main_while0c_v103 : Ref sig .tc := ⟨.hbm, 89, rfl⟩
abbrev main_while0b_c_37 : Ref sig .tc := ⟨.hbm, 90, rfl⟩
abbrev main_while0b_v103 : Ref sig .tc := ⟨.hbm, 91, rfl⟩
abbrev main_while0b_v104 : Ref sig .tc := ⟨.hbm, 92, rfl⟩
abbrev main_while0b_values : Ref sig .tc := ⟨.hbm, 93, rfl⟩
abbrev main_while0b_indices : Ref sig .tc := ⟨.hbm, 94, rfl⟩
abbrev main_while0b_v105 : Ref sig .tc := ⟨.hbm, 95, rfl⟩
abbrev main_while0b_v106 : Ref sig .tc := ⟨.hbm, 96, rfl⟩
abbrev main_while0b_v107 : Ref sig .tc := ⟨.hbm, 97, rfl⟩
abbrev main_while0b_v108 : Ref sig .tc := ⟨.hbm, 98, rfl⟩
abbrev main_while0b_v109 : Ref sig .tc := ⟨.hbm, 99, rfl⟩
abbrev main_while0b_v110 : Ref sig .tc := ⟨.hbm, 100, rfl⟩
abbrev main_while0b_call0_v0 : Ref sig .tc := ⟨.hbm, 101, rfl⟩
abbrev main_while0b_v111 : Ref sig .tc := ⟨.hbm, 102, rfl⟩
abbrev main_while0b_v112 : Ref sig .tc := ⟨.hbm, 103, rfl⟩
abbrev main_while0b_v113 : Ref sig .tc := ⟨.hbm, 104, rfl⟩
abbrev main_while0b_v114 : Ref sig .tc := ⟨.hbm, 105, rfl⟩
abbrev main_while0b_cst_38 : Ref sig .tc := ⟨.hbm, 106, rfl⟩
abbrev main_while0b_v115 : Ref sig .tc := ⟨.hbm, 107, rfl⟩
abbrev main_while0b_v116 : Ref sig .tc := ⟨.hbm, 108, rfl⟩
abbrev main_while0b_v117 : Ref sig .tc := ⟨.hbm, 109, rfl⟩
abbrev main_while0b_call1_v0 : Ref sig .tc := ⟨.hbm, 110, rfl⟩
abbrev main_while0b_v118 : Ref sig .tc := ⟨.hbm, 111, rfl⟩
abbrev main_while0b_v119 : Ref sig .tc := ⟨.hbm, 112, rfl⟩
abbrev main_while0b_v120 : Ref sig .tc := ⟨.hbm, 113, rfl⟩
abbrev main_while0b_v121 : Ref sig .tc := ⟨.hbm, 114, rfl⟩
abbrev main_while0b_v122 : Ref sig .tc := ⟨.hbm, 115, rfl⟩
abbrev main_while0b_v123 : Ref sig .tc := ⟨.hbm, 116, rfl⟩
abbrev main_while0b_v124 : Ref sig .tc := ⟨.hbm, 117, rfl⟩
abbrev main_while0b_v125 : Ref sig .tc := ⟨.hbm, 118, rfl⟩
abbrev main_while0b_v126 : Ref sig .tc := ⟨.hbm, 119, rfl⟩
abbrev main_while0b_v127 : Ref sig .tc := ⟨.hbm, 120, rfl⟩
abbrev main_while0b_v128 : Ref sig .tc := ⟨.hbm, 121, rfl⟩
abbrev main_while0b_v129 : Ref sig .tc := ⟨.hbm, 122, rfl⟩
abbrev main_while0b_v130 : Ref sig .tc := ⟨.hbm, 123, rfl⟩
abbrev main_while0b_v131 : Ref sig .tc := ⟨.hbm, 124, rfl⟩
abbrev main_while0b_v132 : Ref sig .tc := ⟨.hbm, 125, rfl⟩
abbrev main_while0b_v133 : Ref sig .tc := ⟨.hbm, 126, rfl⟩
abbrev main_while0b_v134 : Ref sig .tc := ⟨.hbm, 127, rfl⟩
abbrev main_while0b_v135 : Ref sig .tc := ⟨.hbm, 128, rfl⟩
abbrev main_while0b_cst_39 : Ref sig .tc := ⟨.hbm, 129, rfl⟩
abbrev main_while0b_v136 : Ref sig .tc := ⟨.hbm, 130, rfl⟩
abbrev main_while0b_v137 : Ref sig .tc := ⟨.hbm, 131, rfl⟩
abbrev main_while0b_v138 : Ref sig .tc := ⟨.hbm, 132, rfl⟩
abbrev main_while0b_v139 : Ref sig .tc := ⟨.hbm, 133, rfl⟩
abbrev main_while0b_v140 : Ref sig .tc := ⟨.hbm, 134, rfl⟩
abbrev main_while0b_v141 : Ref sig .tc := ⟨.hbm, 135, rfl⟩
abbrev main_while0b_v142 : Ref sig .tc := ⟨.hbm, 136, rfl⟩
abbrev main_while0b_v143 : Ref sig .tc := ⟨.hbm, 137, rfl⟩
abbrev main_while0b_v144 : Ref sig .tc := ⟨.hbm, 138, rfl⟩
abbrev main_while0b_v145 : Ref sig .tc := ⟨.hbm, 139, rfl⟩
abbrev main_while0b_v146 : Ref sig .tc := ⟨.hbm, 140, rfl⟩
abbrev main_while0b_v147 : Ref sig .tc := ⟨.hbm, 141, rfl⟩
abbrev main_while0b_v148 : Ref sig .tc := ⟨.hbm, 142, rfl⟩
abbrev main_while0b_v149 : Ref sig .tc := ⟨.hbm, 143, rfl⟩
abbrev main_while0b_v150 : Ref sig .tc := ⟨.hbm, 144, rfl⟩
abbrev main_while0b_v151 : Ref sig .tc := ⟨.hbm, 145, rfl⟩
abbrev main_while0b_v152 : Ref sig .tc := ⟨.hbm, 146, rfl⟩
abbrev main_while0b_v153 : Ref sig .tc := ⟨.hbm, 147, rfl⟩
abbrev main_while0b_v154 : Ref sig .tc := ⟨.hbm, 148, rfl⟩
abbrev main_while0b_cst_40 : Ref sig .tc := ⟨.hbm, 149, rfl⟩
abbrev main_while0b_v155 : Ref sig .tc := ⟨.hbm, 150, rfl⟩
abbrev main_while0b_v156 : Ref sig .tc := ⟨.hbm, 151, rfl⟩
abbrev main_while0b_v157 : Ref sig .tc := ⟨.hbm, 152, rfl⟩
abbrev main_while0b_v158 : Ref sig .tc := ⟨.hbm, 153, rfl⟩
abbrev main_while0b_v159 : Ref sig .tc := ⟨.hbm, 154, rfl⟩
abbrev main_while0b_v160 : Ref sig .tc := ⟨.hbm, 155, rfl⟩
abbrev main_while0b_v161 : Ref sig .tc := ⟨.hbm, 156, rfl⟩
abbrev main_while0b_v162 : Ref sig .tc := ⟨.hbm, 157, rfl⟩
abbrev main_while0b_v163 : Ref sig .tc := ⟨.hbm, 158, rfl⟩
abbrev main_while0b_v164 : Ref sig .tc := ⟨.hbm, 159, rfl⟩
abbrev main_while0b_v165 : Ref sig .tc := ⟨.hbm, 160, rfl⟩
abbrev main_while0b_v166 : Ref sig .tc := ⟨.hbm, 161, rfl⟩
abbrev main_while0b_v167 : Ref sig .tc := ⟨.hbm, 162, rfl⟩
abbrev main_while0b_cst_41 : Ref sig .tc := ⟨.hbm, 163, rfl⟩
abbrev main_while0b_v168 : Ref sig .tc := ⟨.hbm, 164, rfl⟩
abbrev main_while0b_v169 : Ref sig .tc := ⟨.hbm, 165, rfl⟩
abbrev main_while0b_cst_42 : Ref sig .tc := ⟨.hbm, 166, rfl⟩
abbrev main_while0b_call2_v0 : Ref sig .tc := ⟨.hbm, 167, rfl⟩
abbrev main_while0b_v170 : Ref sig .tc := ⟨.hbm, 168, rfl⟩
abbrev main_while0b_v171 : Ref sig .tc := ⟨.hbm, 169, rfl⟩
abbrev main_while0b_v172 : Ref sig .tc := ⟨.hbm, 170, rfl⟩
abbrev main_while0b_v173 : Ref sig .tc := ⟨.hbm, 171, rfl⟩
abbrev main_while0b_cst_43 : Ref sig .tc := ⟨.hbm, 172, rfl⟩
abbrev main_while0b_call3_v0 : Ref sig .tc := ⟨.hbm, 173, rfl⟩
abbrev main_while0b_v174 : Ref sig .tc := ⟨.hbm, 174, rfl⟩
abbrev main_while0b_v175 : Ref sig .tc := ⟨.hbm, 175, rfl⟩
abbrev main_while0b_values_44 : Ref sig .tc := ⟨.hbm, 176, rfl⟩
abbrev main_while0b_indices_45 : Ref sig .tc := ⟨.hbm, 177, rfl⟩
abbrev main_while0b_v176 : Ref sig .tc := ⟨.hbm, 178, rfl⟩
abbrev main_while0b_v177 : Ref sig .tc := ⟨.hbm, 179, rfl⟩
abbrev main_while0b_v178 : Ref sig .tc := ⟨.hbm, 180, rfl⟩
abbrev main_while0b_v179 : Ref sig .tc := ⟨.hbm, 181, rfl⟩
abbrev main_while0b_v180 : Ref sig .tc := ⟨.hbm, 182, rfl⟩
abbrev main_while0b_v181 : Ref sig .tc := ⟨.hbm, 183, rfl⟩
abbrev main_while0b_call4_v0 : Ref sig .tc := ⟨.hbm, 184, rfl⟩
abbrev main_while0b_v182 : Ref sig .tc := ⟨.hbm, 185, rfl⟩
abbrev main_while0b_v183 : Ref sig .tc := ⟨.hbm, 186, rfl⟩
abbrev main_while0b_v184 : Ref sig .tc := ⟨.hbm, 187, rfl⟩
abbrev main_while0b_v185 : Ref sig .tc := ⟨.hbm, 188, rfl⟩
abbrev main_while0b_cst_46 : Ref sig .tc := ⟨.hbm, 189, rfl⟩
abbrev main_while0b_v186 : Ref sig .tc := ⟨.hbm, 190, rfl⟩
abbrev main_while0b_v187 : Ref sig .tc := ⟨.hbm, 191, rfl⟩
abbrev main_while0b_v188 : Ref sig .tc := ⟨.hbm, 192, rfl⟩
abbrev main_while0b_call5_v0 : Ref sig .tc := ⟨.hbm, 193, rfl⟩
abbrev main_while0b_v189 : Ref sig .tc := ⟨.hbm, 194, rfl⟩
abbrev main_while0b_v190 : Ref sig .tc := ⟨.hbm, 195, rfl⟩
abbrev main_while0b_v191 : Ref sig .tc := ⟨.hbm, 196, rfl⟩
abbrev main_while0b_v192 : Ref sig .tc := ⟨.hbm, 197, rfl⟩
abbrev main_while0b_v193 : Ref sig .tc := ⟨.hbm, 198, rfl⟩
abbrev main_while0b_v194 : Ref sig .tc := ⟨.hbm, 199, rfl⟩
abbrev main_while0b_v195 : Ref sig .tc := ⟨.hbm, 200, rfl⟩
abbrev main_while0b_v196 : Ref sig .tc := ⟨.hbm, 201, rfl⟩
abbrev main_while0b_v197 : Ref sig .tc := ⟨.hbm, 202, rfl⟩
abbrev main_while0b_v198 : Ref sig .tc := ⟨.hbm, 203, rfl⟩
abbrev main_while0b_v199 : Ref sig .tc := ⟨.hbm, 204, rfl⟩
abbrev main_while0b_v200 : Ref sig .tc := ⟨.hbm, 205, rfl⟩
abbrev main_while0b_v201 : Ref sig .tc := ⟨.hbm, 206, rfl⟩
abbrev main_while0b_v202 : Ref sig .tc := ⟨.hbm, 207, rfl⟩
abbrev main_while0b_v203 : Ref sig .tc := ⟨.hbm, 208, rfl⟩
abbrev main_while0b_v204 : Ref sig .tc := ⟨.hbm, 209, rfl⟩
abbrev main_while0b_v205 : Ref sig .tc := ⟨.hbm, 210, rfl⟩
abbrev main_while0b_v206 : Ref sig .tc := ⟨.hbm, 211, rfl⟩
abbrev main_while0b_cst_47 : Ref sig .tc := ⟨.hbm, 212, rfl⟩
abbrev main_while0b_v207 : Ref sig .tc := ⟨.hbm, 213, rfl⟩
abbrev main_while0b_v208 : Ref sig .tc := ⟨.hbm, 214, rfl⟩
abbrev main_while0b_v209 : Ref sig .tc := ⟨.hbm, 215, rfl⟩
abbrev main_while0b_v210 : Ref sig .tc := ⟨.hbm, 216, rfl⟩
abbrev main_while0b_v211 : Ref sig .tc := ⟨.hbm, 217, rfl⟩
abbrev main_while0b_v212 : Ref sig .tc := ⟨.hbm, 218, rfl⟩
abbrev main_while0b_v213 : Ref sig .tc := ⟨.hbm, 219, rfl⟩
abbrev main_while0b_v214 : Ref sig .tc := ⟨.hbm, 220, rfl⟩
abbrev main_while0b_v215 : Ref sig .tc := ⟨.hbm, 221, rfl⟩
abbrev main_while0b_v216 : Ref sig .tc := ⟨.hbm, 222, rfl⟩
abbrev main_while0b_v217 : Ref sig .tc := ⟨.hbm, 223, rfl⟩
abbrev main_while0b_v218 : Ref sig .tc := ⟨.hbm, 224, rfl⟩
abbrev main_while0b_v219 : Ref sig .tc := ⟨.hbm, 225, rfl⟩
abbrev main_while0b_v220 : Ref sig .tc := ⟨.hbm, 226, rfl⟩
abbrev main_while0b_v221 : Ref sig .tc := ⟨.hbm, 227, rfl⟩
abbrev main_while0b_v222 : Ref sig .tc := ⟨.hbm, 228, rfl⟩
abbrev main_while0b_v223 : Ref sig .tc := ⟨.hbm, 229, rfl⟩
abbrev main_while0b_v224 : Ref sig .tc := ⟨.hbm, 230, rfl⟩
abbrev main_while0b_v225 : Ref sig .tc := ⟨.hbm, 231, rfl⟩
abbrev main_while0b_cst_48 : Ref sig .tc := ⟨.hbm, 232, rfl⟩
abbrev main_while0b_v226 : Ref sig .tc := ⟨.hbm, 233, rfl⟩
abbrev main_while0b_v227 : Ref sig .tc := ⟨.hbm, 234, rfl⟩
abbrev main_while0b_v228 : Ref sig .tc := ⟨.hbm, 235, rfl⟩
abbrev main_while0b_v229 : Ref sig .tc := ⟨.hbm, 236, rfl⟩
abbrev main_while0b_v230 : Ref sig .tc := ⟨.hbm, 237, rfl⟩
abbrev main_while0b_v231 : Ref sig .tc := ⟨.hbm, 238, rfl⟩
abbrev main_while0b_v232 : Ref sig .tc := ⟨.hbm, 239, rfl⟩
abbrev main_while0b_v233 : Ref sig .tc := ⟨.hbm, 240, rfl⟩
abbrev main_while0b_v234 : Ref sig .tc := ⟨.hbm, 241, rfl⟩
abbrev main_while0b_v235 : Ref sig .tc := ⟨.hbm, 242, rfl⟩
abbrev main_while0b_v236 : Ref sig .tc := ⟨.hbm, 243, rfl⟩
abbrev main_while0b_v237 : Ref sig .tc := ⟨.hbm, 244, rfl⟩
abbrev main_while0b_v238 : Ref sig .tc := ⟨.hbm, 245, rfl⟩
abbrev main_while0b_cst_49 : Ref sig .tc := ⟨.hbm, 246, rfl⟩
abbrev main_while0b_v239 : Ref sig .tc := ⟨.hbm, 247, rfl⟩
abbrev main_while0b_v240 : Ref sig .tc := ⟨.hbm, 248, rfl⟩
abbrev main_while0b_cst_50 : Ref sig .tc := ⟨.hbm, 249, rfl⟩
abbrev main_while0b_call6_v0 : Ref sig .tc := ⟨.hbm, 250, rfl⟩
abbrev main_while0b_v241 : Ref sig .tc := ⟨.hbm, 251, rfl⟩
abbrev main_while0b_v242 : Ref sig .tc := ⟨.hbm, 252, rfl⟩
abbrev main_while0b_v243 : Ref sig .tc := ⟨.hbm, 253, rfl⟩
abbrev main_while0b_v244 : Ref sig .tc := ⟨.hbm, 254, rfl⟩
abbrev main_while0b_cst_51 : Ref sig .tc := ⟨.hbm, 255, rfl⟩
abbrev main_while0b_call7_v0 : Ref sig .tc := ⟨.hbm, 256, rfl⟩
abbrev main_while0b_v245 : Ref sig .tc := ⟨.hbm, 257, rfl⟩
abbrev main_while0b_v246 : Ref sig .tc := ⟨.hbm, 258, rfl⟩
abbrev main_while0b_values_52 : Ref sig .tc := ⟨.hbm, 259, rfl⟩
abbrev main_while0b_indices_53 : Ref sig .tc := ⟨.hbm, 260, rfl⟩
abbrev main_while0b_v247 : Ref sig .tc := ⟨.hbm, 261, rfl⟩
abbrev main_while0b_v248 : Ref sig .tc := ⟨.hbm, 262, rfl⟩
abbrev main_while0b_v249 : Ref sig .tc := ⟨.hbm, 263, rfl⟩
abbrev main_while0b_v250 : Ref sig .tc := ⟨.hbm, 264, rfl⟩
abbrev main_while0b_v251 : Ref sig .tc := ⟨.hbm, 265, rfl⟩
abbrev main_while0b_v252 : Ref sig .tc := ⟨.hbm, 266, rfl⟩
abbrev main_while0b_call8_v0 : Ref sig .tc := ⟨.hbm, 267, rfl⟩
abbrev main_while0b_v253 : Ref sig .tc := ⟨.hbm, 268, rfl⟩
abbrev main_while0b_v254 : Ref sig .tc := ⟨.hbm, 269, rfl⟩
abbrev main_while0b_v255 : Ref sig .tc := ⟨.hbm, 270, rfl⟩
abbrev main_while0b_v256 : Ref sig .tc := ⟨.hbm, 271, rfl⟩
abbrev main_while0b_cst_54 : Ref sig .tc := ⟨.hbm, 272, rfl⟩
abbrev main_while0b_v257 : Ref sig .tc := ⟨.hbm, 273, rfl⟩
abbrev main_while0b_v258 : Ref sig .tc := ⟨.hbm, 274, rfl⟩
abbrev main_while0b_v259 : Ref sig .tc := ⟨.hbm, 275, rfl⟩
abbrev main_while0b_call9_v0 : Ref sig .tc := ⟨.hbm, 276, rfl⟩
abbrev main_while0b_v260 : Ref sig .tc := ⟨.hbm, 277, rfl⟩
abbrev main_while0b_v261 : Ref sig .tc := ⟨.hbm, 278, rfl⟩
abbrev main_while0b_v262 : Ref sig .tc := ⟨.hbm, 279, rfl⟩
abbrev main_while0b_v263 : Ref sig .tc := ⟨.hbm, 280, rfl⟩
abbrev main_while0b_v264 : Ref sig .tc := ⟨.hbm, 281, rfl⟩
abbrev main_while0b_v265 : Ref sig .tc := ⟨.hbm, 282, rfl⟩
abbrev main_while0b_v266 : Ref sig .tc := ⟨.hbm, 283, rfl⟩
abbrev main_while0b_v267 : Ref sig .tc := ⟨.hbm, 284, rfl⟩
abbrev main_while0b_v268 : Ref sig .tc := ⟨.hbm, 285, rfl⟩
abbrev main_while0b_v269 : Ref sig .tc := ⟨.hbm, 286, rfl⟩
abbrev main_while0b_v270 : Ref sig .tc := ⟨.hbm, 287, rfl⟩
abbrev main_while0b_v271 : Ref sig .tc := ⟨.hbm, 288, rfl⟩
abbrev main_while0b_v272 : Ref sig .tc := ⟨.hbm, 289, rfl⟩
abbrev main_while0b_v273 : Ref sig .tc := ⟨.hbm, 290, rfl⟩
abbrev main_while0b_v274 : Ref sig .tc := ⟨.hbm, 291, rfl⟩
abbrev main_while0b_v275 : Ref sig .tc := ⟨.hbm, 292, rfl⟩
abbrev main_while0b_v276 : Ref sig .tc := ⟨.hbm, 293, rfl⟩
abbrev main_while0b_v277 : Ref sig .tc := ⟨.hbm, 294, rfl⟩
abbrev main_while0b_cst_55 : Ref sig .tc := ⟨.hbm, 295, rfl⟩
abbrev main_while0b_v278 : Ref sig .tc := ⟨.hbm, 296, rfl⟩
abbrev main_while0b_v279 : Ref sig .tc := ⟨.hbm, 297, rfl⟩
abbrev main_while0b_v280 : Ref sig .tc := ⟨.hbm, 298, rfl⟩
abbrev main_while0b_v281 : Ref sig .tc := ⟨.hbm, 299, rfl⟩
abbrev main_while0b_v282 : Ref sig .tc := ⟨.hbm, 300, rfl⟩
abbrev main_while0b_v283 : Ref sig .tc := ⟨.hbm, 301, rfl⟩
abbrev main_while0b_v284 : Ref sig .tc := ⟨.hbm, 302, rfl⟩
abbrev main_while0b_v285 : Ref sig .tc := ⟨.hbm, 303, rfl⟩
abbrev main_while0b_v286 : Ref sig .tc := ⟨.hbm, 304, rfl⟩
abbrev main_while0b_v287 : Ref sig .tc := ⟨.hbm, 305, rfl⟩
abbrev main_while0b_v288 : Ref sig .tc := ⟨.hbm, 306, rfl⟩
abbrev main_while0b_v289 : Ref sig .tc := ⟨.hbm, 307, rfl⟩
abbrev main_while0b_v290 : Ref sig .tc := ⟨.hbm, 308, rfl⟩
abbrev main_while0b_v291 : Ref sig .tc := ⟨.hbm, 309, rfl⟩
abbrev main_while0b_v292 : Ref sig .tc := ⟨.hbm, 310, rfl⟩
abbrev main_while0b_v293 : Ref sig .tc := ⟨.hbm, 311, rfl⟩
abbrev main_while0b_v294 : Ref sig .tc := ⟨.hbm, 312, rfl⟩
abbrev main_while0b_v295 : Ref sig .tc := ⟨.hbm, 313, rfl⟩
abbrev main_while0b_v296 : Ref sig .tc := ⟨.hbm, 314, rfl⟩
abbrev main_while0b_cst_56 : Ref sig .tc := ⟨.hbm, 315, rfl⟩
abbrev main_while0b_v297 : Ref sig .tc := ⟨.hbm, 316, rfl⟩
abbrev main_while0b_v298 : Ref sig .tc := ⟨.hbm, 317, rfl⟩
abbrev main_while0b_v299 : Ref sig .tc := ⟨.hbm, 318, rfl⟩
abbrev main_while0b_v300 : Ref sig .tc := ⟨.hbm, 319, rfl⟩
abbrev main_while0b_v301 : Ref sig .tc := ⟨.hbm, 320, rfl⟩
abbrev main_while0b_v302 : Ref sig .tc := ⟨.hbm, 321, rfl⟩
abbrev main_while0b_v303 : Ref sig .tc := ⟨.hbm, 322, rfl⟩
abbrev main_while0b_v304 : Ref sig .tc := ⟨.hbm, 323, rfl⟩
abbrev main_while0b_v305 : Ref sig .tc := ⟨.hbm, 324, rfl⟩
abbrev main_while0b_v306 : Ref sig .tc := ⟨.hbm, 325, rfl⟩
abbrev main_while0b_v307 : Ref sig .tc := ⟨.hbm, 326, rfl⟩
abbrev main_while0b_v308 : Ref sig .tc := ⟨.hbm, 327, rfl⟩
abbrev main_while0b_v309 : Ref sig .tc := ⟨.hbm, 328, rfl⟩
abbrev main_while0b_cst_57 : Ref sig .tc := ⟨.hbm, 329, rfl⟩
abbrev main_while0b_v310 : Ref sig .tc := ⟨.hbm, 330, rfl⟩
abbrev main_while0b_v311 : Ref sig .tc := ⟨.hbm, 331, rfl⟩
abbrev main_while0b_cst_58 : Ref sig .tc := ⟨.hbm, 332, rfl⟩
abbrev main_while0b_call10_v0 : Ref sig .tc := ⟨.hbm, 333, rfl⟩
abbrev main_while0b_v312 : Ref sig .tc := ⟨.hbm, 334, rfl⟩
abbrev main_while0b_v313 : Ref sig .tc := ⟨.hbm, 335, rfl⟩
abbrev main_while0b_v314 : Ref sig .tc := ⟨.hbm, 336, rfl⟩
abbrev main_while0b_v315 : Ref sig .tc := ⟨.hbm, 337, rfl⟩
abbrev main_while0b_cst_59 : Ref sig .tc := ⟨.hbm, 338, rfl⟩
abbrev main_while0b_call11_v0 : Ref sig .tc := ⟨.hbm, 339, rfl⟩
abbrev main_while0b_v316 : Ref sig .tc := ⟨.hbm, 340, rfl⟩
abbrev main_while0b_c_60 : Ref sig .tc := ⟨.hbm, 341, rfl⟩
abbrev main_while0b_v317 : Ref sig .tc := ⟨.hbm, 342, rfl⟩
abbrev main_v34 : Ref sig .tc := ⟨.hbm, 343, rfl⟩
abbrev main_v35 : Ref sig .tc := ⟨.hbm, 344, rfl⟩
abbrev main_v36 : Ref sig .tc := ⟨.hbm, 345, rfl⟩
abbrev main_v37 : Ref sig .tc := ⟨.hbm, 346, rfl⟩
abbrev main_v38 : Ref sig .tc := ⟨.hbm, 347, rfl⟩
abbrev main_v39 : Ref sig .tc := ⟨.hbm, 348, rfl⟩
abbrev main_v40 : Ref sig .tc := ⟨.hbm, 349, rfl⟩
abbrev main_v41 : Ref sig .tc := ⟨.hbm, 350, rfl⟩
abbrev main_v42 : Ref sig .tc := ⟨.hbm, 351, rfl⟩
abbrev main_v43 : Ref sig .tc := ⟨.hbm, 352, rfl⟩
abbrev main_v44 : Ref sig .tc := ⟨.hbm, 353, rfl⟩
abbrev main_v45 : Ref sig .tc := ⟨.hbm, 354, rfl⟩
abbrev main_v46 : Ref sig .tc := ⟨.hbm, 355, rfl⟩
abbrev main_v47 : Ref sig .tc := ⟨.hbm, 356, rfl⟩
abbrev main_v48 : Ref sig .tc := ⟨.hbm, 357, rfl⟩
abbrev main_v49 : Ref sig .tc := ⟨.hbm, 358, rfl⟩
abbrev main_v50 : Ref sig .tc := ⟨.hbm, 359, rfl⟩
abbrev main_v51 : Ref sig .tc := ⟨.hbm, 360, rfl⟩
abbrev main_v52 : Ref sig .tc := ⟨.hbm, 361, rfl⟩
abbrev main_v53 : Ref sig .tc := ⟨.hbm, 362, rfl⟩
abbrev main_v54 : Ref sig .tc := ⟨.hbm, 363, rfl⟩
abbrev main_v55 : Ref sig .tc := ⟨.hbm, 364, rfl⟩
abbrev main_cst : Ref sig .tc := ⟨.hbm, 365, rfl⟩
abbrev main_call12_v0 : Ref sig .tc := ⟨.hbm, 366, rfl⟩
abbrev main_call12_v1 : Ref sig .tc := ⟨.hbm, 367, rfl⟩
abbrev main_call12_v2 : Ref sig .tc := ⟨.hbm, 368, rfl⟩
abbrev main_v56 : Ref sig .tc := ⟨.hbm, 369, rfl⟩
abbrev main_v57 : Ref sig .tc := ⟨.hbm, 370, rfl⟩
abbrev main_v58 : Ref sig .tc := ⟨.hbm, 371, rfl⟩
abbrev main_v59 : Ref sig .tc := ⟨.hbm, 372, rfl⟩
abbrev main_v60 : Ref sig .tc := ⟨.hbm, 373, rfl⟩
abbrev main_v61 : Ref sig .tc := ⟨.hbm, 374, rfl⟩
abbrev main_v62 : Ref sig .tc := ⟨.hbm, 375, rfl⟩
abbrev main_v63 : Ref sig .tc := ⟨.hbm, 376, rfl⟩
abbrev main_v64 : Ref sig .tc := ⟨.hbm, 377, rfl⟩
abbrev main_v65 : Ref sig .tc := ⟨.hbm, 378, rfl⟩
abbrev main_v66 : Ref sig .tc := ⟨.hbm, 379, rfl⟩
abbrev main_v67 : Ref sig .tc := ⟨.hbm, 380, rfl⟩
abbrev main_v68 : Ref sig .tc := ⟨.hbm, 381, rfl⟩
abbrev main_v69 : Ref sig .tc := ⟨.hbm, 382, rfl⟩
abbrev main_v70 : Ref sig .tc := ⟨.hbm, 383, rfl⟩
abbrev main_v71 : Ref sig .tc := ⟨.hbm, 384, rfl⟩
abbrev main_v72 : Ref sig .tc := ⟨.hbm, 385, rfl⟩
abbrev main_v73 : Ref sig .tc := ⟨.hbm, 386, rfl⟩
abbrev main_v74 : Ref sig .tc := ⟨.hbm, 387, rfl⟩
abbrev main_v75 : Ref sig .tc := ⟨.hbm, 388, rfl⟩
abbrev main_v76 : Ref sig .tc := ⟨.hbm, 389, rfl⟩
abbrev main_v77 : Ref sig .tc := ⟨.hbm, 390, rfl⟩
abbrev main_v78 : Ref sig .tc := ⟨.hbm, 391, rfl⟩
abbrev main_cst_7 : Ref sig .tc := ⟨.hbm, 392, rfl⟩
abbrev main_call13_v0 : Ref sig .tc := ⟨.hbm, 393, rfl⟩
abbrev main_call13_v1 : Ref sig .tc := ⟨.hbm, 394, rfl⟩
abbrev main_call13_v2 : Ref sig .tc := ⟨.hbm, 395, rfl⟩
abbrev main_v79 : Ref sig .tc := ⟨.hbm, 396, rfl⟩
abbrev main_v80 : Ref sig .tc := ⟨.hbm, 397, rfl⟩
abbrev main_v81 : Ref sig .tc := ⟨.hbm, 398, rfl⟩
abbrev main_v82 : Ref sig .tc := ⟨.hbm, 399, rfl⟩
abbrev main_v83 : Ref sig .tc := ⟨.hbm, 400, rfl⟩
abbrev main_v84 : Ref sig .tc := ⟨.hbm, 401, rfl⟩
abbrev main_v85 : Ref sig .tc := ⟨.hbm, 402, rfl⟩
abbrev main_v86 : Ref sig .tc := ⟨.hbm, 403, rfl⟩
abbrev main_v87 : Ref sig .tc := ⟨.hbm, 404, rfl⟩
abbrev main_v88 : Ref sig .tc := ⟨.hbm, 405, rfl⟩
abbrev main_v89 : Ref sig .tc := ⟨.hbm, 406, rfl⟩
abbrev main_v90 : Ref sig .tc := ⟨.hbm, 407, rfl⟩
abbrev main_v91 : Ref sig .tc := ⟨.hbm, 408, rfl⟩
abbrev main_v92 : Ref sig .tc := ⟨.hbm, 409, rfl⟩
abbrev main_v93 : Ref sig .tc := ⟨.hbm, 410, rfl⟩
abbrev main_v94 : Ref sig .tc := ⟨.hbm, 411, rfl⟩
abbrev main_v95 : Ref sig .tc := ⟨.hbm, 412, rfl⟩
abbrev main_v96 : Ref sig .tc := ⟨.hbm, 413, rfl⟩
abbrev main_v97 : Ref sig .tc := ⟨.hbm, 414, rfl⟩
abbrev main_v98 : Ref sig .tc := ⟨.hbm, 415, rfl⟩
abbrev main_v99 : Ref sig .tc := ⟨.hbm, 416, rfl⟩
abbrev main_v100 : Ref sig .tc := ⟨.hbm, 417, rfl⟩
abbrev main_v101 : Ref sig .tc := ⟨.hbm, 418, rfl⟩
abbrev main_cst_8 : Ref sig .tc := ⟨.hbm, 419, rfl⟩
abbrev main_call14_v0 : Ref sig .tc := ⟨.hbm, 420, rfl⟩
abbrev main_call14_v1 : Ref sig .tc := ⟨.hbm, 421, rfl⟩
abbrev main_call14_v2 : Ref sig .tc := ⟨.hbm, 422, rfl⟩
abbrev main_v102 : Ref sig .tc := ⟨.hbm, 423, rfl⟩

abbrev nD : Nat := 1
abbrev τ : Topo := Topo.v7x

variable {F : FTy → Type} [FloatOps F]

abbrev main_while0_count : Scf.Loop 32 := ⟨0#32, 25#32, 1#32⟩
-- ==== Decode0.lean ====
abbrev S4x3x80x80x87 : Shape := ⟨5, ![4, 3, 80, 80, 87]⟩
abbrev S4x3x80x80 : Shape := ⟨4, ![4, 3, 80, 80]⟩
abbrev S1x1x80x80x87 : Shape := ⟨5, ![1, 1, 80, 80, 87]⟩
abbrev S1x1x80x80 : Shape := ⟨4, ![1, 1, 80, 80]⟩
abbrev S80x80x87 : Shape := ⟨3, ![80, 80, 87]⟩
abbrev S6400x87 : Shape := ⟨2, ![6400, 87]⟩
abbrev S87x6400 : Shape := ⟨2, ![87, 6400]⟩
abbrev S87x80x80 : Shape := ⟨3, ![87, 80, 80]⟩
abbrev S80x80x80 : Shape := ⟨3, ![80, 80, 80]⟩
abbrev S80x80 : Shape := ⟨2, ![80, 80]⟩
abbrev S1x80x80 : Shape := ⟨3, ![1, 80, 80]⟩

abbrev nBuf : Space → Nat
  | .hbm => 6
  | .vmem => 12
  | .smem => 0
  | _ => 0

abbrev bufTy : (tb : Table) → Fin (tcTables nBuf tb) → BufTy
  | .hbm, ⟨0, _⟩ => ⟨S4x3x80x80x87, .f32⟩
  | .hbm, ⟨1, _⟩ => ⟨S4x3x80x80, .f32⟩
  | .hbm, ⟨2, _⟩ => ⟨S4x3x80x80, .f32⟩
  | .hbm, ⟨3, _⟩ => ⟨S4x3x80x80, .f32⟩
  | .hbm, ⟨4, _⟩ => ⟨S4x3x80x80, .f32⟩
  | .hbm, ⟨5, _⟩ => ⟨S4x3x80x80, .f32⟩
  | .local _ .vmem, ⟨0, _⟩ => ⟨S1x1x80x80x87, .f32⟩
  | .local _ .vmem, ⟨1, _⟩ => ⟨S1x1x80x80x87, .f32⟩
  | .local _ .vmem, ⟨2, _⟩ => ⟨S1x1x80x80, .f32⟩
  | .local _ .vmem, ⟨3, _⟩ => ⟨S1x1x80x80, .f32⟩
  | .local _ .vmem, ⟨4, _⟩ => ⟨S1x1x80x80, .f32⟩
  | .local _ .vmem, ⟨5, _⟩ => ⟨S1x1x80x80, .f32⟩
  | .local _ .vmem, ⟨6, _⟩ => ⟨S1x1x80x80, .f32⟩
  | .local _ .vmem, ⟨7, _⟩ => ⟨S1x1x80x80, .f32⟩
  | .local _ .vmem, ⟨8, _⟩ => ⟨S1x1x80x80, .f32⟩
  | .local _ .vmem, ⟨9, _⟩ => ⟨S1x1x80x80, .f32⟩
  | .local _ .vmem, ⟨10, _⟩ => ⟨S1x1x80x80, .f32⟩
  | .local _ .vmem, ⟨11, _⟩ => ⟨S1x1x80x80, .f32⟩
  | _, _ => ⟨S4x3x80x80x87, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 3], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x80x80x87 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x80x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x80x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x80x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x80x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x80x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Scores0Ideal.lean ====
abbrev S4x3x80x80x87 : Shape := ⟨5, ![4, 3, 80, 80, 87]⟩
abbrev S_ : Shape := ⟨0, ![]⟩
abbrev S4x3x80x80x80 : Shape := ⟨5, ![4, 3, 80, 80, 80]⟩
abbrev S4x3x80x80x1 : Shape := ⟨5, ![4, 3, 80, 80, 1]⟩
abbrev S4x3x80x80 : Shape := ⟨4, ![4, 3, 80, 80]⟩

abbrev nBuf : Space → Nat
  | .hbm => 15
  | .vmem => 0
  | .smem => 0
  | _ => 0

abbrev bufTy : (tb : Table) → Fin (tcTables nBuf tb) → BufTy
  | .hbm, ⟨0, _⟩ => ⟨S4x3x80x80x87, .f32⟩
  | .hbm, ⟨1, _⟩ => ⟨S4x3x80x80x87, .f32⟩
  | .hbm, ⟨2, _⟩ => ⟨S4x3x80x80x87, .f32⟩
  | .hbm, ⟨3, _⟩ => ⟨S_, .f32⟩
  | .hbm, ⟨4, _⟩ => ⟨S4x3x80x80x87, .f32⟩
  | .hbm, ⟨5, _⟩ => ⟨S4x3x80x80x87, .f32⟩
  | .hbm, ⟨6, _⟩ => ⟨S_, .f32⟩
  | .hbm, ⟨7, _⟩ => ⟨S4x3x80x80x87, .f32⟩
  | .hbm, ⟨8, _⟩ => ⟨S4x3x80x80x87, .f32⟩
  | .hbm, ⟨9, _⟩ => ⟨S4x3x80x80x80, .f32⟩
  | .hbm, ⟨10, _⟩ => ⟨S4x3x80x80x1, .f32⟩
  | .hbm, ⟨11, _⟩ => ⟨S4x3x80x80x80, .f32⟩
  | .hbm, ⟨12, _⟩ => ⟨S4x3x80x80x80, .f32⟩
  | .hbm, ⟨13, _⟩ => ⟨S_, .f32⟩
  | .hbm, ⟨14, _⟩ => ⟨S4x3x80x80, .f32⟩
  | _, _ => ⟨S4x3x80x80x87, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Decode1.lean ====
abbrev S4x3x40x40x87 : Shape := ⟨5, ![4, 3, 40, 40, 87]⟩
abbrev S4x3x40x40 : Shape := ⟨4, ![4, 3, 40, 40]⟩
abbrev S1x1x40x40x87 : Shape := ⟨5, ![1, 1, 40, 40, 87]⟩
abbrev S1x1x40x40 : Shape := ⟨4, ![1, 1, 40, 40]⟩
abbrev S40x40x87 : Shape := ⟨3, ![40, 40, 87]⟩
abbrev S1600x87 : Shape := ⟨2, ![1600, 87]⟩
abbrev S87x1600 : Shape := ⟨2, ![87, 1600]⟩
abbrev S87x40x40 : Shape := ⟨3, ![87, 40, 40]⟩
abbrev S80x40x40 : Shape := ⟨3, ![80, 40, 40]⟩
abbrev S40x40 : Shape := ⟨2, ![40, 40]⟩
abbrev S1x40x40 : Shape := ⟨3, ![1, 40, 40]⟩

abbrev nBuf : Space → Nat
  | .hbm => 6
  | .vmem => 12
  | .smem => 0
  | _ => 0

abbrev bufTy : (tb : Table) → Fin (tcTables nBuf tb) → BufTy
  | .hbm, ⟨0, _⟩ => ⟨S4x3x40x40x87, .f32⟩
  | .hbm, ⟨1, _⟩ => ⟨S4x3x40x40, .f32⟩
  | .hbm, ⟨2, _⟩ => ⟨S4x3x40x40, .f32⟩
  | .hbm, ⟨3, _⟩ => ⟨S4x3x40x40, .f32⟩
  | .hbm, ⟨4, _⟩ => ⟨S4x3x40x40, .f32⟩
  | .hbm, ⟨5, _⟩ => ⟨S4x3x40x40, .f32⟩
  | .local _ .vmem, ⟨0, _⟩ => ⟨S1x1x40x40x87, .f32⟩
  | .local _ .vmem, ⟨1, _⟩ => ⟨S1x1x40x40x87, .f32⟩
  | .local _ .vmem, ⟨2, _⟩ => ⟨S1x1x40x40, .f32⟩
  | .local _ .vmem, ⟨3, _⟩ => ⟨S1x1x40x40, .f32⟩
  | .local _ .vmem, ⟨4, _⟩ => ⟨S1x1x40x40, .f32⟩
  | .local _ .vmem, ⟨5, _⟩ => ⟨S1x1x40x40, .f32⟩
  | .local _ .vmem, ⟨6, _⟩ => ⟨S1x1x40x40, .f32⟩
  | .local _ .vmem, ⟨7, _⟩ => ⟨S1x1x40x40, .f32⟩
  | .local _ .vmem, ⟨8, _⟩ => ⟨S1x1x40x40, .f32⟩
  | .local _ .vmem, ⟨9, _⟩ => ⟨S1x1x40x40, .f32⟩
  | .local _ .vmem, ⟨10, _⟩ => ⟨S1x1x40x40, .f32⟩
  | .local _ .vmem, ⟨11, _⟩ => ⟨S1x1x40x40, .f32⟩
  | _, _ => ⟨S4x3x40x40x87, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 3], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x40x40x87 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x40x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x40x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x40x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x40x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x40x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Scores1Ideal.lean ====
abbrev S4x3x40x40x87 : Shape := ⟨5, ![4, 3, 40, 40, 87]⟩
abbrev S_ : Shape := ⟨0, ![]⟩
abbrev S4x3x40x40x80 : Shape := ⟨5, ![4, 3, 40, 40, 80]⟩
abbrev S4x3x40x40x1 : Shape := ⟨5, ![4, 3, 40, 40, 1]⟩
abbrev S4x3x40x40 : Shape := ⟨4, ![4, 3, 40, 40]⟩

abbrev nBuf : Space → Nat
  | .hbm => 15
  | .vmem => 0
  | .smem => 0
  | _ => 0

abbrev bufTy : (tb : Table) → Fin (tcTables nBuf tb) → BufTy
  | .hbm, ⟨0, _⟩ => ⟨S4x3x40x40x87, .f32⟩
  | .hbm, ⟨1, _⟩ => ⟨S4x3x40x40x87, .f32⟩
  | .hbm, ⟨2, _⟩ => ⟨S4x3x40x40x87, .f32⟩
  | .hbm, ⟨3, _⟩ => ⟨S_, .f32⟩
  | .hbm, ⟨4, _⟩ => ⟨S4x3x40x40x87, .f32⟩
  | .hbm, ⟨5, _⟩ => ⟨S4x3x40x40x87, .f32⟩
  | .hbm, ⟨6, _⟩ => ⟨S_, .f32⟩
  | .hbm, ⟨7, _⟩ => ⟨S4x3x40x40x87, .f32⟩
  | .hbm, ⟨8, _⟩ => ⟨S4x3x40x40x87, .f32⟩
  | .hbm, ⟨9, _⟩ => ⟨S4x3x40x40x80, .f32⟩
  | .hbm, ⟨10, _⟩ => ⟨S4x3x40x40x1, .f32⟩
  | .hbm, ⟨11, _⟩ => ⟨S4x3x40x40x80, .f32⟩
  | .hbm, ⟨12, _⟩ => ⟨S4x3x40x40x80, .f32⟩
  | .hbm, ⟨13, _⟩ => ⟨S_, .f32⟩
  | .hbm, ⟨14, _⟩ => ⟨S4x3x40x40, .f32⟩
  | _, _ => ⟨S4x3x40x40x87, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Decode2.lean ====
abbrev S4x3x20x20x87 : Shape := ⟨5, ![4, 3, 20, 20, 87]⟩
abbrev S4x3x20x20 : Shape := ⟨4, ![4, 3, 20, 20]⟩
abbrev S1x1x20x20x87 : Shape := ⟨5, ![1, 1, 20, 20, 87]⟩
abbrev S1x1x20x20 : Shape := ⟨4, ![1, 1, 20, 20]⟩
abbrev S20x20x87 : Shape := ⟨3, ![20, 20, 87]⟩
abbrev S400x87 : Shape := ⟨2, ![400, 87]⟩
abbrev S87x400 : Shape := ⟨2, ![87, 400]⟩
abbrev S87x20x20 : Shape := ⟨3, ![87, 20, 20]⟩
abbrev S80x20x20 : Shape := ⟨3, ![80, 20, 20]⟩
abbrev S20x20 : Shape := ⟨2, ![20, 20]⟩
abbrev S1x20x20 : Shape := ⟨3, ![1, 20, 20]⟩

abbrev nBuf : Space → Nat
  | .hbm => 6
  | .vmem => 12
  | .smem => 0
  | _ => 0

abbrev bufTy : (tb : Table) → Fin (tcTables nBuf tb) → BufTy
  | .hbm, ⟨0, _⟩ => ⟨S4x3x20x20x87, .f32⟩
  | .hbm, ⟨1, _⟩ => ⟨S4x3x20x20, .f32⟩
  | .hbm, ⟨2, _⟩ => ⟨S4x3x20x20, .f32⟩
  | .hbm, ⟨3, _⟩ => ⟨S4x3x20x20, .f32⟩
  | .hbm, ⟨4, _⟩ => ⟨S4x3x20x20, .f32⟩
  | .hbm, ⟨5, _⟩ => ⟨S4x3x20x20, .f32⟩
  | .local _ .vmem, ⟨0, _⟩ => ⟨S1x1x20x20x87, .f32⟩
  | .local _ .vmem, ⟨1, _⟩ => ⟨S1x1x20x20x87, .f32⟩
  | .local _ .vmem, ⟨2, _⟩ => ⟨S1x1x20x20, .f32⟩
  | .local _ .vmem, ⟨3, _⟩ => ⟨S1x1x20x20, .f32⟩
  | .local _ .vmem, ⟨4, _⟩ => ⟨S1x1x20x20, .f32⟩
  | .local _ .vmem, ⟨5, _⟩ => ⟨S1x1x20x20, .f32⟩
  | .local _ .vmem, ⟨6, _⟩ => ⟨S1x1x20x20, .f32⟩
  | .local _ .vmem, ⟨7, _⟩ => ⟨S1x1x20x20, .f32⟩
  | .local _ .vmem, ⟨8, _⟩ => ⟨S1x1x20x20, .f32⟩
  | .local _ .vmem, ⟨9, _⟩ => ⟨S1x1x20x20, .f32⟩
  | .local _ .vmem, ⟨10, _⟩ => ⟨S1x1x20x20, .f32⟩
  | .local _ .vmem, ⟨11, _⟩ => ⟨S1x1x20x20, .f32⟩
  | _, _ => ⟨S4x3x20x20x87, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 3], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x20x20x87 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x20x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x20x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x20x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x20x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x20x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Scores2Ideal.lean ====
abbrev S4x3x20x20x87 : Shape := ⟨5, ![4, 3, 20, 20, 87]⟩
abbrev S_ : Shape := ⟨0, ![]⟩
abbrev S4x3x20x20x80 : Shape := ⟨5, ![4, 3, 20, 20, 80]⟩
abbrev S4x3x20x20x1 : Shape := ⟨5, ![4, 3, 20, 20, 1]⟩
abbrev S4x3x20x20 : Shape := ⟨4, ![4, 3, 20, 20]⟩

abbrev nBuf : Space → Nat
  | .hbm => 15
  | .vmem => 0
  | .smem => 0
  | _ => 0

abbrev bufTy : (tb : Table) → Fin (tcTables nBuf tb) → BufTy
  | .hbm, ⟨0, _⟩ => ⟨S4x3x20x20x87, .f32⟩
  | .hbm, ⟨1, _⟩ => ⟨S4x3x20x20x87, .f32⟩
  | .hbm, ⟨2, _⟩ => ⟨S4x3x20x20x87, .f32⟩
  | .hbm, ⟨3, _⟩ => ⟨S_, .f32⟩
  | .hbm, ⟨4, _⟩ => ⟨S4x3x20x20x87, .f32⟩
  | .hbm, ⟨5, _⟩ => ⟨S4x3x20x20x87, .f32⟩
  | .hbm, ⟨6, _⟩ => ⟨S_, .f32⟩
  | .hbm, ⟨7, _⟩ => ⟨S4x3x20x20x87, .f32⟩
  | .hbm, ⟨8, _⟩ => ⟨S4x3x20x20x87, .f32⟩
  | .hbm, ⟨9, _⟩ => ⟨S4x3x20x20x80, .f32⟩
  | .hbm, ⟨10, _⟩ => ⟨S4x3x20x20x1, .f32⟩
  | .hbm, ⟨11, _⟩ => ⟨S4x3x20x20x80, .f32⟩
  | .hbm, ⟨12, _⟩ => ⟨S4x3x20x20x80, .f32⟩
  | .hbm, ⟨13, _⟩ => ⟨S_, .f32⟩
  | .hbm, ⟨14, _⟩ => ⟨S4x3x20x20, .f32⟩
  | _, _ => ⟨S4x3x20x20x87, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Run.Body.lean ====
module

public import proofs.«01_k».proof.Proof.Run.Trip

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of the body, from the blocks it reads to the blocks it writes. -/
theorem kernelRun0_A (c : Dev nD) (arg0 : Memref sig .tc .vmem S4x240x80 .f32) (harg0 : arg0.IsWhole) (arg1 : Memref sig .tc .vmem S4x240x80 .f32) (harg1 : arg1.IsWhole) (arg2 : Memref sig .tc .vmem S4x240x80 .f32) (harg2 : arg2.IsWhole) (arg3 : Memref sig .tc .vmem S4x240x80 .f32) (harg3 : arg3.IsWhole) (arg4 : Memref sig .tc .vmem S4x240x80 .f32) (harg4 : arg4.IsWhole) (arg5 : Memref sig .tc .vmem S4x120x40 .f32) (harg5 : arg5.IsWhole) (arg6 : Memref sig .tc .vmem S4x120x40 .f32) (harg6 : arg6.IsWhole) (arg7 : Memref sig .tc .vmem S4x120x40 .f32) (harg7 : arg7.IsWhole) (arg8 : Memref sig .tc .vmem S4x120x40 .f32) (harg8 : arg8.IsWhole) (arg9 : Memref sig .tc .vmem S4x120x40 .f32) (harg9 : arg9.IsWhole) (arg10 : Memref sig .tc .vmem S4x60x20 .f32) (harg10 : arg10.IsWhole) (arg11 : Memref sig .tc .vmem S4x60x20 .f32) (harg11 : arg11.IsWhole) (arg12 : Memref sig .tc .vmem S4x60x20 .f32) (harg12 : arg12.IsWhole) (arg13 : Memref sig .tc .vmem S4x60x20 .f32) (harg13 : arg13.IsWhole) (arg14 : Memref sig .tc .vmem S4x60x20 .f32) (harg14 : arg14.IsWhole) (arg15 : Memref sig .tc .vmem S4x128x6400 .f32) (harg15 : arg15.IsWhole) (arg16 : Memref sig .tc .vmem S4x256x1600 .f32) (harg16 : arg16.IsWhole) (arg17 : Memref sig .tc .vmem S4x512x400 .f32) (harg17 : arg17.IsWhole) (arg18 : Memref sig .tc .vmem S4x32x128 .f32) (harg18 : arg18.IsWhole) (arg19 : Memref sig .tc .vmem S4x32x256 .f32) (harg19 : arg19.IsWhole) (arg20 : Memref sig .tc .vmem S4x32x512 .f32) (harg20 : arg20.IsWhole)
    (x0 : Vec F S4x240x80 .f32) (x1 : Vec F S4x240x80 .f32) (x2 : Vec F S4x240x80 .f32) (x3 : Vec F S4x240x80 .f32) (x4 : Vec F S4x240x80 .f32) (x5 : Vec F S4x120x40 .f32) (x6 : Vec F S4x120x40 .f32) (x7 : Vec F S4x120x40 .f32) (x8 : Vec F S4x120x40 .f32) (x9 : Vec F S4x120x40 .f32) (x10 : Vec F S4x60x20 .f32) (x11 : Vec F S4x60x20 .f32) (x12 : Vec F S4x60x20 .f32) (x13 : Vec F S4x60x20 .f32) (x14 : Vec F S4x60x20 .f32) (x15 : Vec F S4x128x6400 .f32) (x16 : Vec F S4x256x1600 .f32) (x17 : Vec F S4x512x400 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__nms_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__nms_body_eq_skeleton]; unfold cc0__nms_body_skel
    simp only [k0_part4_eq_skeleton, k0_part5_eq_skeleton, k0_part6_eq_fold, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Gen

end
-- ==== Proof.Run.Frame.lean ====
module

public import proofs.«01_k».proof.Proof.Run.Body
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region leaves every buffer outside its own list as it was. -/
def forgets0 : Fin 21 → Bool := fun w => w.val == 18 || w.val == 19 || w.val == 20

/-- The data the launch skeleton of the region is instantiated with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q _ := fullShare
  owed _ := 0

/-- The invocation is the launch skeleton with that data. -/
theorem A_eq (c : Dev nD) (w : Fin cfg0.W) : (dats m 0 c).A w = V m c (Pipeline.arrRef spec0 w) := by
  dsimp only [dats]

/-- What window 0 holds after the invocation. -/
theorem after0_0 (c : Dev nD) (t : Fin cfg0.N) : (dats m 0 c).after 0 t = iblk m c 0 t := by dsimp only [dats]
/-- What window 1 holds after the invocation. -/
theorem after0_1 (c : Dev nD) (t : Fin cfg0.N) : (dats m 0 c).after 1 t = iblk m c 1 t := by dsimp only [dats]
/-- What window 2 holds after the invocation. -/
theorem after0_2 (c : Dev nD) (t : Fin cfg0.N) : (dats m 0 c).after 2 t = iblk m c 2 t := by dsimp only [dats]
/-- What window 3 holds after the invocation. -/
theorem after0_3 (c : Dev nD) (t : Fin cfg0.N) : (dats m 0 c).after 3 t = iblk m c 3 t := by dsimp only [dats]
/-- What window 4 holds after the invocation. -/
theorem after0_4 (c : Dev nD) (t : Fin cfg0.N) : (dats m 0 c).after 4 t = iblk m c 4 t := by dsimp only [dats]
/-- What window 5 holds after the invocation. -/
theorem after0_5 (c : Dev nD) (t : Fin cfg0.N) : (dats m 0 c).after 5 t = iblk m c 5 t := by dsimp only [dats]
/-- What window 6 holds after the invocation. -/
theorem after0_6 (c : Dev nD) (t : Fin cfg0.N) : (dats m 0 c).after 6 t = iblk m c 6 t := by dsimp only [dats]
/-- What window 7 holds after the invocation. -/
theorem after0_7 (c : Dev nD) (t : Fin cfg0.N) : (dats m 0 c).after 7 t = iblk m c 7 t := by dsimp only [dats]
/-- What window 8 holds after the invocation. -/
theorem after0_8 (c : Dev nD) (t : Fin cfg0.N) : (dats m 0 c).after 8 t = iblk m c 8 t := by dsimp only [dats]
/-- What window 9 holds after the invocation. -/
theorem after0_9 (c : Dev nD) (t : Fin cfg0.N) : (dats m 0 c).after 9 t = iblk m c 9 t := by dsimp only [dats]
/-- What window 10 holds after the invocation. -/
theorem after0_10 (c : Dev nD) (t : Fin cfg0.N) : (dats m 0 c).after 10 t = iblk m c 10 t := by dsimp only [dats]
/-- What window 11 holds after the invocation. -/
theorem after0_11 (c : Dev nD) (t : Fin cfg0.N) : (dats m 0 c).after 11 t = iblk m c 11 t := by dsimp only [dats]
/-- What window 12 holds after the invocation. -/
theorem after0_12 (c : Dev nD) (t : Fin cfg0.N) : (dats m 0 c).after 12 t = iblk m c 12 t := by dsimp only [dats]
/-- What window 13 holds after the invocation. -/
theorem after0_13 (c : Dev nD) (t : Fin cfg0.N) : (dats m 0 c).after 13 t = iblk m c 13 t := by dsimp only [dats]
/-- What window 14 holds after the invocation. -/
theorem after0_14 (c : Dev nD) (t : Fin cfg0.N) : (dats m 0 c).after 14 t = iblk m c 14 t := by dsimp only [dats]
/-- What window 15 holds after the invocation. -/
theorem after0_15 (c : Dev nD) (t : Fin cfg0.N) : (dats m 0 c).after 15 t = iblk m c 15 t := by dsimp only [dats]
/-- What window 16 holds after the invocation. -/
theorem after0_16 (c : Dev nD) (t : Fin cfg0.N) : (dats m 0 c).after 16 t = iblk m c 16 t := by dsimp only [dats]
/-- What window 17 holds after the invocation. -/
theorem after0_17 (c : Dev nD) (t : Fin cfg0.N) : (dats m 0 c).after 17 t = iblk m c 17 t := by dsimp only [dats]

/-- What window 0 holds before the body runs. -/
theorem before0_0 (c : Dev nD) (t : Fin cfg0.N) (d) : (dats m 0 c).before 0 t d = iblk m c 0 t :=
  before0_0_of m (dats m 0 c) (A_eq m c 0) (after0_0 m c) t d
/-- What window 1 holds before the body runs. -/
theorem before0_1 (c : Dev nD) (t : Fin cfg0.N) (d) : (dats m 0 c).before 1 t d = iblk m c 1 t :=
  before0_1_of m (dats m 0 c) (A_eq m c 1) (after0_1 m c) t d
/-- What window 2 holds before the body runs. -/
theorem before0_2 (c : Dev nD) (t : Fin cfg0.N) (d) : (dats m 0 c).before 2 t d = iblk m c 2 t :=
  before0_2_of m (dats m 0 c) (A_eq m c 2) (after0_2 m c) t d
/-- What window 3 holds before the body runs. -/
theorem before0_3 (c : Dev nD) (t : Fin cfg0.N) (d) : (dats m 0 c).before 3 t d = iblk m c 3 t :=
  before0_3_of m (dats m 0 c) (A_eq m c 3) (after0_3 m c) t d
/-- What window 4 holds before the body runs. -/
theorem before0_4 (c : Dev nD) (t : Fin cfg0.N) (d) : (dats m 0 c).before 4 t d = iblk m c 4 t :=
  before0_4_of m (dats m 0 c) (A_eq m c 4) (after0_4 m c) t d
/-- What window 5 holds before the body runs. -/
theorem before0_5 (c : Dev nD) (t : Fin cfg0.N) (d) : (dats m 0 c).before 5 t d = iblk m c 5 t :=
  before0_5_of m (dats m 0 c) (A_eq m c 5) (after0_5 m c) t d
/-- What window 6 holds before the body runs. -/
theorem before0_6 (c : Dev nD) (t : Fin cfg0.N) (d) : (dats m 0 c).before 6 t d = iblk m c 6 t :=
  before0_6_of m (dats m 0 c) (A_eq m c 6) (after0_6 m c) t d
/-- What window 7 holds before the body runs. -/
theorem before0_7 (c : Dev nD) (t : Fin cfg0.N) (d) : (dats m 0 c).before 7 t d = iblk m c 7 t :=
  before0_7_of m (dats m 0 c) (A_eq m c 7) (after0_7 m c) t d
/-- What window 8 holds before the body runs. -/
theorem before0_8 (c : Dev nD) (t : Fin cfg0.N) (d) : (dats m 0 c).before 8 t d = iblk m c 8 t :=
  before0_8_of m (dats m 0 c) (A_eq m c 8) (after0_8 m c) t d
/-- What window 9 holds before the body runs. -/
theorem before0_9 (c : Dev nD) (t : Fin cfg0.N) (d) : (dats m 0 c).before 9 t d = iblk m c 9 t :=
  before0_9_of m (dats m 0 c) (A_eq m c 9) (after0_9 m c) t d
/-- What window 10 holds before the body runs. -/
theorem before0_10 (c : Dev nD) (t : Fin cfg0.N) (d) : (dats m 0 c).before 10 t d = iblk m c 10 t :=
  before0_10_of m (dats m 0 c) (A_eq m c 10) (after0_10 m c) t d
/-- What window 11 holds before the body runs. -/
theorem before0_11 (c : Dev nD) (t : Fin cfg0.N) (d) : (dats m 0 c).before 11 t d = iblk m c 11 t :=
  before0_11_of m (dats m 0 c) (A_eq m c 11) (after0_11 m c) t d
/-- What window 12 holds before the body runs. -/
theorem before0_12 (c : Dev nD) (t : Fin cfg0.N) (d) : (dats m 0 c).before 12 t d = iblk m c 12 t :=
  before0_12_of m (dats m 0 c) (A_eq m c 12) (after0_12 m c) t d
/-- What window 13 holds before the body runs. -/
theorem before0_13 (c : Dev nD) (t : Fin cfg0.N) (d) : (dats m 0 c).before 13 t d = iblk m c 13 t :=
  before0_13_of m (dats m 0 c) (A_eq m c 13) (after0_13 m c) t d
/-- What window 14 holds before the body runs. -/
theorem before0_14 (c : Dev nD) (t : Fin cfg0.N) (d) : (dats m 0 c).before 14 t d = iblk m c 14 t :=
  before0_14_of m (dats m 0 c) (A_eq m c 14) (after0_14 m c) t d
/-- What window 15 holds before the body runs. -/
theorem before0_15 (c : Dev nD) (t : Fin cfg0.N) (d) : (dats m 0 c).before 15 t d = iblk m c 15 t :=
  before0_15_of m (dats m 0 c) (A_eq m c 15) (after0_15 m c) t d
/-- What window 16 holds before the body runs. -/
theorem before0_16 (c : Dev nD) (t : Fin cfg0.N) (d) : (dats m 0 c).before 16 t d = iblk m c 16 t :=
  before0_16_of m (dats m 0 c) (A_eq m c 16) (after0_16 m c) t d
/-- What window 17 holds before the body runs. -/
theorem before0_17 (c : Dev nD) (t : Fin cfg0.N) (d) : (dats m 0 c).before 17 t d = iblk m c 17 t :=
  before0_17_of m (dats m 0 c) (A_eq m c 17) (after0_17 m c) t d

/-- The state in which the body starts: every window holds its block. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare d)
    ∗ (∃ d, owns (c : Thread nD τ) (ms0_19 t) fullShare d)
    ∗ (∃ d, owns (c : Thread nD τ) (ms0_20 t) fullShare d))

/-- The state in which the body ends: inputs kept, outputs written. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ (∃ d, owns (c : Thread nD τ) (ms0_18 t) fullShare d)
    ∗ (∃ d, owns (c : Thread nD τ) (ms0_19 t) fullShare d)
    ∗ (∃ d, owns (c : Thread nD τ) (ms0_20 t) fullShare d))

set_option maxHeartbeats 2000000 in
/-- The body is sound: it terminates in the state that the skeleton asks for. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The table of functions has the body in this row. -/
theorem defs₀_row (t : Fin cfg0.N) :
    defs₀ (F := F) .tc cfg0.body (cfg0.bodyArgs t (cfg0.slots t)) = bodyAt0 t := by
  unfold defs₀; rw [Defs.onTc_tc]

/-- The body takes its start state to its end state. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The whole program, from any memory: terminates, with these contents at the end. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The whole program, from any memory: terminates, with these contents at the end. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The arguments are among the buffers that the program never writes. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (fun c => (dats m 0 c).toRForget forgets0) (A_eq m) (run_main m ρ)

/-- The frame: the program terminates, keeps its arguments and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Kernel.Gen

end
-- ==== Proof.RunIdeal.Setup.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memory in which the program starts, as a family of buffer contents. -/
abbrev V0 (c : Dev nD) : Valuation τ sig (Elt F) := StableHlo.after (List.flatten [hostOps0]) (fun b => m (c, b))
/-- The memory in which the region starts, after the host operations before it. -/
abbrev V (c : Dev nD) (b : Ref sig .tc) : Buf (Elt F) ((c : Thread nD τ).loc b) := V0 m c (Proc.devRef .tc b)

/-- The host operations of stretch 0 write buffers of their own. -/
theorem hostOps0_fresh : (hostOps0 : List (HloOp τ sig (Elt F))).Forall fun op => op.fresh = ∅ := by
  simp only [List.Forall]; repeat' constructor
/-- The host operations of stretch 1 write buffers of their own. -/
theorem hostOps1_fresh : (hostOps1 : List (HloOp τ sig (Elt F))).Forall fun op => op.fresh = ∅ := by
  simp only [List.Forall]; repeat' constructor

set_option maxHeartbeats 800000 in
/-- The main function is the launch skeleton: host operations, the region, host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host operations after the region touch only buffers of their own. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- The host operations after the region touch only buffers of their own. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- The host operations after the region touch only buffers of their own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Argument 0 is still as at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 1 is still as at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 2 is still as at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 3 is still as at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 4 is still as at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 5 is still as at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 6 is still as at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 7 is still as at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 8 is still as at the start. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 9 is still as at the start. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 10 is still as at the start. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 11 is still as at the start. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 12 is still as at the start. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 13 is still as at the start. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 14 is still as at the start. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 15 is still as at the start. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 16 is still as at the start. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 17 is still as at the start. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 0 is still as at the start. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Argument 1 is still as at the start. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 is still as at the start. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The block of an input array that a window holds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 holds its block of the entry buffer before the body runs. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block of the entry buffer before the body runs. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block of the entry buffer before the body runs. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block of the entry buffer before the body runs. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block of the entry buffer before the body runs. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 holds its block of the entry buffer before the body runs. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 holds its block of the entry buffer before the body runs. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7 holds its block of the entry buffer before the body runs. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8 holds its block of the entry buffer before the body runs. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9 holds its block of the entry buffer before the body runs. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10 holds its block of the entry buffer before the body runs. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11 holds its block of the entry buffer before the body runs. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12 holds its block of the entry buffer before the body runs. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13 holds its block of the entry buffer before the body runs. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14 holds its block of the entry buffer before the body runs. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15 holds its block of the entry buffer before the body runs. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16 holds its block of the entry buffer before the body runs. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17 holds its block of the entry buffer before the body runs. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1260000 in
/-- A frame of the region gives a frame of the whole program. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).1 4).trans (((dats 0 c).arrAt_in 4 rfl _).trans ((hA c 4).trans (V_main_arg7 m c))),
      ((h c).1 5).trans (((dats 0 c).arrAt_in 5 rfl _).trans ((hA c 5).trans (V_main_arg8 m c))),
      ((h c).1 6).trans (((dats 0 c).arrAt_in 6 rfl _).trans ((hA c 6).trans (V_main_arg9 m c))),
      ((h c).1 7).trans (((dats 0 c).arrAt_in 7 rfl _).trans ((hA c 7).trans (V_main_arg10 m c))),
      ((h c).1 8).trans (((dats 0 c).arrAt_in 8 rfl _).trans ((hA c 8).trans (V_main_arg11 m c))),
      ((h c).1 9).trans (((dats 0 c).arrAt_in 9 rfl _).trans ((hA c 9).trans (V_main_arg12 m c))),
      ((h c).1 10).trans (((dats 0 c).arrAt_in 10 rfl _).trans ((hA c 10).trans (V_main_arg13 m c))),
      ((h c).1 11).trans (((dats 0 c).arrAt_in 11 rfl _).trans ((hA c 11).trans (V_main_arg14 m c))),
      ((h c).1 12).trans (((dats 0 c).arrAt_in 12 rfl _).trans ((hA c 12).trans (V_main_arg15 m c))),
      ((h c).1 13).trans (((dats 0 c).arrAt_in 13 rfl _).trans ((hA c 13).trans (V_main_arg16 m c))),
      ((h c).1 14).trans (((dats 0 c).arrAt_in 14 rfl _).trans ((hA c 14).trans (V_main_arg17 m c)))⟩) h

/-- Bookkeeping of one window: its shape, memory space and size. -/
abbrev VO0_18 : View sig .tc .vmem S4x32x128 .f32 := (Memref.whole cc0_stg18_0 : Memref sig .tc .vmem S4x32x128 .f32).view
/-- Bookkeeping of one window: its shape, memory space and size. -/
abbrev VO0_19 : View sig .tc .vmem S4x32x256 .f32 := (Memref.whole cc0_stg19_0 : Memref sig .tc .vmem S4x32x256 .f32).view
/-- Bookkeeping of one window: its shape, memory space and size. -/
abbrev VO0_20 : View sig .tc .vmem S4x32x512 .f32 := (Memref.whole cc0_stg20_0 : Memref sig .tc .vmem S4x32x512 .f32).view
/-- Bookkeeping of one window: its shape, memory space and size. -/
abbrev ms0_0 (t : Fin cfg0.N) : Memref sig .tc .vmem S4x240x80 .f32 := win0_0.stage (cfg0.slots t 0)
/-- Bookkeeping of one window: its shape, memory space and size. -/
abbrev hs0_0 (t : Fin cfg0.N) : (ms0_0 t).IsWhole := hstage0_0 0
/-- Bookkeeping of one window: its shape, memory space and size. -/
abbrev ms0_1 (t : Fin cfg0.N) : Memref sig .tc .vmem S4x240x80 .f32 := win0_1.stage (cfg0.slots t 1)
/-- Bookkeeping of one window: its shape, memory space and size. -/
abbrev hs0_1 (t : Fin cfg0.N) : (ms0_1 t).IsWhole := hstage0_1 0
/-- Bookkeeping of one window: its shape, memory space and size. -/
abbrev ms0_2 (t : Fin cfg0.N) : Memref sig .tc .vmem S4x240x80 .f32 := win0_2.stage (cfg0.slots t 2)
/-- Bookkeeping of one window: its shape, memory space and size. -/
abbrev hs0_2 (t : Fin cfg0.N) : (ms0_2 t).IsWhole := hstage0_2 0
/-- Bookkeeping of one window: its shape, memory space and size. -/
abbrev ms0_3 (t : Fin cfg0.N) : Memref sig .tc .vmem S4x240x80 .f32 := win0_3.stage (cfg0.slots t 3)
/-- Bookkeeping of one window: its shape, memory space and size. -/
abbrev hs0_3 (t : Fin cfg0.N) : (ms0_3 t).IsWhole := hstage0_3 0
/-- Bookkeeping of one window: its shape, memory space and size. -/
abbrev ms0_4 (t : Fin cfg0.N) : Memref sig .tc .vmem S4x240x80 .f32 := win0_4.stage (cfg0.slots t 4)
/-- Bookkeeping of one window: its shape, memory space and size. -/
abbrev hs0_4 (t : Fin cfg0.N) : (ms0_4 t).IsWhole := hstage0_4 0
/-- Bookkeeping of one window: its shape, memory space and size. -/
abbrev ms0_5 (t : Fin cfg0.N) : Memref sig .tc .vmem S4x120x40 .f32 := win0_5.stage (cfg0.slots t 5)
/-- Bookkeeping of one window: its shape, memory space and size. -/
abbrev hs0_5 (t : Fin cfg0.N) : (ms0_5 t).IsWhole := hstage0_5 0
/-- Bookkeeping of one window: its shape, memory space and size. -/
abbrev ms0_6 (t : Fin cfg0.N) : Memref sig .tc .vmem S4x120x40 .f32 := win0_6.stage (cfg0.slots t 6)
/-- Bookkeeping of one window: its shape, memory space and size. -/
abbrev hs0_6 (t : Fin cfg0.N) : (ms0_6 t).IsWhole := hstage0_6 0
/-- Bookkeeping of one window: its shape, memory space and size. -/
abbrev ms0_7 (t : Fin cfg0.N) : Memref sig .tc .vmem S4x120x40 .f32 := win0_7.stage (cfg0.slots t 7)
/-- Bookkeeping of one window: its shape, memory space and size. -/
abbrev hs0_7 (t : Fin cfg0.N) : (ms0_7 t).IsWhole := hstage0_7 0
/-- Bookkeeping of one window: its shape, memory space and size. -/
abbrev ms0_8 (t : Fin cfg0.N) : Memref sig .tc .vmem S4x120x40 .f32 := win0_8.stage (cfg0.slots t 8)
/-- Bookkeeping of one window: its shape, memory space and size. -/
abbrev hs0_8 (t : Fin cfg0.N) : (ms0_8 t).IsWhole := hstage0_8 0
/-- Bookkeeping of one window: its shape, memory space and size. -/
abbrev ms0_9 (t : Fin cfg0.N) : Memref sig .tc .vmem S4x120x40 .f32 := win0_9.stage (cfg0.slots t 9)
/-- Bookkeeping of one window: its shape, memory space and size. -/
abbrev hs0_9 (t : Fin cfg0.N) : (ms0_9 t).IsWhole := hstage0_9 0
/-- Bookkeeping of one window: its shape, memory space and size. -/
abbrev ms0_10 (t : Fin cfg0.N) : Memref sig .tc .vmem S4x60x20 .f32 := win0_10.stage (cfg0.slots t 10)
/-- Bookkeeping of one window: its shape, memory space and size. -/
abbrev hs0_10 (t : Fin cfg0.N) : (ms0_10 t).IsWhole := hstage0_10 0
/-- Bookkeeping of one window: its shape, memory space and size. -/
abbrev ms0_11 (t : Fin cfg0.N) : Memref sig .tc .vmem S4x60x20 .f32 := win0_11.stage (cfg0.slots t 11)
/-- Bookkeeping of one window: its shape, memory space and size. -/
abbrev hs0_11 (t : Fin cfg0.N) : (ms0_11 t).IsWhole := hstage0_11 0
/-- Bookkeeping of one window: its shape, memory space and size. -/
abbrev ms0_12 (t : Fin cfg0.N) : Memref sig .tc .vmem S4x60x20 .f32 := win0_12.stage (cfg0.slots t 12)
/-- Bookkeeping of one window: its shape, memory space and size. -/
abbrev hs0_12 (t : Fin cfg0.N) : (ms0_12 t).IsWhole := hstage0_12 0
/-- Bookkeeping of one window: its shape, memory space and size. -/
abbrev ms0_13 (t : Fin cfg0.N) : Memref sig .tc .vmem S4x60x20 .f32 := win0_13.stage (cfg0.slots t 13)
/-- Bookkeeping of one window: its shape, memory space and size. -/
abbrev hs0_13 (t : Fin cfg0.N) : (ms0_13 t).IsWhole := hstage0_13 0
/-- Bookkeeping of one window: its shape, memory space and size. -/
abbrev ms0_14 (t : Fin cfg0.N) : Memref sig .tc .vmem S4x60x20 .f32 := win0_14.stage (cfg0.slots t 14)
/-- Bookkeeping of one window: its shape, memory space and size. -/
abbrev hs0_14 (t : Fin cfg0.N) : (ms0_14 t).IsWhole := hstage0_14 0
/-- Bookkeeping of one window: its shape, memory space and size. -/
abbrev ms0_15 (t : Fin cfg0.N) : Memref sig .tc .vmem S4x128x6400 .f32 := win0_15.stage (cfg0.slots t 15)
/-- Bookkeeping of one window: its shape, memory space and size. -/
abbrev hs0_15 (t : Fin cfg0.N) : (ms0_15 t).IsWhole := hstage0_15 0
/-- Bookkeeping of one window: its shape, memory space and size. -/
abbrev ms0_16 (t : Fin cfg0.N) : Memref sig .tc .vmem S4x256x1600 .f32 := win0_16.stage (cfg0.slots t 16)
/-- Bookkeeping of one window: its shape, memory space and size. -/
abbrev hs0_16 (t : Fin cfg0.N) : (ms0_16 t).IsWhole := hstage0_16 0
/-- Bookkeeping of one window: its shape, memory space and size. -/
abbrev ms0_17 (t : Fin cfg0.N) : Memref sig .tc .vmem S4x512x400 .f32 := win0_17.stage (cfg0.slots t 17)
/-- Bookkeeping of one window: its shape, memory space and size. -/
abbrev hs0_17 (t : Fin cfg0.N) : (ms0_17 t).IsWhole := hstage0_17 0
/-- Bookkeeping of one window: its shape, memory space and size. -/
abbrev ms0_18 (t : Fin cfg0.N) : Memref sig .tc .vmem S4x32x128 .f32 := win0_18.stage (cfg0.slots t 18)
/-- Bookkeeping of one window: its shape, memory space and size. -/
abbrev hs0_18 (t : Fin cfg0.N) : (ms0_18 t).IsWhole := hstage0_18 0
/-- Bookkeeping of one window: its shape, memory space and size. -/
abbrev ms0_19 (t : Fin cfg0.N) : Memref sig .tc .vmem S4x32x256 .f32 := win0_19.stage (cfg0.slots t 19)
/-- Bookkeeping of one window: its shape, memory space and size. -/
abbrev hs0_19 (t : Fin cfg0.N) : (ms0_19 t).IsWhole := hstage0_19 0
/-- Bookkeeping of one window: its shape, memory space and size. -/
abbrev ms0_20 (t : Fin cfg0.N) : Memref sig .tc .vmem S4x32x512 .f32 := win0_20.stage (cfg0.slots t 20)
/-- Bookkeeping of one window: its shape, memory space and size. -/
abbrev hs0_20 (t : Fin cfg0.N) : (ms0_20 t).IsWhole := hstage0_20 0

end Cert.KernelIdeal.Gen

end
-- ==== Proof.RunIdeal.Trip.lean ====
module

public import proofs.«01_k».proof.Proof.RunIdeal.Setup

@[expose] public section

noncomputable section

namespace Cert.KernelIdeal.Gen

open Idealize.ShloMosaic Idealize.ShloMosaic.TcCoe
open Idealize.SL Idealize.SL.Sem

variable {F : FTy → Type} [FloatOps F]

/-- One trip of the selection loop as a pure function of the carried values: both groups of candidate planes are
    advanced by one selection each. -/
def trip (v0 : Vec F S4x240x80 .f32) (v1 : Vec F S4x240x80 .f32) (v2 : Vec F S4x240x80 .f32) (v3 : Vec F S4x240x80 .f32) (v4 : Vec F S4x240x80 .f32) (v21 : FVec F S4x240x80 .f32) (v27 : FVec F S4x240x80 .f32) (v28 : IVec S4x32 32) (v33 : FVec F S8x120x40 .f32) (v38 : FVec F S8x120x40 .f32) (v43 : FVec F S8x120x40 .f32) (v48 : FVec F S8x120x40 .f32) (v53 : FVec F S8x120x40 .f32) (v60 : FVec F S4x120x40 .f32) (v61 : IVec S4x3x20x20 32) (v79 : IVec S8x32 32) (cst_59 : F .f32) (cst_60 : F .f32) (k : Fin k0_t1_loop.trips) (acc : Vec F S4x240x80 .f32 × FVec F S4x32 .f32 × FVec F S4x32 .f32 × FVec F S8x120x40 .f32 × FVec F S8x32 .f32 × FVec F S8x32 .f32) : Vec F S4x240x80 .f32 × FVec F S4x32 .f32 × FVec F S4x32 .f32 × FVec F S8x120x40 .f32 × FVec F S8x32 .f32 × FVec F S8x32 .f32 :=
  (k0_pay8 (k0_pay30 v0 v1 v2 v3) acc.1 (k0_pay3 v27 cst_59 acc.1) (k0_pay4 v27 (k0_pay30 v0 v1 v2 v3) cst_59 acc.1)
      (k0_pay5 v0 v2 v27 cst_59 acc.1) (k0_pay6 v3 v27 cst_59 acc.1) (k0_pay7 v1 v27 cst_59 acc.1),
    k0_pay10 v21 v28 acc.2.1 (Scf.iv 0#32 1#32 k) (k0_pay3 v27 cst_59 acc.1),
    k0_pay11 v28 acc.2.2.1 (Scf.iv 0#32 1#32 k) (k0_pay2 acc.1),
    k0_pay17 v33 v38 v43 v48 (k0_pay31 v33 v38 v43 v48) acc.2.2.2.1 (k0_pay14 (k0_pay29 (F := F)) cst_60 acc.2.2.2.1)
      (k0_pay15 v33 (k0_pay29 (F := F)) cst_60 acc.2.2.2.1) (k0_pay16 v38 (k0_pay29 (F := F)) cst_60 acc.2.2.2.1),
    k0_pay34 acc.2.2.2.2.1 (k0_pay18 v79 (Scf.iv 0#32 1#32 k))
      (k0_pay19 (k0_pay28 v60 v61) (k0_pay14 (k0_pay29 (F := F)) cst_60 acc.2.2.2.1)),
    k0_pay35 acc.2.2.2.2.2 (k0_pay13 acc.2.2.2.1) (k0_pay18 v79 (Scf.iv 0#32 1#32 k)))

set_option maxRecDepth 65536 in
/-- The region of the selection loop issues no memory operation: it is the return of `trip`. -/
theorem k0_t1_body_eq_trip (arg0 : Memref sig .tc .vmem S4x240x80 .f32) (harg0 : arg0.IsWhole) (arg1 : Memref sig .tc .vmem S4x240x80 .f32) (harg1 : arg1.IsWhole) (arg2 : Memref sig .tc .vmem S4x240x80 .f32) (harg2 : arg2.IsWhole) (arg3 : Memref sig .tc .vmem S4x240x80 .f32) (harg3 : arg3.IsWhole) (arg4 : Memref sig .tc .vmem S4x240x80 .f32) (harg4 : arg4.IsWhole) (arg5 : Memref sig .tc .vmem S4x120x40 .f32) (harg5 : arg5.IsWhole) (arg6 : Memref sig .tc .vmem S4x120x40 .f32) (harg6 : arg6.IsWhole) (arg7 : Memref sig .tc .vmem S4x120x40 .f32) (harg7 : arg7.IsWhole) (arg8 : Memref sig .tc .vmem S4x120x40 .f32) (harg8 : arg8.IsWhole) (arg9 : Memref sig .tc .vmem S4x120x40 .f32) (harg9 : arg9.IsWhole) (arg10 : Memref sig .tc .vmem S4x60x20 .f32) (harg10 : arg10.IsWhole) (arg11 : Memref sig .tc .vmem S4x60x20 .f32) (harg11 : arg11.IsWhole) (arg12 : Memref sig .tc .vmem S4x60x20 .f32) (harg12 : arg12.IsWhole) (arg13 : Memref sig .tc .vmem S4x60x20 .f32) (harg13 : arg13.IsWhole) (arg14 : Memref sig .tc .vmem S4x60x20 .f32) (harg14 : arg14.IsWhole) (arg15 : Memref sig .tc .vmem S4x128x6400 .f32) (harg15 : arg15.IsWhole) (arg16 : Memref sig .tc .vmem S4x256x1600 .f32) (harg16 : arg16.IsWhole) (arg17 : Memref sig .tc .vmem S4x512x400 .f32) (harg17 : arg17.IsWhole) (arg18 : Memref sig .tc .vmem S4x32x128 .f32) (harg18 : arg18.IsWhole) (arg19 : Memref sig .tc .vmem S4x32x256 .f32) (harg19 : arg19.IsWhole) (arg20 : Memref sig .tc .vmem S4x32x512 .f32) (harg20 : arg20.IsWhole) (v0 : Vec F S4x240x80 .f32) (v1 : Vec F S4x240x80 .f32) (v2 : Vec F S4x240x80 .f32) (v3 : Vec F S4x240x80 .f32) (v4 : Vec F S4x240x80 .f32) (v21 : FVec F S4x240x80 .f32) (v27 : FVec F S4x240x80 .f32) (v28 : IVec S4x32 32) (v33 : FVec F S8x120x40 .f32) (v38 : FVec F S8x120x40 .f32) (v43 : FVec F S8x120x40 .f32) (v48 : FVec F S8x120x40 .f32) (v53 : FVec F S8x120x40 .f32) (v60 : FVec F S4x120x40 .f32) (v61 : IVec S4x3x20x20 32) (v79 : IVec S8x32 32) (cst_59 : F .f32) (cst_60 : F .f32) :
    k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 v2 v3 v4 v21 v27 v28 v33 v38 v43 v48 v53 v60 v61 v79 cst_59 cst_60 = fun k acc => .ret (trip v0 v1 v2 v3 v4 v21 v27 v28 v33 v38 v43 v48 v53 v60 v61 v79 cst_59 cst_60 k acc) := by
  funext k ⟨a, b, c, d, e, f⟩
  rfl

/-- What the selection loop leaves: the trips folded over the initial scores and empty slots. -/
def selected (v0 : Vec F S4x240x80 .f32) (v1 : Vec F S4x240x80 .f32) (v2 : Vec F S4x240x80 .f32) (v3 : Vec F S4x240x80 .f32) (v4 : Vec F S4x240x80 .f32) (v21 : FVec F S4x240x80 .f32) (v27 : FVec F S4x240x80 .f32) (v28 : IVec S4x32 32) (v33 : FVec F S8x120x40 .f32) (v38 : FVec F S8x120x40 .f32) (v43 : FVec F S8x120x40 .f32) (v48 : FVec F S8x120x40 .f32) (v53 : FVec F S8x120x40 .f32) (v60 : FVec F S4x120x40 .f32) (v61 : IVec S4x3x20x20 32) : Vec F S4x240x80 .f32 × FVec F S4x32 .f32 × FVec F S4x32 .f32 × FVec F S8x120x40 .f32 × FVec F S8x32 .f32 × FVec F S8x32 .f32 :=
  Scf.fold (trip v0 v1 v2 v3 v4 v21 v27 v28 v33 v38 v43 v48 v53 v60 v61 (iota .tc S8x32 32 [1] iota_S8x32_d1_w32) (Scalar.ofBits .f32 0x4E6E6B28#32) (Scalar.ofBits .f32 0x4E6E6B28#32))
    (v4, k0_pay32 (F := F), k0_pay32 (F := F), v53, k0_pay33 (F := F), k0_pay33 (F := F))

set_option maxRecDepth 65536 in
/-- The part of the body that holds the loop: the loop replaced by its fold. -/
theorem k0_part6_eq_fold (arg0 : Memref sig .tc .vmem S4x240x80 .f32) (harg0 : arg0.IsWhole) (arg1 : Memref sig .tc .vmem S4x240x80 .f32) (harg1 : arg1.IsWhole) (arg2 : Memref sig .tc .vmem S4x240x80 .f32) (harg2 : arg2.IsWhole) (arg3 : Memref sig .tc .vmem S4x240x80 .f32) (harg3 : arg3.IsWhole) (arg4 : Memref sig .tc .vmem S4x240x80 .f32) (harg4 : arg4.IsWhole) (arg5 : Memref sig .tc .vmem S4x120x40 .f32) (harg5 : arg5.IsWhole) (arg6 : Memref sig .tc .vmem S4x120x40 .f32) (harg6 : arg6.IsWhole) (arg7 : Memref sig .tc .vmem S4x120x40 .f32) (harg7 : arg7.IsWhole) (arg8 : Memref sig .tc .vmem S4x120x40 .f32) (harg8 : arg8.IsWhole) (arg9 : Memref sig .tc .vmem S4x120x40 .f32) (harg9 : arg9.IsWhole) (arg10 : Memref sig .tc .vmem S4x60x20 .f32) (harg10 : arg10.IsWhole) (arg11 : Memref sig .tc .vmem S4x60x20 .f32) (harg11 : arg11.IsWhole) (arg12 : Memref sig .tc .vmem S4x60x20 .f32) (harg12 : arg12.IsWhole) (arg13 : Memref sig .tc .vmem S4x60x20 .f32) (harg13 : arg13.IsWhole) (arg14 : Memref sig .tc .vmem S4x60x20 .f32) (harg14 : arg14.IsWhole) (arg15 : Memref sig .tc .vmem S4x128x6400 .f32) (harg15 : arg15.IsWhole) (arg16 : Memref sig .tc .vmem S4x256x1600 .f32) (harg16 : arg16.IsWhole) (arg17 : Memref sig .tc .vmem S4x512x400 .f32) (harg17 : arg17.IsWhole) (arg18 : Memref sig .tc .vmem S4x32x128 .f32) (harg18 : arg18.IsWhole) (arg19 : Memref sig .tc .vmem S4x32x256 .f32) (harg19 : arg19.IsWhole) (arg20 : Memref sig .tc .vmem S4x32x512 .f32) (harg20 : arg20.IsWhole) (v0 : Vec F S4x240x80 .f32) (v1 : Vec F S4x240x80 .f32) (v2 : Vec F S4x240x80 .f32) (v3 : Vec F S4x240x80 .f32) (v4 : Vec F S4x240x80 .f32) (v21 : FVec F S4x240x80 .f32) (v27 : FVec F S4x240x80 .f32) (v28 : IVec S4x32 32) (v33 : FVec F S8x120x40 .f32) (v38 : FVec F S8x120x40 .f32) (v43 : FVec F S8x120x40 .f32) (v48 : FVec F S8x120x40 .f32) (v53 : FVec F S8x120x40 .f32) (v60 : FVec F S4x120x40 .f32) (v61 : IVec S4x3x20x20 32) :
    k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 v2 v3 v4 v21 v27 v28 v33 v38 v43 v48 v53 v60 v61 = (do
      let v106 : Vec F S1x128x6400 .f32 ← Prog.lift (.load arg15 (Rect.unit (s := S4x128x6400) ![0, 0, 0] S1x128x6400.size inb_S4x128x6400_S1x128x6400_0_0_0).toLoadRect (View.loadsAt_vmem h_S1x128x6400))
      pure ⟨k0_pay36 (selected v0 v1 v2 v3 v4 v21 v27 v28 v33 v38 v43 v48 v53 v60 v61).2.1 (selected v0 v1 v2 v3 v4 v21 v27 v28 v33 v38 v43 v48 v53 v60 v61).2.2.2.2.1, k0_pay37 (selected v0 v1 v2 v3 v4 v21 v27 v28 v33 v38 v43 v48 v53 v60 v61).2.2.1 (selected v0 v1 v2 v3 v4 v21 v27 v28 v33 v38 v43 v48 v53 v60 v61).2.2.2.2.2, k0_pay38 (F := F), k0_pay39 (selected v0 v1 v2 v3 v4 v21 v27 v28 v33 v38 v43 v48 v53 v60 v61).2.1 (selected v0 v1 v2 v3 v4 v21 v27 v28 v33 v38 v43 v48 v53 v60 v61).2.2.1 (selected v0 v1 v2 v3 v4 v21 v27 v28 v33 v38 v43 v48 v53 v60 v61).2.2.2.2.1 (selected v0 v1 v2 v3 v4 v21 v27 v28 v33 v38 v43 v48 v53 v60 v61).2.2.2.2.2, v106⟩ : Prog (TpuEff nD τ sig (Elt F) Λ₀ .tc) (Σ' (v90 : FVec F S12x32 .f32) (v91 : FVec F S12x32 .f32) (v93 : FVec F S32x6400 .f32) (v105 : FVec F S32x6400 .f32), Vec F S1x128x6400 .f32)) := by
  rw [k0_part6_eq_skeleton]; unfold k0_part6_skel
  refine Scf.for_pure_bind _ _ _ _ _ _ (trip v0 v1 v2 v3 v4 v21 v27 v28 v33 v38 v43 v48 v53 v60 v61 (iota .tc S8x32 32 [1] iota_S8x32_d1_w32) (Scalar.ofBits .f32 0x4E6E6B28#32) (Scalar.ofBits .f32 0x4E6E6B28#32)) (fun k acc => ?_) _
  exact congrFun (congrFun (k0_t1_body_eq_trip ..) k) acc

end Cert.KernelIdeal.Gen

end
-- ==== Proof.Value.Spec.lean ====
module

public import Idealize.ShloMosaic.Lib.Pointwise

@[expose] public section

noncomputable section

namespace Cert.Nms

open Idealize.ShloMosaic

/-- `k` is the place of the largest score, the lowest such place where several share it. -/
def IsTop {n : ℕ} (s : Fin n → EReal) (k : Fin n) : Prop := (∀ j, s j ≤ s k) ∧ ∀ j, s j = s k → k ≤ j

/-- A non-empty list of scores has a first largest one. -/
theorem exists_isTop {n : ℕ} [NeZero n] (s : Fin n → EReal) : ∃ k, IsTop s k := by
  classical
  obtain ⟨m, hm⟩ := Finite.exists_max s
  have hne : (Finset.univ.filter fun j => s j = s m).Nonempty := ⟨m, by simp⟩
  refine ⟨(Finset.univ.filter fun j => s j = s m).min' hne, ?_, ?_⟩
  · intro j
    have h := Finset.min'_mem _ hne
    rw [Finset.mem_filter] at h
    rw [h.2]; exact hm j
  · intro j hj
    have h := Finset.min'_mem _ hne
    rw [Finset.mem_filter] at h
    refine Finset.min'_le _ _ ?_
    rw [Finset.mem_filter]
    exact ⟨Finset.mem_univ _, hj.trans h.2⟩

/-- There is only one first largest score. -/
theorem IsTop.unique {n : ℕ} {s : Fin n → EReal} {k l : Fin n} (hk : IsTop s k) (hl : IsTop s l) : k = l := by
  have h : s k = s l := le_antisymm (hl.1 k) (hk.1 l)
  exact le_antisymm (hk.2 l h.symm) (hl.2 k h)

/-- The place of the first largest score. -/
def pick {n : ℕ} [NeZero n] (s : Fin n → EReal) : Fin n := Classical.choose (exists_isTop s)

/-- The greedy choice is a first maximum. -/
theorem pick_isTop {n : ℕ} [NeZero n] (s : Fin n → EReal) : IsTop s (pick s) := Classical.choose_spec (exists_isTop s)

/-- There is only one first maximum. -/
theorem IsTop.eq_pick {n : ℕ} [NeZero n] {s : Fin n → EReal} {k : Fin n} (h : IsTop s k) : k = pick s :=
  h.unique (pick_isTop s)

/-- The corners of one image's candidate boxes. -/
structure Boxes (n : ℕ) where
  x1 : Fin n → EReal
  y1 : Fin n → EReal
  x2 : Fin n → EReal
  y2 : Fin n → EReal

/-- The area of a box given by its corners. -/
def areaOf (x1 y1 x2 y2 : EReal) : EReal := (x2 - x1) * (y2 - y1)

/-- The common area of a box `a` and a box `b`. -/
def interOf (ax1 ay1 ax2 ay2 bx1 by1 bx2 by2 : EReal) : EReal :=
  max (min ax2 bx2 - max ax1 bx1) 0 * max (min ay2 by2 - max ay1 by1) 0

/-- The share of their union that the boxes `a` and `b` have in common. -/
def iouOf (ax1 ay1 ax2 ay2 bx1 by1 bx2 by2 : EReal) : EReal :=
  Ideal.div (interOf ax1 ay1 ax2 ay2 bx1 by1 bx2 by2)
    (areaOf ax1 ay1 ax2 ay2 + areaOf bx1 by1 bx2 by2 - interOf ax1 ay1 ax2 ay2 bx1 by1 bx2 by2)

/-- The overlap from which on a candidate is dropped. -/
def thr : EReal := Ideal.ofBits .f32 0x3F333333#32

/-- The score of a candidate after a selection: dropped where it is the selected one or overlaps it too much. -/
def dropped (self : Prop) [Decidable self] (iou s : EReal) : EReal := if self then ⊥ else if thr < iou then ⊥ else s

/-- One selection: the best candidate and all that overlap it lose their scores. -/
def next {n : ℕ} [NeZero n] (bx : Boxes n) (s : Fin n → EReal) : Fin n → EReal := fun q =>
  dropped (q = pick s)
    (iouOf (bx.x1 (pick s)) (bx.y1 (pick s)) (bx.x2 (pick s)) (bx.y2 (pick s)) (bx.x1 q) (bx.y1 q) (bx.x2 q) (bx.y2 q))
    (s q)

/-- The scores before selection `t`. -/
def scores {n : ℕ} [NeZero n] (bx : Boxes n) (s : Fin n → EReal) (t : ℕ) : Fin n → EReal := (next bx)^[t] s

/-- Before any choice the scores are the given ones. -/
theorem scores_zero {n : ℕ} [NeZero n] (bx : Boxes n) (s : Fin n → EReal) : scores bx s 0 = s := rfl

/-- One choice removes the chosen candidate and what it overlaps. -/
theorem scores_succ {n : ℕ} [NeZero n] (bx : Boxes n) (s : Fin n → EReal) (t : ℕ) :
    scores bx s (t + 1) = next bx (scores bx s t) := Function.iterate_succ_apply' _ _ _

/-- The candidate that selection `d` takes. -/
def chosen {n : ℕ} [NeZero n] (bx : Boxes n) (s : Fin n → EReal) (d : ℕ) : Fin n := pick (scores bx s d)

/-- Whether selection `d` takes a candidate that is still in play. -/
def alive {n : ℕ} [NeZero n] (bx : Boxes n) (s : Fin n → EReal) (d : ℕ) : Prop := scores bx s d (chosen bx s d) ≠ ⊥

end Cert.Nms

end
-- ==== Proof.Value.Cells.lean ====
module

public import Idealize.ShloMosaic.Lib.Pointwise
public import Idealize.ShloMosaic.Lib.Exec.Context
public import proofs.«01_k».proof.Proof.Value.Spec

@[expose] public section

noncomputable section

namespace Cert.Nms

open Idealize.ShloMosaic

/-- The float word of minus infinity is the least extended real. -/
theorem ofBits_negInf : Ideal.ofBits .f32 0xFF800000#32 = (⊥ : EReal) := by
  simp [Ideal.ofBits, Ideal.ieee]

/-- The float word of plus infinity is the greatest extended real. -/
theorem ofBits_posInf : Ideal.ofBits .f32 0x7F800000#32 = (⊤ : EReal) := by
  simp [Ideal.ofBits, Ideal.ieee]

/-- The kernel's filler index is one thousand million. -/
theorem ofBits_filler : Ideal.ofBits .f32 0x4E6E6B28#32 = ((1000000000 : ℝ) : EReal) := by
  simp [Ideal.ofBits, Ideal.ieee]
  exact_mod_cast (by norm_num : (15625000 : ℝ) * 2 ^ 6 = 1000000000)

/-- A maximum over all cells is the value of a cell that no cell exceeds. -/
theorem fold_max_top {P : Type} [Fintype P] (f : P → EReal) (p0 : P) (h : ∀ p, f p ≤ f p0) :
    Finset.fold max (Ideal.ofBits .f32 0xFF800000#32) f Finset.univ = f p0 := by
  refine le_antisymm ?_ ?_
  · rw [Finset.fold_max_le]
    exact ⟨by rw [ofBits_negInf]; exact bot_le, fun p _ => h p⟩
  · rw [Finset.le_fold_max]
    exact Or.inr ⟨p0, Finset.mem_univ _, le_refl _⟩

/-- A minimum over all cells is the value of a cell that exceeds no cell. -/
theorem fold_min_least {P : Type} [Fintype P] (f : P → EReal) (p0 : P) (h : ∀ p, f p0 ≤ f p) :
    Finset.fold min (Ideal.ofBits .f32 0x7F800000#32) f Finset.univ = f p0 := by
  refine le_antisymm ?_ ?_
  · rw [Finset.fold_min_le]
    exact Or.inr ⟨p0, Finset.mem_univ _, le_refl _⟩
  · rw [Finset.le_fold_min]
    exact ⟨by rw [ofBits_posInf]; exact le_top, fun p _ => h p⟩

/-- An elementwise choice is an if-then-else at each position. -/
theorem select_ite {α : Type} (p : Prop) [Decidable p] (a b : α) :
    Scalar.select (if p then 1#1 else 0#1) a b = if p then a else b := by
  by_cases h : p <;> simp [h, Scalar.select]

/-- An elementwise choice is an if-then-else at each position. -/
theorem select_eq {α : Type} {w : ℕ} (x y : BitVec w) (a b : α) : Scalar.select (IntOp.cmpi .eq x y) a b = if x = y then a else b := by
  by_cases h : x = y
  · subst h; simp [Scalar.select, IntOp.cmpi]
  · have h' : (x == y) = false := by simpa using h
    simp [Scalar.select, IntOp.cmpi, h, h']

/-- A small natural number survives the 32-bit word it is written in. -/
theorem toInt_ofNat_small (n : ℕ) (h : n < 2 ^ 31) : (BitVec.ofNat 32 n).toInt = (n : ℤ) := by
  rw [BitVec.toInt_eq_toNat_of_lt]
  · simp; omega
  · simp; omega

/-- The word of a small natural number, read as a real, is that number. -/
theorem word_nat (n : ℕ) (h : n < 2 ^ 31) : (BitVec.ofNat 32 n).toInt.toNat = n := by
  rw [toInt_ofNat_small n h]
  simp

/-- Words of different small numbers are different. -/
theorem word_inj (n k : ℕ) (hn : n < 2 ^ 31) (hk : k < 2 ^ 31) : BitVec.ofNat 32 n = BitVec.ofNat 32 k ↔ n = k := by
  rw [← BitVec.toNat_inj]
  simp only [BitVec.toNat_ofNat]
  omega

/-- A small word read as a number. -/
theorem sitofp_ofNat (n : ℕ) (h : n < 2 ^ 31) :
    (FloatOps.sitofp (F := Ideal) .f32 (BitVec.ofNat 32 n) : EReal) = ((n : ℝ) : EReal) := by
  show (((BitVec.ofNat 32 n).toInt : ℝ) : EReal) = _
  rw [toInt_ofNat_small n h]
  simp

/-- A fold over the trips in order keeps what each trip keeps. -/
theorem fold_keeps {n : ℕ} {σ : Type} (P : ℕ → σ → Prop) (g : Fin n → σ → σ) (init : σ) (h0 : P 0 init)
    (hs : ∀ (k : Fin n) (acc : σ), P k.val acc → P (k.val + 1) (g k acc)) : P n (Scf.fold g init) := by
  rw [Scf.fold_eq]
  induction n with
  | zero => simpa using h0
  | succ n ih =>
    rw [List.finRange_succ_last, List.foldl_append, List.foldl_map]
    exact hs (Fin.last n) _ (ih (fun k acc => g k.castSucc acc) (fun k acc h => hs k.castSucc acc h))

/-- The number of a cell: `w` cells in a row. -/
theorem sitofp_lin (r w c : ℕ) (h : r * w + c < 2 ^ 31) :
    (FloatOps.sitofp (F := Ideal) .f32 (IntOp.addi (IntOp.muli (BitVec.ofNat 32 r) (BitVec.ofNat 32 w)) (BitVec.ofNat 32 c)) : EReal)
      = (((r * w + c : ℕ) : ℝ) : EReal) := by
  have : IntOp.addi (IntOp.muli (BitVec.ofNat 32 r) (BitVec.ofNat 32 w)) (BitVec.ofNat 32 c) = BitVec.ofNat 32 (r * w + c) := by
    show BitVec.ofNat 32 r * BitVec.ofNat 32 w + BitVec.ofNat 32 c = _
    rw [BitVec.ofNat_add, BitVec.ofNat_mul]
  rw [this]
  exact sitofp_ofNat _ h

/-- A condition made a number: one where it holds, nothing elsewhere. -/
theorem sitofp_flag (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p <;> simp [h]

/-- The order of naturals is that of the extended reals they embed to. -/
theorem nat_real_le {a b : ℕ} : (((a : ℝ) : EReal) ≤ ((b : ℝ) : EReal)) ↔ a ≤ b := by
  rw [EReal.coe_le_coe_iff, Nat.cast_le]

/-- Different naturals are different extended reals. -/
theorem nat_real_inj {a b : ℕ} : (((a : ℝ) : EReal) = ((b : ℝ) : EReal)) ↔ a = b := by
  rw [EReal.coe_eq_coe_iff, Nat.cast_inj]

variable {R C n : ℕ}

/-- The number of a cell in a plane of `C` columns. -/
def cellNo (p : Fin R × Fin C) : ℕ := p.1.val * C + p.2.val

/-- Different cells have different linear numbers. -/
theorem cellNo_inj {p q : Fin R × Fin C} (h : cellNo p = cellNo q) : p = q := by
  obtain ⟨⟨r, hr⟩, ⟨c, hc⟩⟩ := p
  obtain ⟨⟨r', hr'⟩, ⟨c', hc'⟩⟩ := q
  unfold cellNo at h
  simp only at h
  have h1 : r = r' := by
    have : (r * C + c) / C = (r' * C + c') / C := congrArg (fun k => k / C) h
    rw [Nat.add_comm, Nat.add_comm (r' * C), Nat.add_mul_div_right _ _ (by omega), Nat.add_mul_div_right _ _ (by omega),
      Nat.div_eq_of_lt hc, Nat.div_eq_of_lt hc'] at this
    omega
  subst h1
  have h2 : c = c' := by omega
  subst h2
  rfl

/-- The candidates laid out over a plane in their order, the first in the first cell. -/
structure Laid [NeZero n] (φ : Fin n → Fin R × Fin C) : Prop where
  mono : ∀ q q', q ≤ q' → cellNo (φ q) ≤ cellNo (φ q')
  inj : ∀ q q', φ q = φ q' → q = q'
  zero : cellNo (φ 0) = 0

/-- A plane holds the candidates' scores, and no score elsewhere. -/
structure Holds (φ : Fin n → Fin R × Fin C) (s : Fin R → Fin C → EReal) (S : Fin n → EReal) : Prop where
  on : ∀ q, s (φ q).1 (φ q).2 = S q
  off : ∀ r c, (∀ q, φ q ≠ (r, c)) → s r c = ⊥

/-- The cell of the candidate that is taken next. -/
theorem Holds.top [NeZero n] {φ : Fin n → Fin R × Fin C} {s : Fin R → Fin C → EReal} {S : Fin n → EReal}
    (hφ : Laid φ) (h : Holds φ s S) :
    (∀ r c, s r c ≤ s (φ (pick S)).1 (φ (pick S)).2)
      ∧ ∀ r c, s r c = s (φ (pick S)).1 (φ (pick S)).2 → cellNo (φ (pick S)) ≤ cellNo (r, c) := by
  have hp := pick_isTop S
  rw [h.on]
  refine ⟨fun r c => ?_, fun r c hrc => ?_⟩
  · by_cases hq : ∃ q, φ q = (r, c)
    · obtain ⟨q, hq⟩ := hq
      have := h.on q
      rw [hq] at this
      rw [this]; exact hp.1 q
    · rw [h.off r c (fun q e => hq ⟨q, e⟩)]; exact bot_le
  · by_cases hq : ∃ q, φ q = (r, c)
    · obtain ⟨q, hq⟩ := hq
      have := h.on q
      rw [hq] at this
      rw [← hq]
      refine hφ.mono _ _ (hp.2 q ?_)
      rw [← this]; exact hrc
    · rw [h.off r c (fun q e => hq ⟨q, e⟩)] at hrc
      have h0 : pick S = 0 := by
        refine le_antisymm (hp.2 0 ?_) (Nat.zero_le _)
        rw [← hrc]
        exact le_bot_iff.mp (hrc ▸ hp.1 0)
      rw [h0, hφ.zero]; exact Nat.zero_le _

/-- What holds of one image's selection state after `t` selections. -/
structure SelInv [NeZero n] (φ : Fin n → Fin R × Fin C) (bx : Boxes n) (S0 : Fin n → EReal) (pm : Fin R → Fin C → EReal) (t : ℕ)
    (s : Fin R → Fin C → EReal) (pix val : Fin 32 → EReal) : Prop where
  holds : Holds φ s (scores bx S0 t)
  pix_eq : ∀ d : Fin 32, d.val < t → pix d = pm (φ (chosen bx S0 d.val)).1 (φ (chosen bx S0 d.val)).2
  val_one : ∀ d : Fin 32, d.val < t → alive bx S0 d.val → val d = 1
  val_zero : ∀ d : Fin 32, d.val < t → ¬ alive bx S0 d.val → val d = 0

/-- Before the first selection. -/
theorem SelInv.start [NeZero n] {φ : Fin n → Fin R × Fin C} {bx : Boxes n} {S0 : Fin n → EReal} {pm : Fin R → Fin C → EReal}
    {s : Fin R → Fin C → EReal} {pix val : Fin 32 → EReal} (h : Holds φ s S0) : SelInv φ bx S0 pm 0 s pix val :=
  ⟨h, fun _ hd => absurd hd (Nat.not_lt_zero _), fun _ hd => absurd hd (Nat.not_lt_zero _), fun _ hd => absurd hd (Nat.not_lt_zero _)⟩

/-- One selection keeps what holds of an image's selection state. -/
theorem SelInv.step [NeZero n] {φ : Fin n → Fin R × Fin C} {bx : Boxes n} {S0 : Fin n → EReal} {pm : Fin R → Fin C → EReal}
    {t : ℕ} {s s' x1 y1 x2 y2 : Fin R → Fin C → EReal} {pix val pix' val' : Fin 32 → EReal} (hφ : Laid φ)
    (hx1 : ∀ q, x1 (φ q).1 (φ q).2 = bx.x1 q) (hy1 : ∀ q, y1 (φ q).1 (φ q).2 = bx.y1 q)
    (hx2 : ∀ q, x2 (φ q).1 (φ q).2 = bx.x2 q) (hy2 : ∀ q, y2 (φ q).1 (φ q).2 = bx.y2 q)
    (h : SelInv φ bx S0 pm t s pix val) (r0 : Fin R) (c0 : Fin C) (hp0 : φ (pick (scores bx S0 t)) = (r0, c0))
    (hs : ∀ r c, s' r c = dropped (r = r0 ∧ c = c0)
      (iouOf (x1 r0 c0) (y1 r0 c0) (x2 r0 c0) (y2 r0 c0) (x1 r c) (y1 r c) (x2 r c) (y2 r c)) (s r c))
    (hp : ∀ d, pix' d = if d.val = t then pm r0 c0 else pix d)
    (hv : ∀ d, val' d = if d.val = t then (if s r0 c0 ≠ ⊥ then 1 else 0) else val d) :
    SelInv φ bx S0 pm (t + 1) s' pix' val' := by
  have hch : φ (chosen bx S0 t) = (r0, c0) := hp0
  have hs0 : s r0 c0 = scores bx S0 t (pick (scores bx S0 t)) := by
    have := h.holds.on (pick (scores bx S0 t))
    rw [hp0] at this
    exact this
  refine ⟨⟨fun q => ?_, fun r c hrc => ?_⟩, fun d hd => ?_, fun d hd ha => ?_, fun d hd ha => ?_⟩
  · rw [scores_succ, hs, hx1, hy1, hx2, hy2, h.holds.on]
    have e1 := hx1 (pick (scores bx S0 t))
    have e2 := hy1 (pick (scores bx S0 t))
    have e3 := hx2 (pick (scores bx S0 t))
    have e4 := hy2 (pick (scores bx S0 t))
    rw [hp0] at e1 e2 e3 e4
    rw [show x1 r0 c0 = _ from e1, show y1 r0 c0 = _ from e2, show x2 r0 c0 = _ from e3, show y2 r0 c0 = _ from e4]
    unfold next dropped
    have hiff : ((φ q).1 = r0 ∧ (φ q).2 = c0) ↔ q = pick (scores bx S0 t) := by
      constructor
      · rintro ⟨e, e'⟩
        refine hφ.inj _ _ ?_
        rw [hp0]; exact Prod.ext e e'
      · rintro rfl
        rw [hp0]; exact ⟨rfl, rfl⟩
    by_cases hq : q = pick (scores bx S0 t)
    · rw [if_pos (hiff.mpr hq), if_pos hq]
    · rw [if_neg (fun e => hq (hiff.mp e)), if_neg hq]
  · rw [hs, h.holds.off r c hrc]
    unfold dropped
    split_ifs <;> rfl
  · rw [hp]
    by_cases e : d.val = t
    · rw [if_pos e, e, hch]
    · rw [if_neg e]; exact h.pix_eq d (by omega)
  · rw [hv]
    by_cases e : d.val = t
    · rw [if_pos e, if_pos]
      rw [hs0]; rw [e] at ha; exact ha
    · rw [if_neg e]; exact h.val_one d (by omega) ha
  · rw [hv]
    by_cases e : d.val = t
    · rw [if_pos e, if_neg]
      rw [hs0]; rw [e] at ha; exact ha
    · rw [if_neg e]; exact h.val_zero d (by omega) ha

end Cert.Nms

end
-- ==== Proof.Value.GroupA.lean ====
module

public import proofs.«01_k».proof.Proof.RunIdeal.Trip
public import Idealize.ShloMosaic.Lib.Pointwise
public import proofs.«01_k».proof.Proof.Value.Cells

@[expose] public section

noncomputable section

namespace Cert.KernelIdeal.Value

open Cert.KernelIdeal Cert.KernelIdeal.Gen Idealize.ShloMosaic
open Idealize.ShloMosaic.Pointwise Cert.Nms

/-- The kernel's numbering of the cells of the first level. -/
theorem linA (b : Fin 4) (r : Fin 240) (c : Fin 80) :
    (k0_pay21 (F := Ideal) (ix3 b r c) : EReal) = ((cellNo (r, c) : ℝ) : EReal) := by
  unfold k0_pay21
  pointwise
  exact sitofp_lin r.val 80 c.val (by omega)

/-- The cell that the kernel marks in the first level: the first of those with the largest score. -/
theorem selA (s : FVec Ideal S4x240x80 .f32) (f : Ideal .f32) (hf : f = ((1000000000 : ℝ) : EReal)) (b : Fin 4) (r0 : Fin 240) (c0 : Fin 80)
    (hmax : ∀ r c, s (ix3 b r c) ≤ s (ix3 b r0 c0))
    (hmin : ∀ r c, s (ix3 b r c) = s (ix3 b r0 c0) → cellNo (r0, c0) ≤ cellNo (r, c)) (r : Fin 240) (c : Fin 80) :
    k0_pay3 (k0_pay21 (F := Ideal)) f s (ix3 b r c) = if r = r0 ∧ c = c0 then 1#1 else 0#1 := by
  unfold k0_pay3 k0_pay1
  pointwise
  rw [fold_max_top (p0 := ((r0, c0) : Fin 240 × Fin 80)), fold_min_least (p0 := ((r0, c0) : Fin 240 × Fin 80))]
  · rw [if_pos rfl, linA, linA]
    by_cases h : r = r0 ∧ c = c0
    · obtain ⟨rfl, rfl⟩ := h
      simp
    · rw [if_neg h, decide_eq_false]
      · rfl
      · intro e
        have := cellNo_inj (nat_real_inj.mp e)
        exact h ⟨congrArg Prod.fst this, congrArg Prod.snd this⟩
  · rintro ⟨r, c⟩
    rw [if_pos rfl]
    split_ifs with h
    · rw [linA, linA]
      exact nat_real_le.mpr (hmin r c h)
    · rw [linA, hf, EReal.coe_le_coe_iff]
      have h1 := r0.isLt
      have h2 := c0.isLt
      have : cellNo (r0, c0) ≤ 1000000000 := by
        unfold cellNo
        simp only
        omega
      exact_mod_cast this
  · rintro ⟨r, c⟩
    exact hmax r c

/-- The scores of the first level after a selection. -/
theorem stepA (v0 v1 v2 v3 lin s : FVec Ideal S4x240x80 .f32) (f : Ideal .f32) (b : Fin 4) (r0 : Fin 240) (c0 : Fin 80)
    (hs : ∀ r c, k0_pay3 lin f s (ix3 b r c) = if r = r0 ∧ c = c0 then 1#1 else 0#1) (r : Fin 240) (c : Fin 80) :
    (k0_pay8 (k0_pay30 v0 v1 v2 v3) s (k0_pay3 lin f s) (k0_pay4 lin (k0_pay30 v0 v1 v2 v3) f s) (k0_pay5 v0 v2 lin f s) (k0_pay6 v3 lin f s) (k0_pay7 v1 lin f s) (ix3 b r c) : EReal)
      = dropped (r = r0 ∧ c = c0)
          (iouOf (v0 (ix3 b r0 c0)) (v1 (ix3 b r0 c0)) (v2 (ix3 b r0 c0)) (v3 (ix3 b r0 c0))
            (v0 (ix3 b r c)) (v1 (ix3 b r c)) (v2 (ix3 b r c)) (v3 (ix3 b r c))) (s (ix3 b r c)) := by
  generalize hsel : k0_pay3 lin f s = sel at hs
  simp only [k0_pay8, k0_pay30, k0_pay4, k0_pay5, k0_pay6, k0_pay7, hsel]
  pointwise
  simp only [hs, select_ite]
  simp only [ite_and, Finset.sum_ite_irrel, Finset.sum_const_zero, Finset.sum_ite_eq', Finset.mem_univ, if_true,
    dropped, iouOf, interOf, areaOf, thr, ofBits_negInf]
  first | rfl | congr!

/-- The pixel slots of the first level after a selection. -/
theorem pixA (pm : FVec Ideal S4x240x80 .f32) (i : IVec S4x32 32) (a : FVec Ideal S4x32 .f32) (t : BitVec 32) (sel : IVec S4x240x80 1)
    (b : Fin 4) (r0 : Fin 240) (c0 : Fin 80)
    (hs : ∀ r c, sel (ix3 b r c) = if r = r0 ∧ c = c0 then 1#1 else 0#1) (d : Fin 32) :
    (k0_pay10 pm i a t sel (ix2 b d) : EReal) = if i (ix2 b d) = t then pm (ix3 b r0 c0) else a (ix2 b d) := by
  simp only [k0_pay10, k0_pay9]
  pointwise
  simp only [hs, select_ite]
  simp only [ite_and, Finset.sum_ite_irrel, Finset.sum_const_zero, Finset.sum_ite_eq', Finset.mem_univ, if_true]
  exact select_eq _ _ _ _

/-- The slots of the first level that say whether a candidate was taken, after a selection. -/
theorem valA (s : FVec Ideal S4x240x80 .f32) (i : IVec S4x32 32) (a : FVec Ideal S4x32 .f32) (t : BitVec 32)
    (b : Fin 4) (r0 : Fin 240) (c0 : Fin 80) (hmax : ∀ r c, s (ix3 b r c) ≤ s (ix3 b r0 c0)) (d : Fin 32) :
    (k0_pay11 i a t (k0_pay2 s) (ix2 b d) : EReal)
      = if i (ix2 b d) = t then (if s (ix3 b r0 c0) ≠ (⊥ : EReal) then 1 else 0) else a (ix2 b d) := by
  simp only [k0_pay11, k0_pay9, k0_pay2, k0_pay1]
  pointwise
  rw [fold_max_top (p0 := ((r0, c0) : Fin 240 × Fin 80)), sitofp_flag, ofBits_negInf]
  · exact select_eq _ _ _ _
  · rintro ⟨r, c⟩
    exact hmax r c

end Cert.KernelIdeal.Value

end
-- ==== Proof.Value.GroupB.lean ====
module

public import proofs.«01_k».proof.Proof.RunIdeal.Trip
public import Idealize.ShloMosaic.Lib.Pointwise
public import proofs.«01_k».proof.Proof.Value.Cells

@[expose] public section

noncomputable section

namespace Cert.KernelIdeal.Value

open Cert.KernelIdeal Cert.KernelIdeal.Gen Idealize.ShloMosaic
open Idealize.ShloMosaic.Pointwise Cert.Nms

/-- The kernel's numbering of the cells of the second and third level. -/
theorem linB (b : Fin 8) (r : Fin 120) (c : Fin 40) :
    (k0_pay29 (F := Ideal) (ix3 b r c) : EReal) = ((cellNo (r, c) : ℝ) : EReal) := by
  unfold k0_pay29
  pointwise
  exact sitofp_lin r.val 40 c.val (by omega)

/-- The cell that the kernel marks in the second and third level: the first of those with the largest score. -/
theorem selB (s : FVec Ideal S8x120x40 .f32) (f : Ideal .f32) (hf : f = ((1000000000 : ℝ) : EReal)) (b : Fin 8) (r0 : Fin 120) (c0 : Fin 40)
    (hmax : ∀ r c, s (ix3 b r c) ≤ s (ix3 b r0 c0))
    (hmin : ∀ r c, s (ix3 b r c) = s (ix3 b r0 c0) → cellNo (r0, c0) ≤ cellNo (r, c)) (r : Fin 120) (c : Fin 40) :
    k0_pay14 (k0_pay29 (F := Ideal)) f s (ix3 b r c) = if r = r0 ∧ c = c0 then 1#1 else 0#1 := by
  unfold k0_pay14 k0_pay12
  pointwise
  rw [fold_max_top (p0 := ((r0, c0) : Fin 120 × Fin 40)), fold_min_least (p0 := ((r0, c0) : Fin 120 × Fin 40))]
  · rw [if_pos rfl, linB, linB]
    by_cases h : r = r0 ∧ c = c0
    · obtain ⟨rfl, rfl⟩ := h
      simp
    · rw [if_neg h, decide_eq_false]
      · rfl
      · intro e
        have := cellNo_inj (nat_real_inj.mp e)
        exact h ⟨congrArg Prod.fst this, congrArg Prod.snd this⟩
  · rintro ⟨r, c⟩
    rw [if_pos rfl]
    split_ifs with h
    · rw [linB, linB]
      exact nat_real_le.mpr (hmin r c h)
    · rw [linB, hf, EReal.coe_le_coe_iff]
      have h1 := r0.isLt
      have h2 := c0.isLt
      have : cellNo (r0, c0) ≤ 1000000000 := by
        unfold cellNo
        simp only
        omega
      exact_mod_cast this
  · rintro ⟨r, c⟩
    exact hmax r c

/-- The scores of the second and third level after a selection. -/
theorem stepB (v0 v1 v2 v3 lin s : FVec Ideal S8x120x40 .f32) (f : Ideal .f32) (b : Fin 8) (r0 : Fin 120) (c0 : Fin 40)
    (hs : ∀ r c, k0_pay14 lin f s (ix3 b r c) = if r = r0 ∧ c = c0 then 1#1 else 0#1) (r : Fin 120) (c : Fin 40) :
    (k0_pay17 v0 v1 v2 v3 (k0_pay31 v0 v1 v2 v3) s (k0_pay14 lin f s) (k0_pay15 v0 lin f s) (k0_pay16 v1 lin f s) (ix3 b r c) : EReal)
      = dropped (r = r0 ∧ c = c0)
          (iouOf (v0 (ix3 b r0 c0)) (v1 (ix3 b r0 c0)) (v2 (ix3 b r0 c0)) (v3 (ix3 b r0 c0))
            (v0 (ix3 b r c)) (v1 (ix3 b r c)) (v2 (ix3 b r c)) (v3 (ix3 b r c))) (s (ix3 b r c)) := by
  generalize hsel : k0_pay14 lin f s = sel at hs
  simp only [k0_pay17, k0_pay31, k0_pay15, k0_pay16, hsel]
  pointwise
  simp only [hs, select_ite]
  simp only [ite_and, Finset.sum_ite_irrel, Finset.sum_const_zero, Finset.sum_ite_eq', Finset.mem_univ, if_true,
    dropped, iouOf, interOf, areaOf, thr, ofBits_negInf]
  first | rfl | congr!

/-- The pixel slots of the second and third level after a selection. -/
theorem pixB (pm : FVec Ideal S8x120x40 .f32) (i : IVec S8x32 32) (a : FVec Ideal S8x32 .f32) (t : BitVec 32) (sel : IVec S8x120x40 1)
    (b : Fin 8) (r0 : Fin 120) (c0 : Fin 40)
    (hs : ∀ r c, sel (ix3 b r c) = if r = r0 ∧ c = c0 then 1#1 else 0#1) (d : Fin 32) :
    (k0_pay34 a (k0_pay18 i t) (k0_pay19 pm sel) (ix2 b d) : EReal) = if i (ix2 b d) = t then pm (ix3 b r0 c0) else a (ix2 b d) := by
  simp only [k0_pay34, k0_pay18, k0_pay19]
  pointwise
  simp only [hs, select_ite]
  simp only [ite_and, Finset.sum_ite_irrel, Finset.sum_const_zero, Finset.sum_ite_eq', Finset.mem_univ, if_true]
  exact select_eq _ _ _ _

/-- The slots of the second and third level that say whether a candidate was taken, after a selection. -/
theorem valB (s : FVec Ideal S8x120x40 .f32) (i : IVec S8x32 32) (a : FVec Ideal S8x32 .f32) (t : BitVec 32)
    (b : Fin 8) (r0 : Fin 120) (c0 : Fin 40) (hmax : ∀ r c, s (ix3 b r c) ≤ s (ix3 b r0 c0)) (d : Fin 32) :
    (k0_pay35 a (k0_pay13 s) (k0_pay18 i t) (ix2 b d) : EReal)
      = if i (ix2 b d) = t then (if s (ix3 b r0 c0) ≠ (⊥ : EReal) then 1 else 0) else a (ix2 b d) := by
  simp only [k0_pay35, k0_pay18, k0_pay13, k0_pay12]
  pointwise
  rw [fold_max_top (p0 := ((r0, c0) : Fin 120 × Fin 40)), sitofp_flag, ofBits_negInf]
  · exact select_eq _ _ _ _
  · rintro ⟨r, c⟩
    exact hmax r c

end Cert.KernelIdeal.Value

end
-- ==== Proof.Value.Selected.lean ====
module

public import proofs.«01_k».proof.Proof.Value.GroupA
public import proofs.«01_k».proof.Proof.Value.GroupB

@[expose] public section

set_option maxRecDepth 16384

noncomputable section

namespace Cert.KernelIdeal.Value

open Cert.KernelIdeal Cert.KernelIdeal.Gen Idealize.ShloMosaic
open Idealize.ShloMosaic.Pointwise Cert.Nms

/-- Two loop counters are equal exactly when their numbers are. -/
theorem iv_eq_iff (k d : ℕ) (hk : k < 32) (hd : d < 32) : (BitVec.ofNat 32 d = Scf.iv 0#32 1#32 k) ↔ d = k := by
  have e : Scf.iv 0#32 1#32 k = BitVec.ofNat 32 k := by simp [Scf.iv]
  rw [e, ← BitVec.toNat_inj]
  simp only [BitVec.toNat_ofNat]
  omega

/-- The loop makes 25 trips. -/
theorem trips_eq : k0_t1_loop.trips = 25 := by decide

/-- A padding candidate never has a finite score. -/
theorem filler_eq : (FloatOps.ofBits (F := Ideal) .f32 0x4E6E6B28#32) = ((1000000000 : ℝ) : EReal) := ofBits_filler

/-- A trip of group A writes its own slot and keeps the others. -/
theorem slot_A (b : Fin 4) (d : Fin 32) : (iota .tc S4x32 32 [1] iota_S4x32_d1_w32) (ix2 b d) = BitVec.ofNat 32 d.val := by
  pointwise

/-- A trip of group B writes its own slot and keeps the others. -/
theorem slot_B (b : Fin 8) (d : Fin 32) : (iota .tc S8x32 32 [1] iota_S8x32_d1_w32) (ix2 b d) = BitVec.ofNat 32 d.val := by
  pointwise

variable (v0 v1 v2 v3 v4 : FVec Ideal S4x240x80 .f32) (v33 v38 v43 v48 v53 : FVec Ideal S8x120x40 .f32)
  (v60 : FVec Ideal S4x120x40 .f32) (v61 : IVec S4x3x20x20 32)

/-- What the kernel's loop leaves when it is done. -/
def loopOut := selected v0 v1 v2 v3 v4 (k0_pay20 (F := Ideal)) (k0_pay21 (F := Ideal)) (iota .tc S4x32 32 [1] iota_S4x32_d1_w32)
  v33 v38 v43 v48 v53 v60 v61

/-- The loop of the kernel makes its selections for an image of the first level. -/
theorem selected_A {n : ℕ} [NeZero n] (b : Fin 4) (φ : Fin n → Fin 240 × Fin 80) (hφ : Laid φ) (bx : Boxes n) (S0 : Fin n → EReal)
    (hx1 : ∀ q, v0 (ix3 b (φ q).1 (φ q).2) = bx.x1 q) (hy1 : ∀ q, v1 (ix3 b (φ q).1 (φ q).2) = bx.y1 q)
    (hx2 : ∀ q, v2 (ix3 b (φ q).1 (φ q).2) = bx.x2 q) (hy2 : ∀ q, v3 (ix3 b (φ q).1 (φ q).2) = bx.y2 q)
    (hS : Holds φ (fun r c => v4 (ix3 b r c)) S0) :
    SelInv φ bx S0 (fun r c => k0_pay20 (F := Ideal) (ix3 b r c)) 25
      (fun r c => (loopOut v0 v1 v2 v3 v4 v33 v38 v43 v48 v53 v60 v61).1 (ix3 b r c))
      (fun d => (loopOut v0 v1 v2 v3 v4 v33 v38 v43 v48 v53 v60 v61).2.1 (ix2 b d))
      (fun d => (loopOut v0 v1 v2 v3 v4 v33 v38 v43 v48 v53 v60 v61).2.2.1 (ix2 b d)) := by
  rw [← trips_eq]
  refine fold_keeps (σ := FVec Ideal S4x240x80 .f32 × FVec Ideal S4x32 .f32 × FVec Ideal S4x32 .f32 × FVec Ideal S8x120x40 .f32 × FVec Ideal S8x32 .f32 × FVec Ideal S8x32 .f32)
    (fun t acc => SelInv φ bx S0 (fun r c => k0_pay20 (F := Ideal) (ix3 b r c)) t (fun r c => acc.1 (ix3 b r c))
    (fun d => acc.2.1 (ix2 b d)) (fun d => acc.2.2.1 (ix2 b d))) _ _ (SelInv.start hS) (fun k acc h => ?_)
  have hk : k.val < 32 := lt_of_lt_of_le k.isLt (by rw [trips_eq]; omega)
  dsimp only [trip]
  obtain ⟨hmax, hmin⟩ := h.holds.top hφ
  have hsel := selA acc.1 (FloatOps.ofBits (F := Ideal) .f32 0x4E6E6B28#32) filler_eq b _ _ hmax hmin
  refine h.step (x1 := fun r c => v0 (ix3 b r c)) (y1 := fun r c => v1 (ix3 b r c)) (x2 := fun r c => v2 (ix3 b r c))
    (y2 := fun r c => v3 (ix3 b r c)) hφ hx1 hy1 hx2 hy2 _ _ rfl ?_ ?_ ?_
  · intro r c
    exact stepA v0 v1 v2 v3 (k0_pay21 (F := Ideal)) acc.1 (FloatOps.ofBits (F := Ideal) .f32 0x4E6E6B28#32) b _ _ hsel r c
  · intro d
    refine (pixA _ _ _ _ _ b _ _ hsel d).trans ?_
    rw [slot_A, if_congr (iv_eq_iff k.val d.val hk d.isLt) rfl rfl]
  · intro d
    refine (valA _ _ _ _ b _ _ hmax d).trans ?_
    rw [slot_A, if_congr (iv_eq_iff k.val d.val hk d.isLt) rfl rfl]

/-- The loop of the kernel makes its selections for an image of the second or the third level. -/
theorem selected_B {n : ℕ} [NeZero n] (b : Fin 8) (φ : Fin n → Fin 120 × Fin 40) (hφ : Laid φ) (bx : Boxes n) (S0 : Fin n → EReal)
    (hx1 : ∀ q, v33 (ix3 b (φ q).1 (φ q).2) = bx.x1 q) (hy1 : ∀ q, v38 (ix3 b (φ q).1 (φ q).2) = bx.y1 q)
    (hx2 : ∀ q, v43 (ix3 b (φ q).1 (φ q).2) = bx.x2 q) (hy2 : ∀ q, v48 (ix3 b (φ q).1 (φ q).2) = bx.y2 q)
    (hS : Holds φ (fun r c => v53 (ix3 b r c)) S0) :
    SelInv φ bx S0 (fun r c => k0_pay28 v60 v61 (ix3 b r c)) 25
      (fun r c => (loopOut v0 v1 v2 v3 v4 v33 v38 v43 v48 v53 v60 v61).2.2.2.1 (ix3 b r c))
      (fun d => (loopOut v0 v1 v2 v3 v4 v33 v38 v43 v48 v53 v60 v61).2.2.2.2.1 (ix2 b d))
      (fun d => (loopOut v0 v1 v2 v3 v4 v33 v38 v43 v48 v53 v60 v61).2.2.2.2.2 (ix2 b d)) := by
  rw [← trips_eq]
  refine fold_keeps (σ := FVec Ideal S4x240x80 .f32 × FVec Ideal S4x32 .f32 × FVec Ideal S4x32 .f32 × FVec Ideal S8x120x40 .f32 × FVec Ideal S8x32 .f32 × FVec Ideal S8x32 .f32)
    (fun t acc => SelInv φ bx S0 (fun r c => k0_pay28 v60 v61 (ix3 b r c)) t (fun r c => acc.2.2.2.1 (ix3 b r c))
    (fun d => acc.2.2.2.2.1 (ix2 b d)) (fun d => acc.2.2.2.2.2 (ix2 b d))) _ _ (SelInv.start hS) (fun k acc h => ?_)
  have hk : k.val < 32 := lt_of_lt_of_le k.isLt (by rw [trips_eq]; omega)
  dsimp only [trip]
  obtain ⟨hmax, hmin⟩ := h.holds.top hφ
  have hsel := selB acc.2.2.2.1 (FloatOps.ofBits (F := Ideal) .f32 0x4E6E6B28#32) filler_eq b _ _ hmax hmin
  refine h.step (x1 := fun r c => v33 (ix3 b r c)) (y1 := fun r c => v38 (ix3 b r c)) (x2 := fun r c => v43 (ix3 b r c))
    (y2 := fun r c => v48 (ix3 b r c)) hφ hx1 hy1 hx2 hy2 _ _ rfl ?_ ?_ ?_
  · intro r c
    exact stepB v33 v38 v43 v48 (k0_pay29 (F := Ideal)) acc.2.2.2.1 (FloatOps.ofBits (F := Ideal) .f32 0x4E6E6B28#32) b _ _ hsel r c
  · intro d
    refine (pixB _ _ _ _ _ b _ _ hsel d).trans ?_
    rw [slot_B, if_congr (iv_eq_iff k.val d.val hk d.isLt) rfl rfl]
  · intro d
    refine (valB _ _ _ _ b _ _ hmax d).trans ?_
    rw [slot_B, if_congr (iv_eq_iff k.val d.val hk d.isLt) rfl rfl]

end Cert.KernelIdeal.Value

end
-- ==== Proof.RunIdeal.Body.lean ====
module

public import proofs.«01_k».proof.Proof.RunIdeal.Trip

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of the body, from the blocks it reads to the blocks it writes. -/
noncomputable def kernelRun0_A (c : Dev nD) (arg0 : Memref sig .tc .vmem S4x240x80 .f32) (harg0 : arg0.IsWhole) (arg1 : Memref sig .tc .vmem S4x240x80 .f32) (harg1 : arg1.IsWhole) (arg2 : Memref sig .tc .vmem S4x240x80 .f32) (harg2 : arg2.IsWhole) (arg3 : Memref sig .tc .vmem S4x240x80 .f32) (harg3 : arg3.IsWhole) (arg4 : Memref sig .tc .vmem S4x240x80 .f32) (harg4 : arg4.IsWhole) (arg5 : Memref sig .tc .vmem S4x120x40 .f32) (harg5 : arg5.IsWhole) (arg6 : Memref sig .tc .vmem S4x120x40 .f32) (harg6 : arg6.IsWhole) (arg7 : Memref sig .tc .vmem S4x120x40 .f32) (harg7 : arg7.IsWhole) (arg8 : Memref sig .tc .vmem S4x120x40 .f32) (harg8 : arg8.IsWhole) (arg9 : Memref sig .tc .vmem S4x120x40 .f32) (harg9 : arg9.IsWhole) (arg10 : Memref sig .tc .vmem S4x60x20 .f32) (harg10 : arg10.IsWhole) (arg11 : Memref sig .tc .vmem S4x60x20 .f32) (harg11 : arg11.IsWhole) (arg12 : Memref sig .tc .vmem S4x60x20 .f32) (harg12 : arg12.IsWhole) (arg13 : Memref sig .tc .vmem S4x60x20 .f32) (harg13 : arg13.IsWhole) (arg14 : Memref sig .tc .vmem S4x60x20 .f32) (harg14 : arg14.IsWhole) (arg15 : Memref sig .tc .vmem S4x128x6400 .f32) (harg15 : arg15.IsWhole) (arg16 : Memref sig .tc .vmem S4x256x1600 .f32) (harg16 : arg16.IsWhole) (arg17 : Memref sig .tc .vmem S4x512x400 .f32) (harg17 : arg17.IsWhole) (arg18 : Memref sig .tc .vmem S4x32x128 .f32) (harg18 : arg18.IsWhole) (arg19 : Memref sig .tc .vmem S4x32x256 .f32) (harg19 : arg19.IsWhole) (arg20 : Memref sig .tc .vmem S4x32x512 .f32) (harg20 : arg20.IsWhole)
    (x0 : Vec F S4x240x80 .f32) (x1 : Vec F S4x240x80 .f32) (x2 : Vec F S4x240x80 .f32) (x3 : Vec F S4x240x80 .f32) (x4 : Vec F S4x240x80 .f32) (x5 : Vec F S4x120x40 .f32) (x6 : Vec F S4x120x40 .f32) (x7 : Vec F S4x120x40 .f32) (x8 : Vec F S4x120x40 .f32) (x9 : Vec F S4x120x40 .f32) (x10 : Vec F S4x60x20 .f32) (x11 : Vec F S4x60x20 .f32) (x12 : Vec F S4x60x20 .f32) (x13 : Vec F S4x60x20 .f32) (x14 : Vec F S4x60x20 .f32) (x15 : Vec F S4x128x6400 .f32) (x16 : Vec F S4x256x1600 .f32) (x17 : Vec F S4x512x400 .f32) :
    Σ' (L18 : List (View.Piece (Elt F) S4x32x128 .f32)), Σ' (L19 : List (View.Piece (Elt F) S4x32x256 .f32)), { L20 : List (View.Piece (Elt F) S4x32x512 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20)) -∗ K ⟨⟩))
          ⊢ wp frame (wpE (defs₀ (F := F)) Variants.none c none) E (cc0__nms_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__nms_body_eq_skeleton]; unfold cc0__nms_body_skel
    simp only [k0_part4_eq_skeleton, k0_part5_eq_skeleton, k0_part6_eq_fold, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexists _; iexact H18
    isplitl [H19]; · iexists _; iexact H19
    iexists _; iexact H20

end Cert.KernelIdeal.Gen

end
-- ==== Proof.RunIdeal.Frame.lean ====
module

public import proofs.«01_k».proof.Proof.RunIdeal.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The store of output window 18 covers the whole window. -/
theorem cover0_A_18 (c : Dev nD) (arg0 : Memref sig .tc .vmem S4x240x80 .f32) (harg0 : arg0.IsWhole) (arg1 : Memref sig .tc .vmem S4x240x80 .f32) (harg1 : arg1.IsWhole) (arg2 : Memref sig .tc .vmem S4x240x80 .f32) (harg2 : arg2.IsWhole) (arg3 : Memref sig .tc .vmem S4x240x80 .f32) (harg3 : arg3.IsWhole) (arg4 : Memref sig .tc .vmem S4x240x80 .f32) (harg4 : arg4.IsWhole) (arg5 : Memref sig .tc .vmem S4x120x40 .f32) (harg5 : arg5.IsWhole) (arg6 : Memref sig .tc .vmem S4x120x40 .f32) (harg6 : arg6.IsWhole) (arg7 : Memref sig .tc .vmem S4x120x40 .f32) (harg7 : arg7.IsWhole) (arg8 : Memref sig .tc .vmem S4x120x40 .f32) (harg8 : arg8.IsWhole) (arg9 : Memref sig .tc .vmem S4x120x40 .f32) (harg9 : arg9.IsWhole) (arg10 : Memref sig .tc .vmem S4x60x20 .f32) (harg10 : arg10.IsWhole) (arg11 : Memref sig .tc .vmem S4x60x20 .f32) (harg11 : arg11.IsWhole) (arg12 : Memref sig .tc .vmem S4x60x20 .f32) (harg12 : arg12.IsWhole) (arg13 : Memref sig .tc .vmem S4x60x20 .f32) (harg13 : arg13.IsWhole) (arg14 : Memref sig .tc .vmem S4x60x20 .f32) (harg14 : arg14.IsWhole) (arg15 : Memref sig .tc .vmem S4x128x6400 .f32) (harg15 : arg15.IsWhole) (arg16 : Memref sig .tc .vmem S4x256x1600 .f32) (harg16 : arg16.IsWhole) (arg17 : Memref sig .tc .vmem S4x512x400 .f32) (harg17 : arg17.IsWhole) (arg18 : Memref sig .tc .vmem S4x32x128 .f32) (harg18 : arg18.IsWhole) (arg19 : Memref sig .tc .vmem S4x32x256 .f32) (harg19 : arg19.IsWhole) (arg20 : Memref sig .tc .vmem S4x32x512 .f32) (harg20 : arg20.IsWhole)
    (x0 : Vec F S4x240x80 .f32) (x1 : Vec F S4x240x80 .f32) (x2 : Vec F S4x240x80 .f32) (x3 : Vec F S4x240x80 .f32) (x4 : Vec F S4x240x80 .f32) (x5 : Vec F S4x120x40 .f32) (x6 : Vec F S4x120x40 .f32) (x7 : Vec F S4x120x40 .f32) (x8 : Vec F S4x120x40 .f32) (x9 : Vec F S4x120x40 .f32) (x10 : Vec F S4x60x20 .f32) (x11 : Vec F S4x60x20 .f32) (x12 : Vec F S4x60x20 .f32) (x13 : Vec F S4x60x20 .f32) (x14 : Vec F S4x60x20 .f32) (x15 : Vec F S4x128x6400 .f32) (x16 : Vec F S4x256x1600 .f32) (x17 : Vec F S4x512x400 .f32) (y : S4x32x128.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).1 S1x32x128.size (by sl_kernel_rfl) y

/-- What output window 18 receives from the body. -/
def out0_A_18 (c : Dev nD) (arg0 : Memref sig .tc .vmem S4x240x80 .f32) (harg0 : arg0.IsWhole) (arg1 : Memref sig .tc .vmem S4x240x80 .f32) (harg1 : arg1.IsWhole) (arg2 : Memref sig .tc .vmem S4x240x80 .f32) (harg2 : arg2.IsWhole) (arg3 : Memref sig .tc .vmem S4x240x80 .f32) (harg3 : arg3.IsWhole) (arg4 : Memref sig .tc .vmem S4x240x80 .f32) (harg4 : arg4.IsWhole) (arg5 : Memref sig .tc .vmem S4x120x40 .f32) (harg5 : arg5.IsWhole) (arg6 : Memref sig .tc .vmem S4x120x40 .f32) (harg6 : arg6.IsWhole) (arg7 : Memref sig .tc .vmem S4x120x40 .f32) (harg7 : arg7.IsWhole) (arg8 : Memref sig .tc .vmem S4x120x40 .f32) (harg8 : arg8.IsWhole) (arg9 : Memref sig .tc .vmem S4x120x40 .f32) (harg9 : arg9.IsWhole) (arg10 : Memref sig .tc .vmem S4x60x20 .f32) (harg10 : arg10.IsWhole) (arg11 : Memref sig .tc .vmem S4x60x20 .f32) (harg11 : arg11.IsWhole) (arg12 : Memref sig .tc .vmem S4x60x20 .f32) (harg12 : arg12.IsWhole) (arg13 : Memref sig .tc .vmem S4x60x20 .f32) (harg13 : arg13.IsWhole) (arg14 : Memref sig .tc .vmem S4x60x20 .f32) (harg14 : arg14.IsWhole) (arg15 : Memref sig .tc .vmem S4x128x6400 .f32) (harg15 : arg15.IsWhole) (arg16 : Memref sig .tc .vmem S4x256x1600 .f32) (harg16 : arg16.IsWhole) (arg17 : Memref sig .tc .vmem S4x512x400 .f32) (harg17 : arg17.IsWhole) (arg18 : Memref sig .tc .vmem S4x32x128 .f32) (harg18 : arg18.IsWhole) (arg19 : Memref sig .tc .vmem S4x32x256 .f32) (harg19 : arg19.IsWhole) (arg20 : Memref sig .tc .vmem S4x32x512 .f32) (harg20 : arg20.IsWhole)
    (x0 : Vec F S4x240x80 .f32) (x1 : Vec F S4x240x80 .f32) (x2 : Vec F S4x240x80 .f32) (x3 : Vec F S4x240x80 .f32) (x4 : Vec F S4x240x80 .f32) (x5 : Vec F S4x120x40 .f32) (x6 : Vec F S4x120x40 .f32) (x7 : Vec F S4x120x40 .f32) (x8 : Vec F S4x120x40 .f32) (x9 : Vec F S4x120x40 .f32) (x10 : Vec F S4x60x20 .f32) (x11 : Vec F S4x60x20 .f32) (x12 : Vec F S4x60x20 .f32) (x13 : Vec F S4x60x20 .f32) (x14 : Vec F S4x60x20 .f32) (x15 : Vec F S4x128x6400 .f32) (x16 : Vec F S4x256x1600 .f32) (x17 : Vec F S4x512x400 .f32) : Vec F S4x32x128 .f32 :=
  VO0_18.read (Elt F) (VO0_18.writes (Elt F) VO0_18.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).1)

/-- The store of output window 19 covers the whole window. -/
theorem cover0_A_19 (c : Dev nD) (arg0 : Memref sig .tc .vmem S4x240x80 .f32) (harg0 : arg0.IsWhole) (arg1 : Memref sig .tc .vmem S4x240x80 .f32) (harg1 : arg1.IsWhole) (arg2 : Memref sig .tc .vmem S4x240x80 .f32) (harg2 : arg2.IsWhole) (arg3 : Memref sig .tc .vmem S4x240x80 .f32) (harg3 : arg3.IsWhole) (arg4 : Memref sig .tc .vmem S4x240x80 .f32) (harg4 : arg4.IsWhole) (arg5 : Memref sig .tc .vmem S4x120x40 .f32) (harg5 : arg5.IsWhole) (arg6 : Memref sig .tc .vmem S4x120x40 .f32) (harg6 : arg6.IsWhole) (arg7 : Memref sig .tc .vmem S4x120x40 .f32) (harg7 : arg7.IsWhole) (arg8 : Memref sig .tc .vmem S4x120x40 .f32) (harg8 : arg8.IsWhole) (arg9 : Memref sig .tc .vmem S4x120x40 .f32) (harg9 : arg9.IsWhole) (arg10 : Memref sig .tc .vmem S4x60x20 .f32) (harg10 : arg10.IsWhole) (arg11 : Memref sig .tc .vmem S4x60x20 .f32) (harg11 : arg11.IsWhole) (arg12 : Memref sig .tc .vmem S4x60x20 .f32) (harg12 : arg12.IsWhole) (arg13 : Memref sig .tc .vmem S4x60x20 .f32) (harg13 : arg13.IsWhole) (arg14 : Memref sig .tc .vmem S4x60x20 .f32) (harg14 : arg14.IsWhole) (arg15 : Memref sig .tc .vmem S4x128x6400 .f32) (harg15 : arg15.IsWhole) (arg16 : Memref sig .tc .vmem S4x256x1600 .f32) (harg16 : arg16.IsWhole) (arg17 : Memref sig .tc .vmem S4x512x400 .f32) (harg17 : arg17.IsWhole) (arg18 : Memref sig .tc .vmem S4x32x128 .f32) (harg18 : arg18.IsWhole) (arg19 : Memref sig .tc .vmem S4x32x256 .f32) (harg19 : arg19.IsWhole) (arg20 : Memref sig .tc .vmem S4x32x512 .f32) (harg20 : arg20.IsWhole)
    (x0 : Vec F S4x240x80 .f32) (x1 : Vec F S4x240x80 .f32) (x2 : Vec F S4x240x80 .f32) (x3 : Vec F S4x240x80 .f32) (x4 : Vec F S4x240x80 .f32) (x5 : Vec F S4x120x40 .f32) (x6 : Vec F S4x120x40 .f32) (x7 : Vec F S4x120x40 .f32) (x8 : Vec F S4x120x40 .f32) (x9 : Vec F S4x120x40 .f32) (x10 : Vec F S4x60x20 .f32) (x11 : Vec F S4x60x20 .f32) (x12 : Vec F S4x60x20 .f32) (x13 : Vec F S4x60x20 .f32) (x14 : Vec F S4x60x20 .f32) (x15 : Vec F S4x128x6400 .f32) (x16 : Vec F S4x256x1600 .f32) (x17 : Vec F S4x512x400 .f32) (y : S4x32x256.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.1 S1x32x256.size (by sl_kernel_rfl) y

/-- What output window 19 receives from the body. -/
def out0_A_19 (c : Dev nD) (arg0 : Memref sig .tc .vmem S4x240x80 .f32) (harg0 : arg0.IsWhole) (arg1 : Memref sig .tc .vmem S4x240x80 .f32) (harg1 : arg1.IsWhole) (arg2 : Memref sig .tc .vmem S4x240x80 .f32) (harg2 : arg2.IsWhole) (arg3 : Memref sig .tc .vmem S4x240x80 .f32) (harg3 : arg3.IsWhole) (arg4 : Memref sig .tc .vmem S4x240x80 .f32) (harg4 : arg4.IsWhole) (arg5 : Memref sig .tc .vmem S4x120x40 .f32) (harg5 : arg5.IsWhole) (arg6 : Memref sig .tc .vmem S4x120x40 .f32) (harg6 : arg6.IsWhole) (arg7 : Memref sig .tc .vmem S4x120x40 .f32) (harg7 : arg7.IsWhole) (arg8 : Memref sig .tc .vmem S4x120x40 .f32) (harg8 : arg8.IsWhole) (arg9 : Memref sig .tc .vmem S4x120x40 .f32) (harg9 : arg9.IsWhole) (arg10 : Memref sig .tc .vmem S4x60x20 .f32) (harg10 : arg10.IsWhole) (arg11 : Memref sig .tc .vmem S4x60x20 .f32) (harg11 : arg11.IsWhole) (arg12 : Memref sig .tc .vmem S4x60x20 .f32) (harg12 : arg12.IsWhole) (arg13 : Memref sig .tc .vmem S4x60x20 .f32) (harg13 : arg13.IsWhole) (arg14 : Memref sig .tc .vmem S4x60x20 .f32) (harg14 : arg14.IsWhole) (arg15 : Memref sig .tc .vmem S4x128x6400 .f32) (harg15 : arg15.IsWhole) (arg16 : Memref sig .tc .vmem S4x256x1600 .f32) (harg16 : arg16.IsWhole) (arg17 : Memref sig .tc .vmem S4x512x400 .f32) (harg17 : arg17.IsWhole) (arg18 : Memref sig .tc .vmem S4x32x128 .f32) (harg18 : arg18.IsWhole) (arg19 : Memref sig .tc .vmem S4x32x256 .f32) (harg19 : arg19.IsWhole) (arg20 : Memref sig .tc .vmem S4x32x512 .f32) (harg20 : arg20.IsWhole)
    (x0 : Vec F S4x240x80 .f32) (x1 : Vec F S4x240x80 .f32) (x2 : Vec F S4x240x80 .f32) (x3 : Vec F S4x240x80 .f32) (x4 : Vec F S4x240x80 .f32) (x5 : Vec F S4x120x40 .f32) (x6 : Vec F S4x120x40 .f32) (x7 : Vec F S4x120x40 .f32) (x8 : Vec F S4x120x40 .f32) (x9 : Vec F S4x120x40 .f32) (x10 : Vec F S4x60x20 .f32) (x11 : Vec F S4x60x20 .f32) (x12 : Vec F S4x60x20 .f32) (x13 : Vec F S4x60x20 .f32) (x14 : Vec F S4x60x20 .f32) (x15 : Vec F S4x128x6400 .f32) (x16 : Vec F S4x256x1600 .f32) (x17 : Vec F S4x512x400 .f32) : Vec F S4x32x256 .f32 :=
  VO0_19.read (Elt F) (VO0_19.writes (Elt F) VO0_19.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.1)

/-- The store of output window 20 covers the whole window. -/
theorem cover0_A_20 (c : Dev nD) (arg0 : Memref sig .tc .vmem S4x240x80 .f32) (harg0 : arg0.IsWhole) (arg1 : Memref sig .tc .vmem S4x240x80 .f32) (harg1 : arg1.IsWhole) (arg2 : Memref sig .tc .vmem S4x240x80 .f32) (harg2 : arg2.IsWhole) (arg3 : Memref sig .tc .vmem S4x240x80 .f32) (harg3 : arg3.IsWhole) (arg4 : Memref sig .tc .vmem S4x240x80 .f32) (harg4 : arg4.IsWhole) (arg5 : Memref sig .tc .vmem S4x120x40 .f32) (harg5 : arg5.IsWhole) (arg6 : Memref sig .tc .vmem S4x120x40 .f32) (harg6 : arg6.IsWhole) (arg7 : Memref sig .tc .vmem S4x120x40 .f32) (harg7 : arg7.IsWhole) (arg8 : Memref sig .tc .vmem S4x120x40 .f32) (harg8 : arg8.IsWhole) (arg9 : Memref sig .tc .vmem S4x120x40 .f32) (harg9 : arg9.IsWhole) (arg10 : Memref sig .tc .vmem S4x60x20 .f32) (harg10 : arg10.IsWhole) (arg11 : Memref sig .tc .vmem S4x60x20 .f32) (harg11 : arg11.IsWhole) (arg12 : Memref sig .tc .vmem S4x60x20 .f32) (harg12 : arg12.IsWhole) (arg13 : Memref sig .tc .vmem S4x60x20 .f32) (harg13 : arg13.IsWhole) (arg14 : Memref sig .tc .vmem S4x60x20 .f32) (harg14 : arg14.IsWhole) (arg15 : Memref sig .tc .vmem S4x128x6400 .f32) (harg15 : arg15.IsWhole) (arg16 : Memref sig .tc .vmem S4x256x1600 .f32) (harg16 : arg16.IsWhole) (arg17 : Memref sig .tc .vmem S4x512x400 .f32) (harg17 : arg17.IsWhole) (arg18 : Memref sig .tc .vmem S4x32x128 .f32) (harg18 : arg18.IsWhole) (arg19 : Memref sig .tc .vmem S4x32x256 .f32) (harg19 : arg19.IsWhole) (arg20 : Memref sig .tc .vmem S4x32x512 .f32) (harg20 : arg20.IsWhole)
    (x0 : Vec F S4x240x80 .f32) (x1 : Vec F S4x240x80 .f32) (x2 : Vec F S4x240x80 .f32) (x3 : Vec F S4x240x80 .f32) (x4 : Vec F S4x240x80 .f32) (x5 : Vec F S4x120x40 .f32) (x6 : Vec F S4x120x40 .f32) (x7 : Vec F S4x120x40 .f32) (x8 : Vec F S4x120x40 .f32) (x9 : Vec F S4x120x40 .f32) (x10 : Vec F S4x60x20 .f32) (x11 : Vec F S4x60x20 .f32) (x12 : Vec F S4x60x20 .f32) (x13 : Vec F S4x60x20 .f32) (x14 : Vec F S4x60x20 .f32) (x15 : Vec F S4x128x6400 .f32) (x16 : Vec F S4x256x1600 .f32) (x17 : Vec F S4x512x400 .f32) (y : S4x32x512.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.2.1 S1x32x512.size (by sl_kernel_rfl) y

/-- What output window 20 receives from the body. -/
def out0_A_20 (c : Dev nD) (arg0 : Memref sig .tc .vmem S4x240x80 .f32) (harg0 : arg0.IsWhole) (arg1 : Memref sig .tc .vmem S4x240x80 .f32) (harg1 : arg1.IsWhole) (arg2 : Memref sig .tc .vmem S4x240x80 .f32) (harg2 : arg2.IsWhole) (arg3 : Memref sig .tc .vmem S4x240x80 .f32) (harg3 : arg3.IsWhole) (arg4 : Memref sig .tc .vmem S4x240x80 .f32) (harg4 : arg4.IsWhole) (arg5 : Memref sig .tc .vmem S4x120x40 .f32) (harg5 : arg5.IsWhole) (arg6 : Memref sig .tc .vmem S4x120x40 .f32) (harg6 : arg6.IsWhole) (arg7 : Memref sig .tc .vmem S4x120x40 .f32) (harg7 : arg7.IsWhole) (arg8 : Memref sig .tc .vmem S4x120x40 .f32) (harg8 : arg8.IsWhole) (arg9 : Memref sig .tc .vmem S4x120x40 .f32) (harg9 : arg9.IsWhole) (arg10 : Memref sig .tc .vmem S4x60x20 .f32) (harg10 : arg10.IsWhole) (arg11 : Memref sig .tc .vmem S4x60x20 .f32) (harg11 : arg11.IsWhole) (arg12 : Memref sig .tc .vmem S4x60x20 .f32) (harg12 : arg12.IsWhole) (arg13 : Memref sig .tc .vmem S4x60x20 .f32) (harg13 : arg13.IsWhole) (arg14 : Memref sig .tc .vmem S4x60x20 .f32) (harg14 : arg14.IsWhole) (arg15 : Memref sig .tc .vmem S4x128x6400 .f32) (harg15 : arg15.IsWhole) (arg16 : Memref sig .tc .vmem S4x256x1600 .f32) (harg16 : arg16.IsWhole) (arg17 : Memref sig .tc .vmem S4x512x400 .f32) (harg17 : arg17.IsWhole) (arg18 : Memref sig .tc .vmem S4x32x128 .f32) (harg18 : arg18.IsWhole) (arg19 : Memref sig .tc .vmem S4x32x256 .f32) (harg19 : arg19.IsWhole) (arg20 : Memref sig .tc .vmem S4x32x512 .f32) (harg20 : arg20.IsWhole)
    (x0 : Vec F S4x240x80 .f32) (x1 : Vec F S4x240x80 .f32) (x2 : Vec F S4x240x80 .f32) (x3 : Vec F S4x240x80 .f32) (x4 : Vec F S4x240x80 .f32) (x5 : Vec F S4x120x40 .f32) (x6 : Vec F S4x120x40 .f32) (x7 : Vec F S4x120x40 .f32) (x8 : Vec F S4x120x40 .f32) (x9 : Vec F S4x120x40 .f32) (x10 : Vec F S4x60x20 .f32) (x11 : Vec F S4x60x20 .f32) (x12 : Vec F S4x60x20 .f32) (x13 : Vec F S4x60x20 .f32) (x14 : Vec F S4x60x20 .f32) (x15 : Vec F S4x128x6400 .f32) (x16 : Vec F S4x256x1600 .f32) (x17 : Vec F S4x512x400 .f32) : Vec F S4x32x512 .f32 :=
  VO0_20.read (Elt F) (VO0_20.writes (Elt F) VO0_20.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.2.1)

/-- The three blocks that the invocation writes. -/
def outsAt0 (c : Dev nD) (t : Fin cfg0.N) : Vec F S4x32x128 .f32 × Vec F S4x32x256 .f32 × Vec F S4x32x512 .f32 :=
  (out0_A_18 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-- The data the launch skeleton of the region is instantiated with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2
    | ⟨_ + 21, h⟩ => absurd h (Nat.not_lt.2 (Nat.le_add_left _ _))
  Φ _ := Pipeline.ΦA spec0 c
  q _ := fullShare
  owed _ := 0

/-- The invocation is the launch skeleton with that data. -/
theorem A_eq (c : Dev nD) (w : Fin cfg0.W) : (dats m 0 c).A w = V m c (Pipeline.arrRef spec0 w) := by
  dsimp only [dats]

/-- What window 0 holds after the invocation. -/
theorem after0_0 (c : Dev nD) (t : Fin cfg0.N) : (dats m 0 c).after 0 t = iblk m c 0 t := by dsimp only [dats]
/-- What window 1 holds after the invocation. -/
theorem after0_1 (c : Dev nD) (t : Fin cfg0.N) : (dats m 0 c).after 1 t = iblk m c 1 t := by dsimp only [dats]
/-- What window 2 holds after the invocation. -/
theorem after0_2 (c : Dev nD) (t : Fin cfg0.N) : (dats m 0 c).after 2 t = iblk m c 2 t := by dsimp only [dats]
/-- What window 3 holds after the invocation. -/
theorem after0_3 (c : Dev nD) (t : Fin cfg0.N) : (dats m 0 c).after 3 t = iblk m c 3 t := by dsimp only [dats]
/-- What window 4 holds after the invocation. -/
theorem after0_4 (c : Dev nD) (t : Fin cfg0.N) : (dats m 0 c).after 4 t = iblk m c 4 t := by dsimp only [dats]
/-- What window 5 holds after the invocation. -/
theorem after0_5 (c : Dev nD) (t : Fin cfg0.N) : (dats m 0 c).after 5 t = iblk m c 5 t := by dsimp only [dats]
/-- What window 6 holds after the invocation. -/
theorem after0_6 (c : Dev nD) (t : Fin cfg0.N) : (dats m 0 c).after 6 t = iblk m c 6 t := by dsimp only [dats]
/-- What window 7 holds after the invocation. -/
theorem after0_7 (c : Dev nD) (t : Fin cfg0.N) : (dats m 0 c).after 7 t = iblk m c 7 t := by dsimp only [dats]
/-- What window 8 holds after the invocation. -/
theorem after0_8 (c : Dev nD) (t : Fin cfg0.N) : (dats m 0 c).after 8 t = iblk m c 8 t := by dsimp only [dats]
/-- What window 9 holds after the invocation. -/
theorem after0_9 (c : Dev nD) (t : Fin cfg0.N) : (dats m 0 c).after 9 t = iblk m c 9 t := by dsimp only [dats]
/-- What window 10 holds after the invocation. -/
theorem after0_10 (c : Dev nD) (t : Fin cfg0.N) : (dats m 0 c).after 10 t = iblk m c 10 t := by dsimp only [dats]
/-- What window 11 holds after the invocation. -/
theorem after0_11 (c : Dev nD) (t : Fin cfg0.N) : (dats m 0 c).after 11 t = iblk m c 11 t := by dsimp only [dats]
/-- What window 12 holds after the invocation. -/
theorem after0_12 (c : Dev nD) (t : Fin cfg0.N) : (dats m 0 c).after 12 t = iblk m c 12 t := by dsimp only [dats]
/-- What window 13 holds after the invocation. -/
theorem after0_13 (c : Dev nD) (t : Fin cfg0.N) : (dats m 0 c).after 13 t = iblk m c 13 t := by dsimp only [dats]
/-- What window 14 holds after the invocation. -/
theorem after0_14 (c : Dev nD) (t : Fin cfg0.N) : (dats m 0 c).after 14 t = iblk m c 14 t := by dsimp only [dats]
/-- What window 15 holds after the invocation. -/
theorem after0_15 (c : Dev nD) (t : Fin cfg0.N) : (dats m 0 c).after 15 t = iblk m c 15 t := by dsimp only [dats]
/-- What window 16 holds after the invocation. -/
theorem after0_16 (c : Dev nD) (t : Fin cfg0.N) : (dats m 0 c).after 16 t = iblk m c 16 t := by dsimp only [dats]
/-- What window 17 holds after the invocation. -/
theorem after0_17 (c : Dev nD) (t : Fin cfg0.N) : (dats m 0 c).after 17 t = iblk m c 17 t := by dsimp only [dats]
/-- What window 18 holds after the invocation. -/
theorem after0_18 (c : Dev nD) (t : Fin cfg0.N) : (dats m 0 c).after 18 t = (outsAt0 m c t).1 := by dsimp only [dats]
/-- What window 19 holds after the invocation. -/
theorem after0_19 (c : Dev nD) (t : Fin cfg0.N) : (dats m 0 c).after 19 t = (outsAt0 m c t).2.1 := by dsimp only [dats]
/-- What window 20 holds after the invocation. -/
theorem after0_20 (c : Dev nD) (t : Fin cfg0.N) : (dats m 0 c).after 20 t = (outsAt0 m c t).2.2 := by dsimp only [dats]

/-- What window 0 holds before the body runs. -/
theorem before0_0 (c : Dev nD) (t : Fin cfg0.N) (d) : (dats m 0 c).before 0 t d = iblk m c 0 t :=
  before0_0_of m (dats m 0 c) (A_eq m c 0) (after0_0 m c) t d
/-- What window 1 holds before the body runs. -/
theorem before0_1 (c : Dev nD) (t : Fin cfg0.N) (d) : (dats m 0 c).before 1 t d = iblk m c 1 t :=
  before0_1_of m (dats m 0 c) (A_eq m c 1) (after0_1 m c) t d
/-- What window 2 holds before the body runs. -/
theorem before0_2 (c : Dev nD) (t : Fin cfg0.N) (d) : (dats m 0 c).before 2 t d = iblk m c 2 t :=
  before0_2_of m (dats m 0 c) (A_eq m c 2) (after0_2 m c) t d
/-- What window 3 holds before the body runs. -/
theorem before0_3 (c : Dev nD) (t : Fin cfg0.N) (d) : (dats m 0 c).before 3 t d = iblk m c 3 t :=
  before0_3_of m (dats m 0 c) (A_eq m c 3) (after0_3 m c) t d
/-- What window 4 holds before the body runs. -/
theorem before0_4 (c : Dev nD) (t : Fin cfg0.N) (d) : (dats m 0 c).before 4 t d = iblk m c 4 t :=
  before0_4_of m (dats m 0 c) (A_eq m c 4) (after0_4 m c) t d
/-- What window 5 holds before the body runs. -/
theorem before0_5 (c : Dev nD) (t : Fin cfg0.N) (d) : (dats m 0 c).before 5 t d = iblk m c 5 t :=
  before0_5_of m (dats m 0 c) (A_eq m c 5) (after0_5 m c) t d
/-- What window 6 holds before the body runs. -/
theorem before0_6 (c : Dev nD) (t : Fin cfg0.N) (d) : (dats m 0 c).before 6 t d = iblk m c 6 t :=
  before0_6_of m (dats m 0 c) (A_eq m c 6) (after0_6 m c) t d
/-- What window 7 holds before the body runs. -/
theorem before0_7 (c : Dev nD) (t : Fin cfg0.N) (d) : (dats m 0 c).before 7 t d = iblk m c 7 t :=
  before0_7_of m (dats m 0 c) (A_eq m c 7) (after0_7 m c) t d
/-- What window 8 holds before the body runs. -/
theorem before0_8 (c : Dev nD) (t : Fin cfg0.N) (d) : (dats m 0 c).before 8 t d = iblk m c 8 t :=
  before0_8_of m (dats m 0 c) (A_eq m c 8) (after0_8 m c) t d
/-- What window 9 holds before the body runs. -/
theorem before0_9 (c : Dev nD) (t : Fin cfg0.N) (d) : (dats m 0 c).before 9 t d = iblk m c 9 t :=
  before0_9_of m (dats m 0 c) (A_eq m c 9) (after0_9 m c) t d
/-- What window 10 holds before the body runs. -/
theorem before0_10 (c : Dev nD) (t : Fin cfg0.N) (d) : (dats m 0 c).before 10 t d = iblk m c 10 t :=
  before0_10_of m (dats m 0 c) (A_eq m c 10) (after0_10 m c) t d
/-- What window 11 holds before the body runs. -/
theorem before0_11 (c : Dev nD) (t : Fin cfg0.N) (d) : (dats m 0 c).before 11 t d = iblk m c 11 t :=
  before0_11_of m (dats m 0 c) (A_eq m c 11) (after0_11 m c) t d
/-- What window 12 holds before the body runs. -/
theorem before0_12 (c : Dev nD) (t : Fin cfg0.N) (d) : (dats m 0 c).before 12 t d = iblk m c 12 t :=
  before0_12_of m (dats m 0 c) (A_eq m c 12) (after0_12 m c) t d
/-- What window 13 holds before the body runs. -/
theorem before0_13 (c : Dev nD) (t : Fin cfg0.N) (d) : (dats m 0 c).before 13 t d = iblk m c 13 t :=
  before0_13_of m (dats m 0 c) (A_eq m c 13) (after0_13 m c) t d
/-- What window 14 holds before the body runs. -/
theorem before0_14 (c : Dev nD) (t : Fin cfg0.N) (d) : (dats m 0 c).before 14 t d = iblk m c 14 t :=
  before0_14_of m (dats m 0 c) (A_eq m c 14) (after0_14 m c) t d
/-- What window 15 holds before the body runs. -/
theorem before0_15 (c : Dev nD) (t : Fin cfg0.N) (d) : (dats m 0 c).before 15 t d = iblk m c 15 t :=
  before0_15_of m (dats m 0 c) (A_eq m c 15) (after0_15 m c) t d
/-- What window 16 holds before the body runs. -/
theorem before0_16 (c : Dev nD) (t : Fin cfg0.N) (d) : (dats m 0 c).before 16 t d = iblk m c 16 t :=
  before0_16_of m (dats m 0 c) (A_eq m c 16) (after0_16 m c) t d
/-- What window 17 holds before the body runs. -/
theorem before0_17 (c : Dev nD) (t : Fin cfg0.N) (d) : (dats m 0 c).before 17 t d = iblk m c 17 t :=
  before0_17_of m (dats m 0 c) (A_eq m c 17) (after0_17 m c) t d

/-- The state in which the body starts: every window holds its block. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- The state in which the body ends: inputs kept, outputs written. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2000000 in
/-- The body is sound: it terminates in the state that the skeleton asks for. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  unfold outsAt0
  unfold out0_A_18 out0_A_19 out0_A_20; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, ⟨%e18, H18⟩, ⟨%e19, H19⟩, ⟨%e20, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The table of functions has the body in this row. -/
theorem defs₀_row (t : Fin cfg0.N) :
    defs₀ (F := F) .tc cfg0.body (cfg0.bodyArgs t (cfg0.slots t)) = bodyAt0 t := by
  unfold defs₀; rw [Defs.onTc_tc]

/-- The body takes its start state to its end state. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole program, from any memory: terminates, with these contents at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The whole program, from any memory: terminates, with these contents at the end. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments are among the buffers that the program never writes. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The frame: the program terminates, keeps its arguments and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Gen

end
-- ==== Proof.RunIdeal.Exit.lean ====
module

public import proofs.«01_k».proof.Proof.Gen.KernelIdeal
public import proofs.«01_k».proof.Proof.RunIdeal.Frame
public import Idealize.ShloMosaic.Lib.StableHlo.Run
public import Idealize.ShloMosaic.Lib.Pipeline.FrameSuffix

@[expose] public section

noncomputable section

namespace Cert.KernelIdeal.Value

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- The memory in which the program ends. -/
abbrev exitV (c : Dev nD) : Valuation τ sig (Elt F) :=
  Pipeline.withArrays spec0 c (Gen.V0 m c) fun w => (Gen.dats m 0 c).arrAt w cfg0.N

/-- Output 0 of the invocation, as an array. -/
def reg_main_v3_0 (c : Dev nD) : Buf (Elt F) ((c.tc : Thread nD τ).loc main_v3_0) := (Gen.dats m 0 c).arrAt 18 cfg0.N
/-- Output 1 of the invocation, as an array. -/
def reg_main_v3_1 (c : Dev nD) : Buf (Elt F) ((c.tc : Thread nD τ).loc main_v3_1) := (Gen.dats m 0 c).arrAt 19 cfg0.N
/-- Output 2 of the invocation, as an array. -/
def reg_main_v3_2 (c : Dev nD) : Buf (Elt F) ((c.tc : Thread nD τ).loc main_v3_2) := (Gen.dats m 0 c).arrAt 20 cfg0.N

/-- After the region, output 0 holds the block that the body wrote. -/
theorem exit_main_v3_0 (c : Dev nD) : exitV m c (Proc.devRef .tc main_v3_0) = reg_main_v3_0 m c :=
  Pipeline.withArrays_arr spec0 Gen.launch0.win.arr_inj c (Gen.V0 m c) _ 18
/-- After the region, output 1 holds the block that the body wrote. -/
theorem exit_main_v3_1 (c : Dev nD) : exitV m c (Proc.devRef .tc main_v3_1) = reg_main_v3_1 m c :=
  Pipeline.withArrays_arr spec0 Gen.launch0.win.arr_inj c (Gen.V0 m c) _ 19
/-- After the region, output 2 holds the block that the body wrote. -/
theorem exit_main_v3_2 (c : Dev nD) : exitV m c (Proc.devRef .tc main_v3_2) = reg_main_v3_2 m c :=
  Pipeline.withArrays_arr spec0 Gen.launch0.win.arr_inj c (Gen.V0 m c) _ 20

/-- Result 4 is the leading 25 slots of the output. -/
theorem tail_main_v4 (V0 : Valuation τ sig (Elt F)) :
    after (List.flatten [Gen.hostOps1]) V0 (Proc.devRef .tc main_v4) = extractStridedSlice S4x25x128 ![0, 0, 0] (V0 (Proc.devRef .tc main_v3_0)) slices_S4x32x128_S4x25x128_0_0_0 := by
  simp only [Gen.hostOps1, List.flatten_cons, List.flatten_nil, List.append_nil, List.cons_append, List.nil_append]
  after_results
/-- At the end, result 4 holds the leading 25 slots of the output. -/
theorem fin_main_v4 (c : Dev nD) :
    Pipeline.afterTail₀ cfgs (Gen.dats m) 0 (Gen.V0 m) [Gen.hostOps1] c main_v4 = extractStridedSlice S4x25x128 ![0, 0, 0] (reg_main_v3_0 m c) slices_S4x32x128_S4x25x128_0_0_0 :=
  (tail_main_v4 (exitV m c)).trans (by rw [exit_main_v3_0])

/-- Result 5 is the leading 25 slots of the output. -/
theorem tail_main_v5 (V0 : Valuation τ sig (Elt F)) :
    after (List.flatten [Gen.hostOps1]) V0 (Proc.devRef .tc main_v5) = extractStridedSlice S4x25x256 ![0, 0, 0] (V0 (Proc.devRef .tc main_v3_1)) slices_S4x32x256_S4x25x256_0_0_0 := by
  simp only [Gen.hostOps1, List.flatten_cons, List.flatten_nil, List.append_nil, List.cons_append, List.nil_append]
  after_results
/-- At the end, result 5 holds the leading 25 slots of the output. -/
theorem fin_main_v5 (c : Dev nD) :
    Pipeline.afterTail₀ cfgs (Gen.dats m) 0 (Gen.V0 m) [Gen.hostOps1] c main_v5 = extractStridedSlice S4x25x256 ![0, 0, 0] (reg_main_v3_1 m c) slices_S4x32x256_S4x25x256_0_0_0 :=
  (tail_main_v5 (exitV m c)).trans (by rw [exit_main_v3_1])

/-- Result 6 is the leading 25 slots of the output. -/
theorem tail_main_v6 (V0 : Valuation τ sig (Elt F)) :
    after (List.flatten [Gen.hostOps1]) V0 (Proc.devRef .tc main_v6) = extractStridedSlice S4x25x512 ![0, 0, 0] (V0 (Proc.devRef .tc main_v3_2)) slices_S4x32x512_S4x25x512_0_0_0 := by
  simp only [Gen.hostOps1, List.flatten_cons, List.flatten_nil, List.append_nil, List.cons_append, List.nil_append]
  after_results
/-- At the end, result 6 holds the leading 25 slots of the output. -/
theorem fin_main_v6 (c : Dev nD) :
    Pipeline.afterTail₀ cfgs (Gen.dats m) 0 (Gen.V0 m) [Gen.hostOps1] c main_v6 = extractStridedSlice S4x25x512 ![0, 0, 0] (reg_main_v3_2 m c) slices_S4x32x512_S4x25x512_0_0_0 :=
  (tail_main_v6 (exitV m c)).trans (by rw [exit_main_v3_2])

set_option maxHeartbeats 1260000 in
/-- The whole ideal program: its results are slices of what the invocation writes, and its arguments are kept. -/
theorem run (ρ : Dev nD → PrngReg) :
    θ_run defs (onTc (τ := τ) (main (F := F))) ⟨m, fun _ => 0, ρ⟩ fun r => ∀ c : Dev nD,
      r.2.mem ((c.tc : Thread nD τ).loc main_v4) = extractStridedSlice S4x25x128 ![0, 0, 0] (reg_main_v3_0 m c) slices_S4x32x128_S4x25x128_0_0_0
      ∧ r.2.mem ((c.tc : Thread nD τ).loc main_v5) = extractStridedSlice S4x25x256 ![0, 0, 0] (reg_main_v3_1 m c) slices_S4x32x256_S4x25x256_0_0_0
      ∧ r.2.mem ((c.tc : Thread nD τ).loc main_v6) = extractStridedSlice S4x25x512 ![0, 0, 0] (reg_main_v3_2 m c) slices_S4x32x512_S4x25x512_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨((h c).2 main_v4 (Pipeline.mem_restRefs_of main_v4 (by decide) (by decide))).trans (fin_main_v4 m c),
      ((h c).2 main_v5 (Pipeline.mem_restRefs_of main_v5 (by decide) (by decide))).trans (fin_main_v5 m c),
      ((h c).2 main_v6 (Pipeline.mem_restRefs_of main_v6 (by decide) (by decide))).trans (fin_main_v6 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).1 0).trans (((Gen.dats m 0 c).arrAt_in 0 rfl _).trans ((Gen.A_eq m c 0).trans (Gen.V_main_arg3 m c))),
      ((h c).1 1).trans (((Gen.dats m 0 c).arrAt_in 1 rfl _).trans ((Gen.A_eq m c 1).trans (Gen.V_main_arg4 m c))),
      ((h c).1 2).trans (((Gen.dats m 0 c).arrAt_in 2 rfl _).trans ((Gen.A_eq m c 2).trans (Gen.V_main_arg5 m c))),
      ((h c).1 3).trans (((Gen.dats m 0 c).arrAt_in 3 rfl _).trans ((Gen.A_eq m c 3).trans (Gen.V_main_arg6 m c))),
      ((h c).1 4).trans (((Gen.dats m 0 c).arrAt_in 4 rfl _).trans ((Gen.A_eq m c 4).trans (Gen.V_main_arg7 m c))),
      ((h c).1 5).trans (((Gen.dats m 0 c).arrAt_in 5 rfl _).trans ((Gen.A_eq m c 5).trans (Gen.V_main_arg8 m c))),
      ((h c).1 6).trans (((Gen.dats m 0 c).arrAt_in 6 rfl _).trans ((Gen.A_eq m c 6).trans (Gen.V_main_arg9 m c))),
      ((h c).1 7).trans (((Gen.dats m 0 c).arrAt_in 7 rfl _).trans ((Gen.A_eq m c 7).trans (Gen.V_main_arg10 m c))),
      ((h c).1 8).trans (((Gen.dats m 0 c).arrAt_in 8 rfl _).trans ((Gen.A_eq m c 8).trans (Gen.V_main_arg11 m c))),
      ((h c).1 9).trans (((Gen.dats m 0 c).arrAt_in 9 rfl _).trans ((Gen.A_eq m c 9).trans (Gen.V_main_arg12 m c))),
      ((h c).1 10).trans (((Gen.dats m 0 c).arrAt_in 10 rfl _).trans ((Gen.A_eq m c 10).trans (Gen.V_main_arg13 m c))),
      ((h c).1 11).trans (((Gen.dats m 0 c).arrAt_in 11 rfl _).trans ((Gen.A_eq m c 11).trans (Gen.V_main_arg14 m c))),
      ((h c).1 12).trans (((Gen.dats m 0 c).arrAt_in 12 rfl _).trans ((Gen.A_eq m c 12).trans (Gen.V_main_arg15 m c))),
      ((h c).1 13).trans (((Gen.dats m 0 c).arrAt_in 13 rfl _).trans ((Gen.A_eq m c 13).trans (Gen.V_main_arg16 m c))),
      ((h c).1 14).trans (((Gen.dats m 0 c).arrAt_in 14 rfl _).trans ((Gen.A_eq m c 14).trans (Gen.V_main_arg17 m c)))⟩) (Gen.run_main m ρ)

end Cert.KernelIdeal.Value

end
-- ==== Proof.Value.Rows.lean ====
module

public import proofs.«01_k».proof.Proof.RunIdeal.Exit
public import proofs.«01_k».proof.Proof.Value.Cells
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.Pointwise Cert.Nms

/-- A sum against the indicator of one place is the entry at that place. -/
theorem onehot {N : ℕ} (hN : N ≤ 6400) (v s : EReal) (f : Fin N → EReal) (k : Fin N) (hv : v = ((k.val : ℝ) : EReal)) :
    (∑ x : Fin N, FloatOps.sitofp (F := Ideal) .f32 (BitVec.setWidth 32 (BitVec.ofBool (decide
      (FloatOps.sitofp (F := Ideal) .f32 (BitVec.ofNat 32 x.val) = v)))) * s * f x : EReal) = s * f k := by
  rw [Finset.sum_eq_single k]
  · rw [sitofp_flag, sitofp_ofNat _ (by omega), if_pos hv.symm, one_mul]
  · intro x _ hx
    rw [sitofp_flag, sitofp_ofNat _ (by omega), if_neg (by
      rw [hv]; intro e; exact hx (Fin.ext (by exact_mod_cast EReal.coe_injective e))), zero_mul, zero_mul]
  · intro h
    exact absurd (Finset.mem_univ k) h

/-- The first block of rows of the joined table. -/
theorem join36A (a : FVec Ideal S4x32 .f32) (b : FVec Ideal S8x32 .f32) (i : Fin 4) (d : Fin 32) :
    (k0_pay36 a b (ix2 ⟨i.val, by omega⟩ d) : EReal) = a (ix2 i d) := by
  unfold k0_pay36
  pointwise
  try simp [i.isLt]
/-- Reading the stacked array in one of its two parts. -/
theorem join36B (a : FVec Ideal S4x32 .f32) (b : FVec Ideal S8x32 .f32) (i : Fin 8) (d : Fin 32) :
    (k0_pay36 a b (ix2 ⟨4 + i.val, by omega⟩ d) : EReal) = b (ix2 i d) := by
  unfold k0_pay36
  pointwise
  try simp
/-- Reading the stacked array in one of its two parts. -/
theorem join37A (a : FVec Ideal S4x32 .f32) (b : FVec Ideal S8x32 .f32) (i : Fin 4) (d : Fin 32) :
    (k0_pay37 a b (ix2 ⟨i.val, by omega⟩ d) : EReal) = a (ix2 i d) := by
  unfold k0_pay37
  pointwise
  try simp [i.isLt]
/-- Reading the stacked array in one of its two parts. -/
theorem join37B (a : FVec Ideal S4x32 .f32) (b : FVec Ideal S8x32 .f32) (i : Fin 8) (d : Fin 32) :
    (k0_pay37 a b (ix2 ⟨4 + i.val, by omega⟩ d) : EReal) = b (ix2 i d) := by
  unfold k0_pay37
  pointwise
  try simp

/-- Row 0 of the selection table as read by the gather. -/
theorem row0 (a1 a2 : FVec Ideal S4x32 .f32) (b1 b2 : FVec Ideal S8x32 .f32) (f : FVec Ideal S1x128x6400 .f32) (d : Fin 32) (ch : Fin 128) (k : Fin 6400)
    (hk : (a1 (ix2 0 d) : EReal) = ((k.val : ℝ) : EReal)) :
    ((k0_pay40 (k0_pay39 a1 a2 b1 b2) f : FVec Ideal S1x32x128 .f32) (ix3 0 d ch) : EReal) = (a2 (ix2 0 d) : EReal) * f (ix3 0 ch k) := by
  unfold k0_pay40 k0_pay39
  try unfold k0_pay38
  pointwise
  rw [show k0_pay36 a1 b1 (ix2 0 d) = a1 (ix2 0 d) from join36A a1 b1 0 d, show k0_pay37 a2 b2 (ix2 0 d) = a2 (ix2 0 d) from join37A a2 b2 0 d]
  exact onehot (by omega) _ _ (fun x => f (ix3 0 ch x)) k hk
/-- Row 1 of the selection table as read by the gather. -/
theorem row1 (v90 v91 : FVec Ideal S12x32 .f32) (f : FVec Ideal S1x128x6400 .f32) (d : Fin 32) (ch : Fin 128) (k : Fin 6400)
    (hk : (v90 (ix2 1 d) : EReal) = ((k.val : ℝ) : EReal)) :
    ((k0_pay41 v90 v91 (k0_pay38 (F := Ideal)) f : FVec Ideal S1x32x128 .f32) (ix3 0 d ch) : EReal) = (v91 (ix2 1 d) : EReal) * f (ix3 0 ch k) := by
  unfold k0_pay41 k0_pay38
  try unfold k0_pay38
  pointwise
  exact onehot (by omega) _ _ (fun x => f (ix3 0 ch x)) k hk
/-- Row 2 of the selection table as read by the gather. -/
theorem row2 (v90 v91 : FVec Ideal S12x32 .f32) (f : FVec Ideal S1x128x6400 .f32) (d : Fin 32) (ch : Fin 128) (k : Fin 6400)
    (hk : (v90 (ix2 2 d) : EReal) = ((k.val : ℝ) : EReal)) :
    ((k0_pay43 (k0_pay42 v90 v91 (k0_pay38 (F := Ideal)) f) : FVec Ideal S1x32x128 .f32) (ix3 0 d ch) : EReal) = (v91 (ix2 2 d) : EReal) * f (ix3 0 ch k) := by
  unfold k0_pay43 k0_pay42 k0_pay38
  try unfold k0_pay38
  pointwise
  exact onehot (by omega) _ _ (fun x => f (ix3 0 ch x)) k hk
/-- Row 3 of the selection table as read by the gather. -/
theorem row3 (v90 v91 : FVec Ideal S12x32 .f32) (f : FVec Ideal S1x128x6400 .f32) (d : Fin 32) (ch : Fin 128) (k : Fin 6400)
    (hk : (v90 (ix2 3 d) : EReal) = ((k.val : ℝ) : EReal)) :
    ((k0_pay44 v90 v91 (k0_pay38 (F := Ideal)) f : FVec Ideal S1x32x128 .f32) (ix3 0 d ch) : EReal) = (v91 (ix2 3 d) : EReal) * f (ix3 0 ch k) := by
  unfold k0_pay44 k0_pay38
  try unfold k0_pay38
  pointwise
  exact onehot (by omega) _ _ (fun x => f (ix3 0 ch x)) k hk
/-- Four rows written one after the other, read back. -/
theorem rows128 (p0 p1 p2 p3 : FVec Ideal S1x32x128 .f32) (b : Fin 4) (d : Fin 32) (ch : Fin 128) (v : EReal)
    (h0 : b = 0 → p0 (ix3 0 d ch) = v) (h1 : b = 1 → p1 (ix3 0 d ch) = v) (h2 : b = 2 → p2 (ix3 0 d ch) = v)
    (h3 : b = 3 → p3 (ix3 0 d ch) = v) :
    (View.canon ([⟨Rect.unit ![3, 0, 0] ![1, 32, 128] inb_S4x32x128_S1x32x128_3_0_0, p3⟩, ⟨Rect.unit ![2, 0, 0] ![1, 32, 128] inb_S4x32x128_S1x32x128_2_0_0, p2⟩, ⟨Rect.unit ![1, 0, 0] ![1, 32, 128] inb_S4x32x128_S1x32x128_1_0_0, p1⟩, ⟨Rect.unit ![0, 0, 0] ![1, 32, 128] inb_S4x32x128_S1x32x128_0_0_0, p0⟩] : List (View.Piece (Elt Ideal) S4x32x128 .f32)) (ix3 b d ch) : EReal) = v := by
  have key : ∀ (i : Fin 4) (x : S1x32x128.Idx), (∀ a, (![i.val, 0, 0] : Fin 3 → ℕ) a + (x a).val = ((ix3 b d ch : S4x32x128.Idx) a).val) →
      b = i ∧ x = ix3 0 d ch := by
    intro i x hx
    have e0 := hx 0
    have e1 := hx 1
    have e2 := hx 2
    have l0 : (x 0).val < 1 := (x 0).isLt
    simp at e0 e1 e2
    refine ⟨Fin.ext (by omega), funext fun a => Fin.ext ?_⟩
    fin_cases a
    · simp at l0 ⊢
      try omega
    · simpa using e1
    · simpa using e2
  refine View.canon_eq_of_allAt _ _ _ (View.cover_of_tiled_head _ _ _ (by rfl) _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (by intro p hp; simp at hp))))
  · obtain ⟨e, rfl⟩ := key 3 x (fun a => (hx a).symm)
    exact h3 e
  · obtain ⟨e, rfl⟩ := key 2 x (fun a => (hx a).symm)
    exact h2 e
  · obtain ⟨e, rfl⟩ := key 1 x (fun a => (hx a).symm)
    exact h1 e
  · obtain ⟨e, rfl⟩ := key 0 x (fun a => (hx a).symm)
    exact h0 e

/-- Row 4 of the selection table as read by the gather. -/
theorem row4 (v90 v91 : FVec Ideal S12x32 .f32) (f : FVec Ideal S1x256x1600 .f32) (d : Fin 32) (ch : Fin 256) (k : Fin 1600)
    (hk : (v90 (ix2 4 d) : EReal) = ((k.val : ℝ) : EReal)) :
    ((k0_pay46 v90 v91 f : FVec Ideal S1x32x256 .f32) (ix3 0 d ch) : EReal) = (v91 (ix2 4 d) : EReal) * f (ix3 0 ch k) := by
  unfold k0_pay46
  try unfold k0_pay45
  pointwise
  exact onehot (by omega) _ _ (fun x => f (ix3 0 ch x)) k hk
/-- Row 5 of the selection table as read by the gather. -/
theorem row5 (v90 v91 : FVec Ideal S12x32 .f32) (f : FVec Ideal S1x256x1600 .f32) (d : Fin 32) (ch : Fin 256) (k : Fin 1600)
    (hk : (v90 (ix2 5 d) : EReal) = ((k.val : ℝ) : EReal)) :
    ((k0_pay48 v91 (k0_pay45 (F := Ideal)) (k0_pay47 v90) f : FVec Ideal S1x32x256 .f32) (ix3 0 d ch) : EReal) = (v91 (ix2 5 d) : EReal) * f (ix3 0 ch k) := by
  unfold k0_pay48 k0_pay45 k0_pay47
  try unfold k0_pay38
  pointwise
  exact onehot (by omega) _ _ (fun x => f (ix3 0 ch x)) k hk
/-- Row 6 of the selection table as read by the gather. -/
theorem row6 (v90 v91 : FVec Ideal S12x32 .f32) (f : FVec Ideal S1x256x1600 .f32) (d : Fin 32) (ch : Fin 256) (k : Fin 1600)
    (hk : (v90 (ix2 6 d) : EReal) = ((k.val : ℝ) : EReal)) :
    ((k0_pay49 v90 v91 (k0_pay45 (F := Ideal)) f : FVec Ideal S1x32x256 .f32) (ix3 0 d ch) : EReal) = (v91 (ix2 6 d) : EReal) * f (ix3 0 ch k) := by
  unfold k0_pay49 k0_pay45
  try unfold k0_pay38
  pointwise
  exact onehot (by omega) _ _ (fun x => f (ix3 0 ch x)) k hk
/-- Row 7 of the selection table as read by the gather. -/
theorem row7 (v90 v91 : FVec Ideal S12x32 .f32) (f : FVec Ideal S1x256x1600 .f32) (d : Fin 32) (ch : Fin 256) (k : Fin 1600)
    (hk : (v90 (ix2 7 d) : EReal) = ((k.val : ℝ) : EReal)) :
    ((k0_pay51 (k0_pay50 v90 v91 (k0_pay45 (F := Ideal))) f : FVec Ideal S1x32x256 .f32) (ix3 0 d ch) : EReal) = (v91 (ix2 7 d) : EReal) * f (ix3 0 ch k) := by
  unfold k0_pay51 k0_pay50 k0_pay45
  try unfold k0_pay38
  pointwise
  exact onehot (by omega) _ _ (fun x => f (ix3 0 ch x)) k hk
/-- Four rows written one after the other, read back. -/
theorem rows256 (p0 p1 p2 p3 : FVec Ideal S1x32x256 .f32) (b : Fin 4) (d : Fin 32) (ch : Fin 256) (v : EReal)
    (h0 : b = 0 → p0 (ix3 0 d ch) = v) (h1 : b = 1 → p1 (ix3 0 d ch) = v) (h2 : b = 2 → p2 (ix3 0 d ch) = v)
    (h3 : b = 3 → p3 (ix3 0 d ch) = v) :
    (View.canon ([⟨Rect.unit ![3, 0, 0] ![1, 32, 256] inb_S4x32x256_S1x32x256_3_0_0, p3⟩, ⟨Rect.unit ![2, 0, 0] ![1, 32, 256] inb_S4x32x256_S1x32x256_2_0_0, p2⟩, ⟨Rect.unit ![1, 0, 0] ![1, 32, 256] inb_S4x32x256_S1x32x256_1_0_0, p1⟩, ⟨Rect.unit ![0, 0, 0] ![1, 32, 256] inb_S4x32x256_S1x32x256_0_0_0, p0⟩] : List (View.Piece (Elt Ideal) S4x32x256 .f32)) (ix3 b d ch) : EReal) = v := by
  have key : ∀ (i : Fin 4) (x : S1x32x256.Idx), (∀ a, (![i.val, 0, 0] : Fin 3 → ℕ) a + (x a).val = ((ix3 b d ch : S4x32x256.Idx) a).val) →
      b = i ∧ x = ix3 0 d ch := by
    intro i x hx
    have e0 := hx 0
    have e1 := hx 1
    have e2 := hx 2
    have l0 : (x 0).val < 1 := (x 0).isLt
    simp at e0 e1 e2
    refine ⟨Fin.ext (by omega), funext fun a => Fin.ext ?_⟩
    fin_cases a
    · simp at l0 ⊢
      try omega
    · simpa using e1
    · simpa using e2
  refine View.canon_eq_of_allAt _ _ _ (View.cover_of_tiled_head _ _ _ (by rfl) _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (by intro p hp; simp at hp))))
  · obtain ⟨e, rfl⟩ := key 3 x (fun a => (hx a).symm)
    exact h3 e
  · obtain ⟨e, rfl⟩ := key 2 x (fun a => (hx a).symm)
    exact h2 e
  · obtain ⟨e, rfl⟩ := key 1 x (fun a => (hx a).symm)
    exact h1 e
  · obtain ⟨e, rfl⟩ := key 0 x (fun a => (hx a).symm)
    exact h0 e

/-- Row 8 of the selection table as read by the gather. -/
theorem row8 (v90 v91 : FVec Ideal S12x32 .f32) (f : FVec Ideal S1x512x400 .f32) (d : Fin 32) (ch : Fin 512) (k : Fin 400)
    (hk : (v90 (ix2 8 d) : EReal) = ((k.val : ℝ) : EReal)) :
    ((k0_pay53 v90 v91 f : FVec Ideal S1x32x512 .f32) (ix3 0 d ch) : EReal) = (v91 (ix2 8 d) : EReal) * f (ix3 0 ch k) := by
  unfold k0_pay53
  try unfold k0_pay52
  pointwise
  exact onehot (by omega) _ _ (fun x => f (ix3 0 ch x)) k hk
/-- Row 9 of the selection table as read by the gather. -/
theorem row9 (v90 v91 : FVec Ideal S12x32 .f32) (f : FVec Ideal S1x512x400 .f32) (d : Fin 32) (ch : Fin 512) (k : Fin 400)
    (hk : (v90 (ix2 9 d) : EReal) = ((k.val : ℝ) : EReal)) :
    ((k0_pay56 (k0_pay54 v90 v91) (k0_pay55 f) (constant S32x512 .f32 0#32) : FVec Ideal S1x32x512 .f32) (ix3 0 d ch) : EReal) = (v91 (ix2 9 d) : EReal) * f (ix3 0 ch k) := by
  unfold k0_pay56 k0_pay54 k0_pay55 k0_pay52
  try unfold k0_pay38
  pointwise
  exact onehot (by omega) _ _ (fun x => f (ix3 0 ch x)) k hk
/-- Row 10 of the selection table as read by the gather. -/
theorem row10 (v90 v91 : FVec Ideal S12x32 .f32) (f : FVec Ideal S1x512x400 .f32) (d : Fin 32) (ch : Fin 512) (k : Fin 400)
    (hk : (v90 (ix2 10 d) : EReal) = ((k.val : ℝ) : EReal)) :
    ((k0_pay57 v90 v91 (k0_pay52 (F := Ideal)) f : FVec Ideal S1x32x512 .f32) (ix3 0 d ch) : EReal) = (v91 (ix2 10 d) : EReal) * f (ix3 0 ch k) := by
  unfold k0_pay57 k0_pay52
  try unfold k0_pay38
  pointwise
  exact onehot (by omega) _ _ (fun x => f (ix3 0 ch x)) k hk
/-- Row 11 of the selection table as read by the gather. -/
theorem row11 (v90 v91 : FVec Ideal S12x32 .f32) (f : FVec Ideal S1x512x400 .f32) (d : Fin 32) (ch : Fin 512) (k : Fin 400)
    (hk : (v90 (ix2 11 d) : EReal) = ((k.val : ℝ) : EReal)) :
    ((k0_pay58 v90 v91 (k0_pay52 (F := Ideal)) f : FVec Ideal S1x32x512 .f32) (ix3 0 d ch) : EReal) = (v91 (ix2 11 d) : EReal) * f (ix3 0 ch k) := by
  unfold k0_pay58 k0_pay52
  try unfold k0_pay38
  pointwise
  exact onehot (by omega) _ _ (fun x => f (ix3 0 ch x)) k hk
/-- Four rows written one after the other, read back. -/
theorem rows512 (p0 p1 p2 p3 : FVec Ideal S1x32x512 .f32) (b : Fin 4) (d : Fin 32) (ch : Fin 512) (v : EReal)
    (h0 : b = 0 → p0 (ix3 0 d ch) = v) (h1 : b = 1 → p1 (ix3 0 d ch) = v) (h2 : b = 2 → p2 (ix3 0 d ch) = v)
    (h3 : b = 3 → p3 (ix3 0 d ch) = v) :
    (View.canon ([⟨Rect.unit ![3, 0, 0] ![1, 32, 512] inb_S4x32x512_S1x32x512_3_0_0, p3⟩, ⟨Rect.unit ![2, 0, 0] ![1, 32, 512] inb_S4x32x512_S1x32x512_2_0_0, p2⟩, ⟨Rect.unit ![1, 0, 0] ![1, 32, 512] inb_S4x32x512_S1x32x512_1_0_0, p1⟩, ⟨Rect.unit ![0, 0, 0] ![1, 32, 512] inb_S4x32x512_S1x32x512_0_0_0, p0⟩] : List (View.Piece (Elt Ideal) S4x32x512 .f32)) (ix3 b d ch) : EReal) = v := by
  have key : ∀ (i : Fin 4) (x : S1x32x512.Idx), (∀ a, (![i.val, 0, 0] : Fin 3 → ℕ) a + (x a).val = ((ix3 b d ch : S4x32x512.Idx) a).val) →
      b = i ∧ x = ix3 0 d ch := by
    intro i x hx
    have e0 := hx 0
    have e1 := hx 1
    have e2 := hx 2
    have l0 : (x 0).val < 1 := (x 0).isLt
    simp at e0 e1 e2
    refine ⟨Fin.ext (by omega), funext fun a => Fin.ext ?_⟩
    fin_cases a
    · simp at l0 ⊢
      try omega
    · simpa using e1
    · simpa using e2
  refine View.canon_eq_of_allAt _ _ _ (View.cover_of_tiled_head _ _ _ (by rfl) _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (by intro p hp; simp at hp))))
  · obtain ⟨e, rfl⟩ := key 3 x (fun a => (hx a).symm)
    exact h3 e
  · obtain ⟨e, rfl⟩ := key 2 x (fun a => (hx a).symm)
    exact h2 e
  · obtain ⟨e, rfl⟩ := key 1 x (fun a => (hx a).symm)
    exact h1 e
  · obtain ⟨e, rfl⟩ := key 0 x (fun a => (hx a).symm)
    exact h0 e

end Cert.KernelIdeal.Value

end
-- ==== Proof.Value.Outs.lean ====
module

public import proofs.«01_k».proof.Proof.Value.Selected
public import proofs.«01_k».proof.Proof.Value.Rows
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.StableHlo Idealize.ShloMosaic.Pointwise Cert.Nms

variable (m : (ℓ : Loc nD τ sig) → Buf (Elt Ideal) ℓ) (c : Dev nD)

/-- What the kernel's loop leaves on the entry's planes. -/
def left := loopOut (iblk m c 0 t0_0) (iblk m c 1 t0_0) (iblk m c 2 t0_0) (iblk m c 3 t0_0) (iblk m c 4 t0_0) (k0_pay22 (iblk m c 5 t0_0) (iblk m c 10 t0_0)) (k0_pay23 (iblk m c 6 t0_0) (iblk m c 11 t0_0)) (k0_pay24 (iblk m c 7 t0_0) (iblk m c 12 t0_0)) (k0_pay25 (iblk m c 8 t0_0) (iblk m c 13 t0_0)) (k0_pay26 (iblk m c 9 t0_0) (iblk m c 14 t0_0)) (k0_pay27 (F := Ideal)) (iota .tc S4x3x20x20 32 [2] iota_S4x3x20x20_d2_w32)

/-- Output 18: the product with a scaled indicator picks one column of the features. -/
theorem outs18 (b : Fin 4) (d : Fin 32) (ch : Fin 128) (k : Fin 6400) (s : EReal)
    (hp : ((left m c).2.1 (ix2 b d) : EReal) = ((k.val : ℝ) : EReal)) (hv : ((left m c).2.2.1 (ix2 b d) : EReal) = s) :
    ((outsAt0 m c t0_0).1 (ix3 b d ch) : EReal) = s * (iblk m c 15 t0_0 : FVec Ideal S4x128x6400 .f32) (ix3 b ch k) := by
  unfold left loopOut at hp hv
  unfold outsAt0
  frame_out
  simp only [read_unread_whole]
  generalize selected (iblk m c 0 t0_0) (iblk m c 1 t0_0) (iblk m c 2 t0_0) (iblk m c 3 t0_0) (iblk m c 4 t0_0) (k0_pay20 (F := Ideal)) (k0_pay21 (F := Ideal)) (iota .tc S4x32 32 [1] iota_S4x32_d1_w32) (k0_pay22 (iblk m c 5 t0_0) (iblk m c 10 t0_0)) (k0_pay23 (iblk m c 6 t0_0) (iblk m c 11 t0_0)) (k0_pay24 (iblk m c 7 t0_0) (iblk m c 12 t0_0)) (k0_pay25 (iblk m c 8 t0_0) (iblk m c 13 t0_0)) (k0_pay26 (iblk m c 9 t0_0) (iblk m c 14 t0_0)) (k0_pay27 (F := Ideal)) (iota .tc S4x3x20x20 32 [2] iota_S4x3x20x20_d2_w32) = L at hp hv ⊢
  generalize (iblk m c 15 t0_0 : FVec Ideal S4x128x6400 .f32) = f
  have ld : ∀ (i : Fin 4) (inb), (View.ld f (Rect.unit ![i.val, 0, 0] ![1, 128, 6400] inb) : FVec Ideal S1x128x6400 .f32) (ix3 0 ch k) = f (ix3 i ch k) :=
    fun i inb => View.ld_unit_apply_of f _ _ inb _ _ (by intro a; fin_cases a <;> simp)
  refine rows128 _ _ _ _ b d ch _ (fun hb => ?_) (fun hb => ?_) (fun hb => ?_) (fun hb => ?_)
  · subst hb
    refine (row0 _ _ _ _ _ d ch k hp).trans ?_
    rw [hv]
    exact congrArg (s * ·) (ld 0 _)
  · subst hb
    refine (row1 _ _ _ d ch k ((join36A _ _ ⟨1, by omega⟩ d).trans hp)).trans ?_
    refine (congrArg (· * _) ((join37A _ _ ⟨1, by omega⟩ d).trans hv)).trans ?_
    exact congrArg (s * ·) (ld 1 _)
  · subst hb
    refine (row2 _ _ _ d ch k ((join36A _ _ ⟨2, by omega⟩ d).trans hp)).trans ?_
    refine (congrArg (· * _) ((join37A _ _ ⟨2, by omega⟩ d).trans hv)).trans ?_
    exact congrArg (s * ·) (ld 2 _)
  · subst hb
    refine (row3 _ _ _ d ch k ((join36A _ _ ⟨3, by omega⟩ d).trans hp)).trans ?_
    refine (congrArg (· * _) ((join37A _ _ ⟨3, by omega⟩ d).trans hv)).trans ?_
    exact congrArg (s * ·) (ld 3 _)
/-- Output 19: the product with a scaled indicator picks one column of the features. -/
theorem outs19 (b : Fin 4) (d : Fin 32) (ch : Fin 256) (k : Fin 1600) (s : EReal)
    (hp : ((left m c).2.2.2.2.1 (ix2 ⟨b.val, by omega⟩ d) : EReal) = ((k.val : ℝ) : EReal)) (hv : ((left m c).2.2.2.2.2 (ix2 ⟨b.val, by omega⟩ d) : EReal) = s) :
    ((outsAt0 m c t0_0).2.1 (ix3 b d ch) : EReal) = s * (iblk m c 16 t0_0 : FVec Ideal S4x256x1600 .f32) (ix3 b ch k) := by
  unfold left loopOut at hp hv
  unfold outsAt0
  frame_out
  simp only [read_unread_whole]
  generalize selected (iblk m c 0 t0_0) (iblk m c 1 t0_0) (iblk m c 2 t0_0) (iblk m c 3 t0_0) (iblk m c 4 t0_0) (k0_pay20 (F := Ideal)) (k0_pay21 (F := Ideal)) (iota .tc S4x32 32 [1] iota_S4x32_d1_w32) (k0_pay22 (iblk m c 5 t0_0) (iblk m c 10 t0_0)) (k0_pay23 (iblk m c 6 t0_0) (iblk m c 11 t0_0)) (k0_pay24 (iblk m c 7 t0_0) (iblk m c 12 t0_0)) (k0_pay25 (iblk m c 8 t0_0) (iblk m c 13 t0_0)) (k0_pay26 (iblk m c 9 t0_0) (iblk m c 14 t0_0)) (k0_pay27 (F := Ideal)) (iota .tc S4x3x20x20 32 [2] iota_S4x3x20x20_d2_w32) = L at hp hv ⊢
  generalize (iblk m c 16 t0_0 : FVec Ideal S4x256x1600 .f32) = f
  have ld : ∀ (i : Fin 4) (inb), (View.ld f (Rect.unit ![i.val, 0, 0] ![1, 256, 1600] inb) : FVec Ideal S1x256x1600 .f32) (ix3 0 ch k) = f (ix3 i ch k) :=
    fun i inb => View.ld_unit_apply_of f _ _ inb _ _ (by intro a; fin_cases a <;> simp)
  refine rows256 _ _ _ _ b d ch _ (fun hb => ?_) (fun hb => ?_) (fun hb => ?_) (fun hb => ?_)
  · subst hb
    refine (row4 _ _ _ d ch k ((join36B _ _ ⟨0, by omega⟩ d).trans hp)).trans ?_
    refine (congrArg (· * _) ((join37B _ _ ⟨0, by omega⟩ d).trans hv)).trans ?_
    exact congrArg (s * ·) (ld 0 _)
  · subst hb
    refine (row5 _ _ _ d ch k ((join36B _ _ ⟨1, by omega⟩ d).trans hp)).trans ?_
    refine (congrArg (· * _) ((join37B _ _ ⟨1, by omega⟩ d).trans hv)).trans ?_
    exact congrArg (s * ·) (ld 1 _)
  · subst hb
    refine (row6 _ _ _ d ch k ((join36B _ _ ⟨2, by omega⟩ d).trans hp)).trans ?_
    refine (congrArg (· * _) ((join37B _ _ ⟨2, by omega⟩ d).trans hv)).trans ?_
    exact congrArg (s * ·) (ld 2 _)
  · subst hb
    refine (row7 _ _ _ d ch k ((join36B _ _ ⟨3, by omega⟩ d).trans hp)).trans ?_
    refine (congrArg (· * _) ((join37B _ _ ⟨3, by omega⟩ d).trans hv)).trans ?_
    exact congrArg (s * ·) (ld 3 _)
/-- Output 20: the product with a scaled indicator picks one column of the features. -/
theorem outs20 (b : Fin 4) (d : Fin 32) (ch : Fin 512) (k : Fin 400) (s : EReal)
    (hp : ((left m c).2.2.2.2.1 (ix2 ⟨4 + b.val, by omega⟩ d) : EReal) = ((k.val : ℝ) : EReal)) (hv : ((left m c).2.2.2.2.2 (ix2 ⟨4 + b.val, by omega⟩ d) : EReal) = s) :
    ((outsAt0 m c t0_0).2.2 (ix3 b d ch) : EReal) = s * (iblk m c 17 t0_0 : FVec Ideal S4x512x400 .f32) (ix3 b ch k) := by
  unfold left loopOut at hp hv
  unfold outsAt0
  frame_out
  simp only [read_unread_whole]
  generalize selected (iblk m c 0 t0_0) (iblk m c 1 t0_0) (iblk m c 2 t0_0) (iblk m c 3 t0_0) (iblk m c 4 t0_0) (k0_pay20 (F := Ideal)) (k0_pay21 (F := Ideal)) (iota .tc S4x32 32 [1] iota_S4x32_d1_w32) (k0_pay22 (iblk m c 5 t0_0) (iblk m c 10 t0_0)) (k0_pay23 (iblk m c 6 t0_0) (iblk m c 11 t0_0)) (k0_pay24 (iblk m c 7 t0_0) (iblk m c 12 t0_0)) (k0_pay25 (iblk m c 8 t0_0) (iblk m c 13 t0_0)) (k0_pay26 (iblk m c 9 t0_0) (iblk m c 14 t0_0)) (k0_pay27 (F := Ideal)) (iota .tc S4x3x20x20 32 [2] iota_S4x3x20x20_d2_w32) = L at hp hv ⊢
  generalize (iblk m c 17 t0_0 : FVec Ideal S4x512x400 .f32) = f
  have ld : ∀ (i : Fin 4) (inb), (View.ld f (Rect.unit ![i.val, 0, 0] ![1, 512, 400] inb) : FVec Ideal S1x512x400 .f32) (ix3 0 ch k) = f (ix3 i ch k) :=
    fun i inb => View.ld_unit_apply_of f _ _ inb _ _ (by intro a; fin_cases a <;> simp)
  refine rows512 _ _ _ _ b d ch _ (fun hb => ?_) (fun hb => ?_) (fun hb => ?_) (fun hb => ?_)
  · subst hb
    refine (row8 _ _ _ d ch k ((join36B _ _ ⟨4, by omega⟩ d).trans hp)).trans ?_
    refine (congrArg (· * _) ((join37B _ _ ⟨4, by omega⟩ d).trans hv)).trans ?_
    exact congrArg (s * ·) (ld 0 _)
  · subst hb
    refine (row9 _ _ _ d ch k ((join36B _ _ ⟨5, by omega⟩ d).trans hp)).trans ?_
    refine (congrArg (· * _) ((join37B _ _ ⟨5, by omega⟩ d).trans hv)).trans ?_
    exact congrArg (s * ·) (ld 1 _)
  · subst hb
    refine (row10 _ _ _ d ch k ((join36B _ _ ⟨6, by omega⟩ d).trans hp)).trans ?_
    refine (congrArg (· * _) ((join37B _ _ ⟨6, by omega⟩ d).trans hv)).trans ?_
    exact congrArg (s * ·) (ld 2 _)
  · subst hb
    refine (row11 _ _ _ d ch k ((join36B _ _ ⟨7, by omega⟩ d).trans hp)).trans ?_
    refine (congrArg (· * _) ((join37B _ _ ⟨7, by omega⟩ d).trans hv)).trans ?_
    exact congrArg (s * ·) (ld 3 _)

end Cert.KernelIdeal.Value

end
-- ==== Proof.Value.Layout.lean ====
module

public import Idealize.ShloMosaic.Lib.Pointwise
public import proofs.«01_k».proof.Proof.Value.Cells

@[expose] public section

set_option maxRecDepth 16384

noncomputable section

namespace Cert.Nms

open Idealize.ShloMosaic Idealize.ShloMosaic.Pointwise

/-- The place of a candidate of the first level. -/
def phi0 (q : Fin 19200) : Fin 240 × Fin 80 := (⟨q.val / 80, by omega⟩, ⟨q.val % 80, by omega⟩)
/-- The place of a candidate of the second level. -/
def phi1 (q : Fin 4800) : Fin 120 × Fin 40 := (⟨q.val / 40, by omega⟩, ⟨q.val % 40, by omega⟩)
/-- The place of a candidate of the third level. -/
def phi2 (q : Fin 1200) : Fin 60 × Fin 20 := (⟨q.val / 20, by omega⟩, ⟨q.val % 20, by omega⟩)
/-- The place of a candidate of the third level in a plane as large as the second level's. -/
def wide2 (q : Fin 1200) : Fin 120 × Fin 40 := (⟨q.val / 20, by omega⟩, ⟨q.val % 20, by omega⟩)

/-- How a level lies in the planes of the kernel. -/
theorem laid0 : Laid phi0 where
  mono q q' h := by
    have h : q.val ≤ q'.val := h
    simp only [cellNo, phi0]; omega
  inj q q' h := by
    have := congrArg cellNo h
    simp only [cellNo, phi0] at this
    exact Fin.ext (by omega)
  zero := by simp [cellNo, phi0]

/-- How a level lies in the planes of the kernel. -/
theorem laid1 : Laid phi1 where
  mono q q' h := by
    have h : q.val ≤ q'.val := h
    simp only [cellNo, phi1]; omega
  inj q q' h := by
    have := congrArg cellNo h
    simp only [cellNo, phi1] at this
    exact Fin.ext (by omega)
  zero := by simp [cellNo, phi1]

/-- How a level lies in the planes of the kernel. -/
theorem laidWide2 : Laid wide2 where
  mono q q' h := by
    have h : q.val ≤ q'.val := h
    simp only [cellNo, wide2]; omega
  inj q q' h := by
    have := congrArg cellNo h
    simp only [cellNo, wide2] at this
    exact Fin.ext (by omega)
  zero := by simp [cellNo, wide2]

/-- The layout reaches every candidate. -/
theorem phi0_onto (r : Fin 240) (c : Fin 80) : ∃ q, phi0 q = (r, c) :=
  ⟨⟨r.val * 80 + c.val, by omega⟩, Prod.ext (Fin.ext (by simp only [phi0]; omega)) (Fin.ext (by simp only [phi0]; omega))⟩
/-- The layout reaches every candidate. -/
theorem phi1_onto (r : Fin 120) (c : Fin 40) : ∃ q, phi1 q = (r, c) :=
  ⟨⟨r.val * 40 + c.val, by omega⟩, Prod.ext (Fin.ext (by simp only [phi1]; omega)) (Fin.ext (by simp only [phi1]; omega))⟩
/-- The layout reaches every candidate. -/
theorem wide2_onto (r : Fin 120) (c : Fin 40) (hr : r.val < 60) (hc : c.val < 20) : ∃ q, wide2 q = (r, c) :=
  ⟨⟨r.val * 20 + c.val, by omega⟩, Prod.ext (Fin.ext (by simp only [wide2]; omega)) (Fin.ext (by simp only [wide2]; omega))⟩

variable {R C n : ℕ}

/-- The candidate boxes of image `b`, read off four planes of corners. -/
def boxesOf (φ : Fin n → Fin R × Fin C) (x1 y1 x2 y2 : (⟨3, ![4, R, C]⟩ : Shape).Idx → EReal) (b : Fin 4) : Boxes n where
  x1 q := x1 (ix3 b (φ q).1 (φ q).2)
  y1 q := y1 (ix3 b (φ q).1 (φ q).2)
  x2 q := x2 (ix3 b (φ q).1 (φ q).2)
  y2 q := y2 (ix3 b (φ q).1 (φ q).2)

/-- The scores of image `b`'s candidates, read off a plane. -/
def scoresOf (φ : Fin n → Fin R × Fin C) (s : (⟨3, ![4, R, C]⟩ : Shape).Idx → EReal) (b : Fin 4) : Fin n → EReal :=
  fun q => s (ix3 b (φ q).1 (φ q).2)

open Classical in
/-- What one result holds for image `b`, selection `d`, channel `ch`: the feature of the place of the chosen candidate while
    a candidate is left, else zero. -/
def answer {Y Ch : ℕ} [NeZero n] (hY : 0 < Y) (φ : Fin n → Fin R × Fin C) (x1 y1 x2 y2 s : (⟨3, ![4, R, C]⟩ : Shape).Idx → EReal)
    (f : (⟨4, ![4, Ch, Y, Y]⟩ : Shape).Idx → EReal) (b : Fin 4) (d : ℕ) (ch : Fin Ch) : EReal :=
  if alive (boxesOf φ x1 y1 x2 y2 b) (scoresOf φ s b) d then
    f (ix4 b ch ⟨(chosen (boxesOf φ x1 y1 x2 y2 b) (scoresOf φ s b) d).val / Y % Y, Nat.mod_lt _ hY⟩
      ⟨(chosen (boxesOf φ x1 y1 x2 y2 b) (scoresOf φ s b) d).val % Y, Nat.mod_lt _ hY⟩)
  else 0

end Cert.Nms

end
-- ==== Proof.Value.Inputs.lean ====
module

public import proofs.«01_k».proof.Proof.RunIdeal.Exit
public import proofs.«01_k».proof.Proof.Value.Layout
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.StableHlo Idealize.ShloMosaic.Pointwise Cert.Nms

/-- The first four images of the stacked plane 22 are the second level. -/
theorem lo22 (x : FVec Ideal S4x120x40 .f32) (y : FVec Ideal S4x60x20 .f32) (b : Fin 4) (r : Fin 120) (c : Fin 40) :
    (k0_pay22 (F := Ideal) x y (ix3 ⟨b.val, by omega⟩ r c) : EReal) = x (ix3 b r c) := by
  unfold k0_pay22
  pointwise
  try simp [b.isLt]
/-- The last four images of the stacked plane 22 are the third level, padded. -/
theorem hi22 (x : FVec Ideal S4x120x40 .f32) (y : FVec Ideal S4x60x20 .f32) (b : Fin 4) (r : Fin 120) (c : Fin 40) (hr : r.val < 60) (hc : c.val < 20) :
    (k0_pay22 (F := Ideal) x y (ix3 ⟨4 + b.val, by omega⟩ r c) : EReal) = y (ix3 b ⟨r.val, hr⟩ ⟨c.val, hc⟩) := by
  unfold k0_pay22
  pointwise
  simp [hr, hc]
/-- The first four images of the stacked plane 23 are the second level. -/
theorem lo23 (x : FVec Ideal S4x120x40 .f32) (y : FVec Ideal S4x60x20 .f32) (b : Fin 4) (r : Fin 120) (c : Fin 40) :
    (k0_pay23 (F := Ideal) x y (ix3 ⟨b.val, by omega⟩ r c) : EReal) = x (ix3 b r c) := by
  unfold k0_pay23
  pointwise
  try simp [b.isLt]
/-- The last four images of the stacked plane 23 are the third level, padded. -/
theorem hi23 (x : FVec Ideal S4x120x40 .f32) (y : FVec Ideal S4x60x20 .f32) (b : Fin 4) (r : Fin 120) (c : Fin 40) (hr : r.val < 60) (hc : c.val < 20) :
    (k0_pay23 (F := Ideal) x y (ix3 ⟨4 + b.val, by omega⟩ r c) : EReal) = y (ix3 b ⟨r.val, hr⟩ ⟨c.val, hc⟩) := by
  unfold k0_pay23
  pointwise
  simp [hr, hc]
/-- The first four images of the stacked plane 24 are the second level. -/
theorem lo24 (x : FVec Ideal S4x120x40 .f32) (y : FVec Ideal S4x60x20 .f32) (b : Fin 4) (r : Fin 120) (c : Fin 40) :
    (k0_pay24 (F := Ideal) x y (ix3 ⟨b.val, by omega⟩ r c) : EReal) = x (ix3 b r c) := by
  unfold k0_pay24
  pointwise
  try simp [b.isLt]
/-- The last four images of the stacked plane 24 are the third level, padded. -/
theorem hi24 (x : FVec Ideal S4x120x40 .f32) (y : FVec Ideal S4x60x20 .f32) (b : Fin 4) (r : Fin 120) (c : Fin 40) (hr : r.val < 60) (hc : c.val < 20) :
    (k0_pay24 (F := Ideal) x y (ix3 ⟨4 + b.val, by omega⟩ r c) : EReal) = y (ix3 b ⟨r.val, hr⟩ ⟨c.val, hc⟩) := by
  unfold k0_pay24
  pointwise
  simp [hr, hc]
/-- The first four images of the stacked plane 25 are the second level. -/
theorem lo25 (x : FVec Ideal S4x120x40 .f32) (y : FVec Ideal S4x60x20 .f32) (b : Fin 4) (r : Fin 120) (c : Fin 40) :
    (k0_pay25 (F := Ideal) x y (ix3 ⟨b.val, by omega⟩ r c) : EReal) = x (ix3 b r c) := by
  unfold k0_pay25
  pointwise
  try simp [b.isLt]
/-- The last four images of the stacked plane 25 are the third level, padded. -/
theorem hi25 (x : FVec Ideal S4x120x40 .f32) (y : FVec Ideal S4x60x20 .f32) (b : Fin 4) (r : Fin 120) (c : Fin 40) (hr : r.val < 60) (hc : c.val < 20) :
    (k0_pay25 (F := Ideal) x y (ix3 ⟨4 + b.val, by omega⟩ r c) : EReal) = y (ix3 b ⟨r.val, hr⟩ ⟨c.val, hc⟩) := by
  unfold k0_pay25
  pointwise
  simp [hr, hc]
/-- The first four images of the stacked plane 26 are the second level. -/
theorem lo26 (x : FVec Ideal S4x120x40 .f32) (y : FVec Ideal S4x60x20 .f32) (b : Fin 4) (r : Fin 120) (c : Fin 40) :
    (k0_pay26 (F := Ideal) x y (ix3 ⟨b.val, by omega⟩ r c) : EReal) = x (ix3 b r c) := by
  unfold k0_pay26
  pointwise
  try simp [b.isLt]
/-- The last four images of the stacked plane 26 are the third level, padded. -/
theorem hi26 (x : FVec Ideal S4x120x40 .f32) (y : FVec Ideal S4x60x20 .f32) (b : Fin 4) (r : Fin 120) (c : Fin 40) (hr : r.val < 60) (hc : c.val < 20) :
    (k0_pay26 (F := Ideal) x y (ix3 ⟨4 + b.val, by omega⟩ r c) : EReal) = y (ix3 b ⟨r.val, hr⟩ ⟨c.val, hc⟩) := by
  unfold k0_pay26
  pointwise
  simp [hr, hc]
/-- The padded plane of scores is minus infinity outside the third level. -/
theorem pad26 (x : FVec Ideal S4x120x40 .f32) (y : FVec Ideal S4x60x20 .f32) (b : Fin 4) (r : Fin 120) (c : Fin 40) (h : ¬ (r.val < 60 ∧ c.val < 20)) :
    (k0_pay26 (F := Ideal) x y (ix3 ⟨4 + b.val, by omega⟩ r c) : EReal) = (⊥ : EReal) := by
  unfold k0_pay26
  pointwise
  simp only [ofBits_negInf]
  simp
  omega
/-- The table of cell numbers of the first level. -/
theorem pmA (b : Fin 4) (r : Fin 240) (c : Fin 80) :
    (k0_pay20 (F := Ideal) (ix3 b r c) : EReal) = (((r.val % 80 * 80 + c.val : ℕ) : ℝ) : EReal) := by
  unfold k0_pay20
  pointwise
  exact sitofp_lin (r.val % 80) 80 c.val (by omega)
/-- The table of cell numbers of the second level. -/
theorem pmLo (b : Fin 4) (r : Fin 120) (c : Fin 40) :
    (k0_pay28 (k0_pay27 (F := Ideal)) (iota .tc S4x3x20x20 32 [2] iota_S4x3x20x20_d2_w32) (ix3 ⟨b.val, by omega⟩ r c) : EReal)
      = (((r.val % 40 * 40 + c.val : ℕ) : ℝ) : EReal) := by
  unfold k0_pay28 k0_pay27
  pointwise
  exact sitofp_lin (r.val % 40) 40 c.val (by omega)
/-- The table of cell numbers of the third level. -/
theorem pmHi (b : Fin 4) (r : Fin 120) (c : Fin 40) (hr : r.val < 60) (hc : c.val < 20) :
    (k0_pay28 (k0_pay27 (F := Ideal)) (iota .tc S4x3x20x20 32 [2] iota_S4x3x20x20_d2_w32) (ix3 ⟨4 + b.val, by omega⟩ r c) : EReal)
      = (((r.val % 20 * 20 + c.val : ℕ) : ℝ) : EReal) := by
  unfold k0_pay28 k0_pay27
  pointwise
  simp only [hr, hc, dite_true, ite_true, reduceDIte, reduceIte]
  exact sitofp_lin (r.val % 20) 20 c.val (by omega)

variable (m : (ℓ : Loc nD τ sig) → Buf (Elt Ideal) ℓ) (c : Dev nD)

/-- Window 0 of the invocation is the whole entry buffer. -/
theorem win0 : iblk m c 0 t0_0 = V m c main_arg3 := by
  funext x
  unfold iblk
  blk_simp
  refine congrArg (V m c main_arg3) (funext fun a => Fin.ext ?_)
  change Fin 3 at a
  fin_cases a <;> simp [Pipeline.Window.blk] <;> first | rfl | decide
/-- Window 1 of the invocation is the whole entry buffer. -/
theorem win1 : iblk m c 1 t0_0 = V m c main_arg4 := by
  funext x
  unfold iblk
  blk_simp
  refine congrArg (V m c main_arg4) (funext fun a => Fin.ext ?_)
  change Fin 3 at a
  fin_cases a <;> simp [Pipeline.Window.blk] <;> first | rfl | decide
/-- Window 2 of the invocation is the whole entry buffer. -/
theorem win2 : iblk m c 2 t0_0 = V m c main_arg5 := by
  funext x
  unfold iblk
  blk_simp
  refine congrArg (V m c main_arg5) (funext fun a => Fin.ext ?_)
  change Fin 3 at a
  fin_cases a <;> simp [Pipeline.Window.blk] <;> first | rfl | decide
/-- Window 3 of the invocation is the whole entry buffer. -/
theorem win3 : iblk m c 3 t0_0 = V m c main_arg6 := by
  funext x
  unfold iblk
  blk_simp
  refine congrArg (V m c main_arg6) (funext fun a => Fin.ext ?_)
  change Fin 3 at a
  fin_cases a <;> simp [Pipeline.Window.blk] <;> first | rfl | decide
/-- Window 4 of the invocation is the whole entry buffer. -/
theorem win4 : iblk m c 4 t0_0 = V m c main_arg7 := by
  funext x
  unfold iblk
  blk_simp
  refine congrArg (V m c main_arg7) (funext fun a => Fin.ext ?_)
  change Fin 3 at a
  fin_cases a <;> simp [Pipeline.Window.blk] <;> first | rfl | decide
/-- Window 5 of the invocation is the whole entry buffer. -/
theorem win5 : iblk m c 5 t0_0 = V m c main_arg8 := by
  funext x
  unfold iblk
  blk_simp
  refine congrArg (V m c main_arg8) (funext fun a => Fin.ext ?_)
  change Fin 3 at a
  fin_cases a <;> simp [Pipeline.Window.blk] <;> first | rfl | decide
/-- Window 6 of the invocation is the whole entry buffer. -/
theorem win6 : iblk m c 6 t0_0 = V m c main_arg9 := by
  funext x
  unfold iblk
  blk_simp
  refine congrArg (V m c main_arg9) (funext fun a => Fin.ext ?_)
  change Fin 3 at a
  fin_cases a <;> simp [Pipeline.Window.blk] <;> first | rfl | decide
/-- Window 7 of the invocation is the whole entry buffer. -/
theorem win7 : iblk m c 7 t0_0 = V m c main_arg10 := by
  funext x
  unfold iblk
  blk_simp
  refine congrArg (V m c main_arg10) (funext fun a => Fin.ext ?_)
  change Fin 3 at a
  fin_cases a <;> simp [Pipeline.Window.blk] <;> first | rfl | decide
/-- Window 8 of the invocation is the whole entry buffer. -/
theorem win8 : iblk m c 8 t0_0 = V m c main_arg11 := by
  funext x
  unfold iblk
  blk_simp
  refine congrArg (V m c main_arg11) (funext fun a => Fin.ext ?_)
  change Fin 3 at a
  fin_cases a <;> simp [Pipeline.Window.blk] <;> first | rfl | decide
/-- Window 9 of the invocation is the whole entry buffer. -/
theorem win9 : iblk m c 9 t0_0 = V m c main_arg12 := by
  funext x
  unfold iblk
  blk_simp
  refine congrArg (V m c main_arg12) (funext fun a => Fin.ext ?_)
  change Fin 3 at a
  fin_cases a <;> simp [Pipeline.Window.blk] <;> first | rfl | decide
/-- Window 10 of the invocation is the whole entry buffer. -/
theorem win10 : iblk m c 10 t0_0 = V m c main_arg13 := by
  funext x
  unfold iblk
  blk_simp
  refine congrArg (V m c main_arg13) (funext fun a => Fin.ext ?_)
  change Fin 3 at a
  fin_cases a <;> simp [Pipeline.Window.blk] <;> first | rfl | decide
/-- Window 11 of the invocation is the whole entry buffer. -/
theorem win11 : iblk m c 11 t0_0 = V m c main_arg14 := by
  funext x
  unfold iblk
  blk_simp
  refine congrArg (V m c main_arg14) (funext fun a => Fin.ext ?_)
  change Fin 3 at a
  fin_cases a <;> simp [Pipeline.Window.blk] <;> first | rfl | decide
/-- Window 12 of the invocation is the whole entry buffer. -/
theorem win12 : iblk m c 12 t0_0 = V m c main_arg15 := by
  funext x
  unfold iblk
  blk_simp
  refine congrArg (V m c main_arg15) (funext fun a => Fin.ext ?_)
  change Fin 3 at a
  fin_cases a <;> simp [Pipeline.Window.blk] <;> first | rfl | decide
/-- Window 13 of the invocation is the whole entry buffer. -/
theorem win13 : iblk m c 13 t0_0 = V m c main_arg16 := by
  funext x
  unfold iblk
  blk_simp
  refine congrArg (V m c main_arg16) (funext fun a => Fin.ext ?_)
  change Fin 3 at a
  fin_cases a <;> simp [Pipeline.Window.blk] <;> first | rfl | decide
/-- Window 14 of the invocation is the whole entry buffer. -/
theorem win14 : iblk m c 14 t0_0 = V m c main_arg17 := by
  funext x
  unfold iblk
  blk_simp
  refine congrArg (V m c main_arg17) (funext fun a => Fin.ext ?_)
  change Fin 3 at a
  fin_cases a <;> simp [Pipeline.Window.blk] <;> first | rfl | decide
/-- Window 15 of the invocation is the whole entry buffer. -/
theorem win15 : iblk m c 15 t0_0 = V m c main_v0 := by
  funext x
  unfold iblk
  blk_simp
  refine congrArg (V m c main_v0) (funext fun a => Fin.ext ?_)
  change Fin 3 at a
  fin_cases a <;> simp [Pipeline.Window.blk] <;> first | rfl | decide
/-- Window 16 of the invocation is the whole entry buffer. -/
theorem win16 : iblk m c 16 t0_0 = V m c main_v1 := by
  funext x
  unfold iblk
  blk_simp
  refine congrArg (V m c main_v1) (funext fun a => Fin.ext ?_)
  change Fin 3 at a
  fin_cases a <;> simp [Pipeline.Window.blk] <;> first | rfl | decide
/-- Window 17 of the invocation is the whole entry buffer. -/
theorem win17 : iblk m c 17 t0_0 = V m c main_v2 := by
  funext x
  unfold iblk
  blk_simp
  refine congrArg (V m c main_v2) (funext fun a => Fin.ext ?_)
  change Fin 3 at a
  fin_cases a <;> simp [Pipeline.Window.blk] <;> first | rfl | decide
/-- The entry buffer of window 3, in terms of the arguments of the program. -/
theorem launch3 : V m c main_arg3 = m ((c.tc : Thread nD τ).loc main_arg3) := by
  first
  | (show StableHlo.after (List.flatten [hostOps0]) (fun b => m (c, b)) (Proc.devRef .tc main_arg3) = _
     simp only [hostOps0, List.flatten_cons, List.flatten_nil, List.append_nil, List.cons_append, List.nil_append]
     after_results
     done)
  | (show StableHlo.after (List.flatten [hostOps0]) (fun b => m (c, b)) (Proc.devRef .tc main_arg3) = _
     simp only [hostOps0, List.flatten_cons, List.flatten_nil, List.append_nil, List.cons_append, List.nil_append]
     after_results
     rfl)
  | (after_results; done)
  | (unfold V V0 hostOps0; after_results; done)
/-- The entry buffer of window 4, in terms of the arguments of the program. -/
theorem launch4 : V m c main_arg4 = m ((c.tc : Thread nD τ).loc main_arg4) := by
  first
  | (show StableHlo.after (List.flatten [hostOps0]) (fun b => m (c, b)) (Proc.devRef .tc main_arg4) = _
     simp only [hostOps0, List.flatten_cons, List.flatten_nil, List.append_nil, List.cons_append, List.nil_append]
     after_results
     done)
  | (show StableHlo.after (List.flatten [hostOps0]) (fun b => m (c, b)) (Proc.devRef .tc main_arg4) = _
     simp only [hostOps0, List.flatten_cons, List.flatten_nil, List.append_nil, List.cons_append, List.nil_append]
     after_results
     rfl)
  | (after_results; done)
  | (unfold V V0 hostOps0; after_results; done)
/-- The entry buffer of window 5, in terms of the arguments of the program. -/
theorem launch5 : V m c main_arg5 = m ((c.tc : Thread nD τ).loc main_arg5) := by
  first
  | (show StableHlo.after (List.flatten [hostOps0]) (fun b => m (c, b)) (Proc.devRef .tc main_arg5) = _
     simp only [hostOps0, List.flatten_cons, List.flatten_nil, List.append_nil, List.cons_append, List.nil_append]
     after_results
     done)
  | (show StableHlo.after (List.flatten [hostOps0]) (fun b => m (c, b)) (Proc.devRef .tc main_arg5) = _
     simp only [hostOps0, List.flatten_cons, List.flatten_nil, List.append_nil, List.cons_append, List.nil_append]
     after_results
     rfl)
  | (after_results; done)
  | (unfold V V0 hostOps0; after_results; done)
/-- The entry buffer of window 6, in terms of the arguments of the program. -/
theorem launch6 : V m c main_arg6 = m ((c.tc : Thread nD τ).loc main_arg6) := by
  first
  | (show StableHlo.after (List.flatten [hostOps0]) (fun b => m (c, b)) (Proc.devRef .tc main_arg6) = _
     simp only [hostOps0, List.flatten_cons, List.flatten_nil, List.append_nil, List.cons_append, List.nil_append]
     after_results
     done)
  | (show StableHlo.after (List.flatten [hostOps0]) (fun b => m (c, b)) (Proc.devRef .tc main_arg6) = _
     simp only [hostOps0, List.flatten_cons, List.flatten_nil, List.append_nil, List.cons_append, List.nil_append]
     after_results
     rfl)
  | (after_results; done)
  | (unfold V V0 hostOps0; after_results; done)
/-- The entry buffer of window 7, in terms of the arguments of the program. -/
theorem launch7 : V m c main_arg7 = m ((c.tc : Thread nD τ).loc main_arg7) := by
  first
  | (show StableHlo.after (List.flatten [hostOps0]) (fun b => m (c, b)) (Proc.devRef .tc main_arg7) = _
     simp only [hostOps0, List.flatten_cons, List.flatten_nil, List.append_nil, List.cons_append, List.nil_append]
     after_results
     done)
  | (show StableHlo.after (List.flatten [hostOps0]) (fun b => m (c, b)) (Proc.devRef .tc main_arg7) = _
     simp only [hostOps0, List.flatten_cons, List.flatten_nil, List.append_nil, List.cons_append, List.nil_append]
     after_results
     rfl)
  | (after_results; done)
  | (unfold V V0 hostOps0; after_results; done)
/-- The entry buffer of window 8, in terms of the arguments of the program. -/
theorem launch8 : V m c main_arg8 = m ((c.tc : Thread nD τ).loc main_arg8) := by
  first
  | (show StableHlo.after (List.flatten [hostOps0]) (fun b => m (c, b)) (Proc.devRef .tc main_arg8) = _
     simp only [hostOps0, List.flatten_cons, List.flatten_nil, List.append_nil, List.cons_append, List.nil_append]
     after_results
     done)
  | (show StableHlo.after (List.flatten [hostOps0]) (fun b => m (c, b)) (Proc.devRef .tc main_arg8) = _
     simp only [hostOps0, List.flatten_cons, List.flatten_nil, List.append_nil, List.cons_append, List.nil_append]
     after_results
     rfl)
  | (after_results; done)
  | (unfold V V0 hostOps0; after_results; done)
/-- The entry buffer of window 9, in terms of the arguments of the program. -/
theorem launch9 : V m c main_arg9 = m ((c.tc : Thread nD τ).loc main_arg9) := by
  first
  | (show StableHlo.after (List.flatten [hostOps0]) (fun b => m (c, b)) (Proc.devRef .tc main_arg9) = _
     simp only [hostOps0, List.flatten_cons, List.flatten_nil, List.append_nil, List.cons_append, List.nil_append]
     after_results
     done)
  | (show StableHlo.after (List.flatten [hostOps0]) (fun b => m (c, b)) (Proc.devRef .tc main_arg9) = _
     simp only [hostOps0, List.flatten_cons, List.flatten_nil, List.append_nil, List.cons_append, List.nil_append]
     after_results
     rfl)
  | (after_results; done)
  | (unfold V V0 hostOps0; after_results; done)
/-- The entry buffer of window 10, in terms of the arguments of the program. -/
theorem launch10 : V m c main_arg10 = m ((c.tc : Thread nD τ).loc main_arg10) := by
  first
  | (show StableHlo.after (List.flatten [hostOps0]) (fun b => m (c, b)) (Proc.devRef .tc main_arg10) = _
     simp only [hostOps0, List.flatten_cons, List.flatten_nil, List.append_nil, List.cons_append, List.nil_append]
     after_results
     done)
  | (show StableHlo.after (List.flatten [hostOps0]) (fun b => m (c, b)) (Proc.devRef .tc main_arg10) = _
     simp only [hostOps0, List.flatten_cons, List.flatten_nil, List.append_nil, List.cons_append, List.nil_append]
     after_results
     rfl)
  | (after_results; done)
  | (unfold V V0 hostOps0; after_results; done)
/-- The entry buffer of window 11, in terms of the arguments of the program. -/
theorem launch11 : V m c main_arg11 = m ((c.tc : Thread nD τ).loc main_arg11) := by
  first
  | (show StableHlo.after (List.flatten [hostOps0]) (fun b => m (c, b)) (Proc.devRef .tc main_arg11) = _
     simp only [hostOps0, List.flatten_cons, List.flatten_nil, List.append_nil, List.cons_append, List.nil_append]
     after_results
     done)
  | (show StableHlo.after (List.flatten [hostOps0]) (fun b => m (c, b)) (Proc.devRef .tc main_arg11) = _
     simp only [hostOps0, List.flatten_cons, List.flatten_nil, List.append_nil, List.cons_append, List.nil_append]
     after_results
     rfl)
  | (after_results; done)
  | (unfold V V0 hostOps0; after_results; done)
/-- The entry buffer of window 12, in terms of the arguments of the program. -/
theorem launch12 : V m c main_arg12 = m ((c.tc : Thread nD τ).loc main_arg12) := by
  first
  | (show StableHlo.after (List.flatten [hostOps0]) (fun b => m (c, b)) (Proc.devRef .tc main_arg12) = _
     simp only [hostOps0, List.flatten_cons, List.flatten_nil, List.append_nil, List.cons_append, List.nil_append]
     after_results
     done)
  | (show StableHlo.after (List.flatten [hostOps0]) (fun b => m (c, b)) (Proc.devRef .tc main_arg12) = _
     simp only [hostOps0, List.flatten_cons, List.flatten_nil, List.append_nil, List.cons_append, List.nil_append]
     after_results
     rfl)
  | (after_results; done)
  | (unfold V V0 hostOps0; after_results; done)
/-- The entry buffer of window 13, in terms of the arguments of the program. -/
theorem launch13 : V m c main_arg13 = m ((c.tc : Thread nD τ).loc main_arg13) := by
  first
  | (show StableHlo.after (List.flatten [hostOps0]) (fun b => m (c, b)) (Proc.devRef .tc main_arg13) = _
     simp only [hostOps0, List.flatten_cons, List.flatten_nil, List.append_nil, List.cons_append, List.nil_append]
     after_results
     done)
  | (show StableHlo.after (List.flatten [hostOps0]) (fun b => m (c, b)) (Proc.devRef .tc main_arg13) = _
     simp only [hostOps0, List.flatten_cons, List.flatten_nil, List.append_nil, List.cons_append, List.nil_append]
     after_results
     rfl)
  | (after_results; done)
  | (unfold V V0 hostOps0; after_results; done)
/-- The entry buffer of window 14, in terms of the arguments of the program. -/
theorem launch14 : V m c main_arg14 = m ((c.tc : Thread nD τ).loc main_arg14) := by
  first
  | (show StableHlo.after (List.flatten [hostOps0]) (fun b => m (c, b)) (Proc.devRef .tc main_arg14) = _
     simp only [hostOps0, List.flatten_cons, List.flatten_nil, List.append_nil, List.cons_append, List.nil_append]
     after_results
     done)
  | (show StableHlo.after (List.flatten [hostOps0]) (fun b => m (c, b)) (Proc.devRef .tc main_arg14) = _
     simp only [hostOps0, List.flatten_cons, List.flatten_nil, List.append_nil, List.cons_append, List.nil_append]
     after_results
     rfl)
  | (after_results; done)
  | (unfold V V0 hostOps0; after_results; done)
/-- The entry buffer of window 15, in terms of the arguments of the program. -/
theorem launch15 : V m c main_arg15 = m ((c.tc : Thread nD τ).loc main_arg15) := by
  first
  | (show StableHlo.after (List.flatten [hostOps0]) (fun b => m (c, b)) (Proc.devRef .tc main_arg15) = _
     simp only [hostOps0, List.flatten_cons, List.flatten_nil, List.append_nil, List.cons_append, List.nil_append]
     after_results
     done)
  | (show StableHlo.after (List.flatten [hostOps0]) (fun b => m (c, b)) (Proc.devRef .tc main_arg15) = _
     simp only [hostOps0, List.flatten_cons, List.flatten_nil, List.append_nil, List.cons_append, List.nil_append]
     after_results
     rfl)
  | (after_results; done)
  | (unfold V V0 hostOps0; after_results; done)
/-- The entry buffer of window 16, in terms of the arguments of the program. -/
theorem launch16 : V m c main_arg16 = m ((c.tc : Thread nD τ).loc main_arg16) := by
  first
  | (show StableHlo.after (List.flatten [hostOps0]) (fun b => m (c, b)) (Proc.devRef .tc main_arg16) = _
     simp only [hostOps0, List.flatten_cons, List.flatten_nil, List.append_nil, List.cons_append, List.nil_append]
     after_results
     done)
  | (show StableHlo.after (List.flatten [hostOps0]) (fun b => m (c, b)) (Proc.devRef .tc main_arg16) = _
     simp only [hostOps0, List.flatten_cons, List.flatten_nil, List.append_nil, List.cons_append, List.nil_append]
     after_results
     rfl)
  | (after_results; done)
  | (unfold V V0 hostOps0; after_results; done)
/-- The entry buffer of window 17, in terms of the arguments of the program. -/
theorem launch17 : V m c main_arg17 = m ((c.tc : Thread nD τ).loc main_arg17) := by
  first
  | (show StableHlo.after (List.flatten [hostOps0]) (fun b => m (c, b)) (Proc.devRef .tc main_arg17) = _
     simp only [hostOps0, List.flatten_cons, List.flatten_nil, List.append_nil, List.cons_append, List.nil_append]
     after_results
     done)
  | (show StableHlo.after (List.flatten [hostOps0]) (fun b => m (c, b)) (Proc.devRef .tc main_arg17) = _
     simp only [hostOps0, List.flatten_cons, List.flatten_nil, List.append_nil, List.cons_append, List.nil_append]
     after_results
     rfl)
  | (after_results; done)
  | (unfold V V0 hostOps0; after_results; done)
/-- Feature array 0 in its flattened form. -/
theorem reshaped0 : (V m c main_v0 : FVec Ideal S4x128x6400 .f32)
    = shapeCast S4x128x6400 (m ((c.tc : Thread nD τ).loc main_arg0) : FVec Ideal S4x128x80x80 .f32) shapeCasts_S4x128x80x80_S4x128x6400 := by
  first
  | (show StableHlo.after (List.flatten [hostOps0]) (fun b => m (c, b)) (Proc.devRef .tc main_v0) = _
     simp only [hostOps0, List.flatten_cons, List.flatten_nil, List.append_nil, List.cons_append, List.nil_append]
     after_results
     done)
  | (show StableHlo.after (List.flatten [hostOps0]) (fun b => m (c, b)) (Proc.devRef .tc main_v0) = _
     simp only [hostOps0, List.flatten_cons, List.flatten_nil, List.append_nil, List.cons_append, List.nil_append]
     after_results
     rfl)
  | (after_results; done)
  | (unfold V V0 hostOps0; after_results; done)
/-- The flattened feature array 0 at a pixel is the feature array at its row and column. -/
theorem feature0 (b : Fin 4) (ch : Fin 128) (p : Fin 6400) : (V m c main_v0 : FVec Ideal S4x128x6400 .f32) (ix3 b ch p)
    = (m ((c.tc : Thread nD τ).loc main_arg0) : FVec Ideal S4x128x80x80 .f32) (ix4 b ch ⟨p.val / 80, by omega⟩ ⟨p.val % 80, by omega⟩) := by
  rw [reshaped0]
  pointwise
/-- Feature array 1 in its flattened form. -/
theorem reshaped1 : (V m c main_v1 : FVec Ideal S4x256x1600 .f32)
    = shapeCast S4x256x1600 (m ((c.tc : Thread nD τ).loc main_arg1) : FVec Ideal S4x256x40x40 .f32) shapeCasts_S4x256x40x40_S4x256x1600 := by
  first
  | (show StableHlo.after (List.flatten [hostOps0]) (fun b => m (c, b)) (Proc.devRef .tc main_v1) = _
     simp only [hostOps0, List.flatten_cons, List.flatten_nil, List.append_nil, List.cons_append, List.nil_append]
     after_results
     done)
  | (show StableHlo.after (List.flatten [hostOps0]) (fun b => m (c, b)) (Proc.devRef .tc main_v1) = _
     simp only [hostOps0, List.flatten_cons, List.flatten_nil, List.append_nil, List.cons_append, List.nil_append]
     after_results
     rfl)
  | (after_results; done)
  | (unfold V V0 hostOps0; after_results; done)
/-- The flattened feature array 1 at a pixel is the feature array at its row and column. -/
theorem feature1 (b : Fin 4) (ch : Fin 256) (p : Fin 1600) : (V m c main_v1 : FVec Ideal S4x256x1600 .f32) (ix3 b ch p)
    = (m ((c.tc : Thread nD τ).loc main_arg1) : FVec Ideal S4x256x40x40 .f32) (ix4 b ch ⟨p.val / 40, by omega⟩ ⟨p.val % 40, by omega⟩) := by
  rw [reshaped1]
  pointwise
/-- Feature array 2 in its flattened form. -/
theorem reshaped2 : (V m c main_v2 : FVec Ideal S4x512x400 .f32)
    = shapeCast S4x512x400 (m ((c.tc : Thread nD τ).loc main_arg2) : FVec Ideal S4x512x20x20 .f32) shapeCasts_S4x512x20x20_S4x512x400 := by
  first
  | (show StableHlo.after (List.flatten [hostOps0]) (fun b => m (c, b)) (Proc.devRef .tc main_v2) = _
     simp only [hostOps0, List.flatten_cons, List.flatten_nil, List.append_nil, List.cons_append, List.nil_append]
     after_results
     done)
  | (show StableHlo.after (List.flatten [hostOps0]) (fun b => m (c, b)) (Proc.devRef .tc main_v2) = _
     simp only [hostOps0, List.flatten_cons, List.flatten_nil, List.append_nil, List.cons_append, List.nil_append]
     after_results
     rfl)
  | (after_results; done)
  | (unfold V V0 hostOps0; after_results; done)
/-- The flattened feature array 2 at a pixel is the feature array at its row and column. -/
theorem feature2 (b : Fin 4) (ch : Fin 512) (p : Fin 400) : (V m c main_v2 : FVec Ideal S4x512x400 .f32) (ix3 b ch p)
    = (m ((c.tc : Thread nD τ).loc main_arg2) : FVec Ideal S4x512x20x20 .f32) (ix4 b ch ⟨p.val / 20, by omega⟩ ⟨p.val % 20, by omega⟩) := by
  rw [reshaped2]
  pointwise

end Cert.KernelIdeal.Value

end
-- ==== Proof.Value.KernelResult.lean ====
module

public import proofs.«01_k».proof.Proof.Value.Outs
public import proofs.«01_k».proof.Proof.Value.Inputs

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.StableHlo Idealize.ShloMosaic.Pointwise Cert.Nms

variable (m : (ℓ : Loc nD τ sig) → Buf (Elt Ideal) ℓ) (c : Dev nD)

/-- Where the third level sits in the padded plane. -/
theorem wide2_row (q : Fin 1200) : (wide2 q).1.val < 60 := by
  show q.val / 20 < 60
  omega
/-- Where the third level sits in the padded plane. -/
theorem wide2_col (q : Fin 1200) : (wide2 q).2.val < 20 := by
  show q.val % 20 < 20
  omega

/-- The kernel's loop makes the selections of the images of level 0. -/
theorem sel0 (b : Fin 4) : SelInv phi0 (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) (fun r cc => k0_pay20 (F := Ideal) (ix3 b r cc)) 25
    (fun r cc => (left m c).1 (ix3 b r cc)) (fun d => (left m c).2.1 (ix2 b d)) (fun d => (left m c).2.2.1 (ix2 b d)) :=
  selected_A (iblk m c 0 t0_0) (iblk m c 1 t0_0) (iblk m c 2 t0_0) (iblk m c 3 t0_0) (iblk m c 4 t0_0) (k0_pay22 (iblk m c 5 t0_0) (iblk m c 10 t0_0)) (k0_pay23 (iblk m c 6 t0_0) (iblk m c 11 t0_0)) (k0_pay24 (iblk m c 7 t0_0) (iblk m c 12 t0_0)) (k0_pay25 (iblk m c 8 t0_0) (iblk m c 13 t0_0)) (k0_pay26 (iblk m c 9 t0_0) (iblk m c 14 t0_0)) (k0_pay27 (F := Ideal)) (iota .tc S4x3x20x20 32 [2] iota_S4x3x20x20_d2_w32) b phi0 laid0 (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b)
    (fun q => congrFun ((win0 m c).trans (launch3 m c)) _) (fun q => congrFun ((win1 m c).trans (launch4 m c)) _) (fun q => congrFun ((win2 m c).trans (launch5 m c)) _) (fun q => congrFun ((win3 m c).trans (launch6 m c)) _)
    ⟨fun q => congrFun ((win4 m c).trans (launch7 m c)) _, fun r cc h => absurd (phi0_onto r cc) (fun ⟨q, e⟩ => h q e)⟩

/-- Output window 18 of the body is the array it stores. -/
theorem arr18 (b : Fin 4) (d : Fin 32) (ch : Fin 128) : (reg_main_v3_0 m c : FVec Ideal S4x32x128 .f32) (ix3 b d ch) = (outsAt0 m c t0_0).1 (ix3 b d ch) := by
  have h : (dats m 0 c).arrAt 18 cfg0.N = (outsAt0 m c t0_0).1 := by
    refine (dats m 0 c).arrAt_eq_of_after_last 18 t0_0 (by decide +kernel) _ fun j => ?_
    blk_simp
    rw [after0_18]
  exact congrFun h _

/-- What the kernel's result 0 holds. -/
theorem result0 (b : Fin 4) (d : Fin 25) (ch : Fin 128) :
    (extractStridedSlice S4x25x128 ![0, 0, 0] (reg_main_v3_0 m c) slices_S4x32x128_S4x25x128_0_0_0 : FVec Ideal S4x25x128 .f32) (ix3 b d ch)
    = answer (by norm_num : 0 < 80) phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) (m ((c.tc : Thread nD τ).loc main_arg7) : FVec Ideal S4x240x80 .f32)
      (m ((c.tc : Thread nD τ).loc main_arg0) : FVec Ideal S4x128x80x80 .f32) b d.val ch := by
  have h := sel0 m c b
  have e : (extractStridedSlice S4x25x128 ![0, 0, 0] (reg_main_v3_0 m c) slices_S4x32x128_S4x25x128_0_0_0 : FVec Ideal S4x25x128 .f32) (ix3 b d ch)
      = (outsAt0 m c t0_0).1 (ix3 b (⟨d.val, by omega⟩ : Fin 32) ch) := by
    refine Eq.trans ?_ (arr18 m c b ⟨d.val, by omega⟩ ch)
    pointwise
  have hp := h.pix_eq ⟨d.val, by omega⟩ d.isLt
  rw [e]
  unfold answer
  split_ifs with ha
  · have hv := h.val_one ⟨d.val, by omega⟩ d.isLt ha
    refine (outs18 m c b ⟨d.val, by omega⟩ ch ⟨(chosen (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) d.val).val / 80 % 80 * 80 + (chosen (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) d.val).val % 80, by omega⟩ 1 (hp.trans (pmA b _ _)) hv).trans ?_
    rw [one_mul]
    refine (congrFun (win15 m c) _).trans ((feature0 m c b ch _).trans ?_)
    refine congrArg _ (congrArg₂ (ix4 b ch) (Fin.ext ?_) (Fin.ext ?_))
    · show ((chosen (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) d.val).val / 80 % 80 * 80 + (chosen (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) d.val).val % 80) / 80 = (chosen (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) d.val).val / 80 % 80
      omega
    · show ((chosen (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) d.val).val / 80 % 80 * 80 + (chosen (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) d.val).val % 80) % 80 = (chosen (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) d.val).val % 80
      omega
  · have hv := h.val_zero ⟨d.val, by omega⟩ d.isLt ha
    refine (outs18 m c b ⟨d.val, by omega⟩ ch ⟨(chosen (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) d.val).val / 80 % 80 * 80 + (chosen (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) b) (scoresOf phi0 (m ((c.tc : Thread nD τ).loc main_arg7) : FVec Ideal S4x240x80 .f32) b) d.val).val % 80, by omega⟩ 0 (hp.trans (pmA b _ _)) hv).trans ?_
    rw [zero_mul]

/-- The kernel's loop makes the selections of the images of level 1. -/
theorem sel1 (b : Fin 4) : SelInv phi1 (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) (fun r cc => k0_pay28 (k0_pay27 (F := Ideal)) (iota .tc S4x3x20x20 32 [2] iota_S4x3x20x20_d2_w32) (ix3 (⟨b.val, by omega⟩ : Fin 8) r cc)) 25
    (fun r cc => (left m c).2.2.2.1 (ix3 (⟨b.val, by omega⟩ : Fin 8) r cc)) (fun d => (left m c).2.2.2.2.1 (ix2 (⟨b.val, by omega⟩ : Fin 8) d)) (fun d => (left m c).2.2.2.2.2 (ix2 (⟨b.val, by omega⟩ : Fin 8) d)) :=
  selected_B (iblk m c 0 t0_0) (iblk m c 1 t0_0) (iblk m c 2 t0_0) (iblk m c 3 t0_0) (iblk m c 4 t0_0) (k0_pay22 (iblk m c 5 t0_0) (iblk m c 10 t0_0)) (k0_pay23 (iblk m c 6 t0_0) (iblk m c 11 t0_0)) (k0_pay24 (iblk m c 7 t0_0) (iblk m c 12 t0_0)) (k0_pay25 (iblk m c 8 t0_0) (iblk m c 13 t0_0)) (k0_pay26 (iblk m c 9 t0_0) (iblk m c 14 t0_0)) (k0_pay27 (F := Ideal)) (iota .tc S4x3x20x20 32 [2] iota_S4x3x20x20_d2_w32) (⟨b.val, by omega⟩ : Fin 8) phi1 laid1 (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b)
    (fun q => (lo22 _ _ b _ _).trans (congrFun ((win5 m c).trans (launch8 m c)) _)) (fun q => (lo23 _ _ b _ _).trans (congrFun ((win6 m c).trans (launch9 m c)) _)) (fun q => (lo24 _ _ b _ _).trans (congrFun ((win7 m c).trans (launch10 m c)) _)) (fun q => (lo25 _ _ b _ _).trans (congrFun ((win8 m c).trans (launch11 m c)) _))
    ⟨fun q => (lo26 _ _ b _ _).trans (congrFun ((win9 m c).trans (launch12 m c)) _), fun r cc h => absurd (phi1_onto r cc) (fun ⟨q, e⟩ => h q e)⟩

/-- Output window 19 of the body is the array it stores. -/
theorem arr19 (b : Fin 4) (d : Fin 32) (ch : Fin 256) : (reg_main_v3_1 m c : FVec Ideal S4x32x256 .f32) (ix3 b d ch) = (outsAt0 m c t0_0).2.1 (ix3 b d ch) := by
  have h : (dats m 0 c).arrAt 19 cfg0.N = (outsAt0 m c t0_0).2.1 := by
    refine (dats m 0 c).arrAt_eq_of_after_last 19 t0_0 (by decide +kernel) _ fun j => ?_
    blk_simp
    rw [after0_19]
  exact congrFun h _

/-- What the kernel's result 1 holds. -/
theorem result1 (b : Fin 4) (d : Fin 25) (ch : Fin 256) :
    (extractStridedSlice S4x25x256 ![0, 0, 0] (reg_main_v3_1 m c) slices_S4x32x256_S4x25x256_0_0_0 : FVec Ideal S4x25x256 .f32) (ix3 b d ch)
    = answer (by norm_num : 0 < 40) phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) (m ((c.tc : Thread nD τ).loc main_arg12) : FVec Ideal S4x120x40 .f32)
      (m ((c.tc : Thread nD τ).loc main_arg1) : FVec Ideal S4x256x40x40 .f32) b d.val ch := by
  have h := sel1 m c b
  have e : (extractStridedSlice S4x25x256 ![0, 0, 0] (reg_main_v3_1 m c) slices_S4x32x256_S4x25x256_0_0_0 : FVec Ideal S4x25x256 .f32) (ix3 b d ch)
      = (outsAt0 m c t0_0).2.1 (ix3 b (⟨d.val, by omega⟩ : Fin 32) ch) := by
    refine Eq.trans ?_ (arr19 m c b ⟨d.val, by omega⟩ ch)
    pointwise
  have hp := h.pix_eq ⟨d.val, by omega⟩ d.isLt
  rw [e]
  unfold answer
  split_ifs with ha
  · have hv := h.val_one ⟨d.val, by omega⟩ d.isLt ha
    refine (outs19 m c b ⟨d.val, by omega⟩ ch ⟨(chosen (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) d.val).val / 40 % 40 * 40 + (chosen (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) d.val).val % 40, by omega⟩ 1 (hp.trans (pmLo b _ _)) hv).trans ?_
    rw [one_mul]
    refine (congrFun (win16 m c) _).trans ((feature1 m c b ch _).trans ?_)
    refine congrArg _ (congrArg₂ (ix4 b ch) (Fin.ext ?_) (Fin.ext ?_))
    · show ((chosen (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) d.val).val / 40 % 40 * 40 + (chosen (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) d.val).val % 40) / 40 = (chosen (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) d.val).val / 40 % 40
      omega
    · show ((chosen (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) d.val).val / 40 % 40 * 40 + (chosen (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) d.val).val % 40) % 40 = (chosen (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) d.val).val % 40
      omega
  · have hv := h.val_zero ⟨d.val, by omega⟩ d.isLt ha
    refine (outs19 m c b ⟨d.val, by omega⟩ ch ⟨(chosen (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) d.val).val / 40 % 40 * 40 + (chosen (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) b) (scoresOf phi1 (m ((c.tc : Thread nD τ).loc main_arg12) : FVec Ideal S4x120x40 .f32) b) d.val).val % 40, by omega⟩ 0 (hp.trans (pmLo b _ _)) hv).trans ?_
    rw [zero_mul]

/-- The kernel's loop makes the selections of the images of level 2. -/
theorem sel2 (b : Fin 4) : SelInv wide2 (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) (fun r cc => k0_pay28 (k0_pay27 (F := Ideal)) (iota .tc S4x3x20x20 32 [2] iota_S4x3x20x20_d2_w32) (ix3 (⟨4 + b.val, by omega⟩ : Fin 8) r cc)) 25
    (fun r cc => (left m c).2.2.2.1 (ix3 (⟨4 + b.val, by omega⟩ : Fin 8) r cc)) (fun d => (left m c).2.2.2.2.1 (ix2 (⟨4 + b.val, by omega⟩ : Fin 8) d)) (fun d => (left m c).2.2.2.2.2 (ix2 (⟨4 + b.val, by omega⟩ : Fin 8) d)) :=
  selected_B (iblk m c 0 t0_0) (iblk m c 1 t0_0) (iblk m c 2 t0_0) (iblk m c 3 t0_0) (iblk m c 4 t0_0) (k0_pay22 (iblk m c 5 t0_0) (iblk m c 10 t0_0)) (k0_pay23 (iblk m c 6 t0_0) (iblk m c 11 t0_0)) (k0_pay24 (iblk m c 7 t0_0) (iblk m c 12 t0_0)) (k0_pay25 (iblk m c 8 t0_0) (iblk m c 13 t0_0)) (k0_pay26 (iblk m c 9 t0_0) (iblk m c 14 t0_0)) (k0_pay27 (F := Ideal)) (iota .tc S4x3x20x20 32 [2] iota_S4x3x20x20_d2_w32) (⟨4 + b.val, by omega⟩ : Fin 8) wide2 laidWide2 (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b)
    (fun q => (hi22 _ _ b _ _ (wide2_row q) (wide2_col q)).trans (congrFun ((win10 m c).trans (launch13 m c)) _)) (fun q => (hi23 _ _ b _ _ (wide2_row q) (wide2_col q)).trans (congrFun ((win11 m c).trans (launch14 m c)) _)) (fun q => (hi24 _ _ b _ _ (wide2_row q) (wide2_col q)).trans (congrFun ((win12 m c).trans (launch15 m c)) _)) (fun q => (hi25 _ _ b _ _ (wide2_row q) (wide2_col q)).trans (congrFun ((win13 m c).trans (launch16 m c)) _))
    ⟨fun q => (hi26 _ _ b _ _ (wide2_row q) (wide2_col q)).trans (congrFun ((win14 m c).trans (launch17 m c)) _), fun r cc h => if hin : r.val < 60 ∧ cc.val < 20 then absurd (wide2_onto r cc hin.1 hin.2) (fun ⟨q, e⟩ => h q e) else pad26 _ _ b r cc hin⟩

/-- Output window 20 of the body is the array it stores. -/
theorem arr20 (b : Fin 4) (d : Fin 32) (ch : Fin 512) : (reg_main_v3_2 m c : FVec Ideal S4x32x512 .f32) (ix3 b d ch) = (outsAt0 m c t0_0).2.2 (ix3 b d ch) := by
  have h : (dats m 0 c).arrAt 20 cfg0.N = (outsAt0 m c t0_0).2.2 := by
    refine (dats m 0 c).arrAt_eq_of_after_last 20 t0_0 (by decide +kernel) _ fun j => ?_
    blk_simp
    rw [after0_20]
  exact congrFun h _

/-- What the kernel's result 2 holds. -/
theorem result2 (b : Fin 4) (d : Fin 25) (ch : Fin 512) :
    (extractStridedSlice S4x25x512 ![0, 0, 0] (reg_main_v3_2 m c) slices_S4x32x512_S4x25x512_0_0_0 : FVec Ideal S4x25x512 .f32) (ix3 b d ch)
    = answer (by norm_num : 0 < 20) phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) (m ((c.tc : Thread nD τ).loc main_arg17) : FVec Ideal S4x60x20 .f32)
      (m ((c.tc : Thread nD τ).loc main_arg2) : FVec Ideal S4x512x20x20 .f32) b d.val ch := by
  have h := sel2 m c b
  have e : (extractStridedSlice S4x25x512 ![0, 0, 0] (reg_main_v3_2 m c) slices_S4x32x512_S4x25x512_0_0_0 : FVec Ideal S4x25x512 .f32) (ix3 b d ch)
      = (outsAt0 m c t0_0).2.2 (ix3 b (⟨d.val, by omega⟩ : Fin 32) ch) := by
    refine Eq.trans ?_ (arr20 m c b ⟨d.val, by omega⟩ ch)
    pointwise
  have hp := h.pix_eq ⟨d.val, by omega⟩ d.isLt
  rw [e]
  unfold answer
  split_ifs with ha
  · have hv := h.val_one ⟨d.val, by omega⟩ d.isLt ha
    refine (outs20 m c b ⟨d.val, by omega⟩ ch ⟨(chosen (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) d.val).val / 20 % 20 * 20 + (chosen (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) d.val).val % 20, by omega⟩ 1 (hp.trans (pmHi b _ _ (wide2_row _) (wide2_col _))) hv).trans ?_
    rw [one_mul]
    refine (congrFun (win17 m c) _).trans ((feature2 m c b ch _).trans ?_)
    refine congrArg _ (congrArg₂ (ix4 b ch) (Fin.ext ?_) (Fin.ext ?_))
    · show ((chosen (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) d.val).val / 20 % 20 * 20 + (chosen (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) d.val).val % 20) / 20 = (chosen (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) d.val).val / 20 % 20
      omega
    · show ((chosen (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) d.val).val / 20 % 20 * 20 + (chosen (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) d.val).val % 20) % 20 = (chosen (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) d.val).val % 20
      omega
  · have hv := h.val_zero ⟨d.val, by omega⟩ d.isLt ha
    refine (outs20 m c b ⟨d.val, by omega⟩ ch ⟨(chosen (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) d.val).val / 20 % 20 * 20 + (chosen (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) b) (scoresOf phi2 (m ((c.tc : Thread nD τ).loc main_arg17) : FVec Ideal S4x60x20 .f32) b) d.val).val % 20, by omega⟩ 0 (hp.trans (pmHi b _ _ (wide2_row _) (wide2_col _))) hv).trans ?_
    rw [zero_mul]

end Cert.KernelIdeal.Value

end
-- ==== Proof.Value.TopK.lean ====
module

public import Idealize.ShloMosaic.Lib.Pointwise
public import proofs.«01_k».proof.Proof.Value.Spec

@[expose] public section

noncomputable section

namespace Cert.Nms

open Idealize.ShloMosaic Idealize.ShloMosaic.Pointwise

/-- The head of a stable sort by decreasing score of an increasing list of places is the first largest score. -/
theorem stableSort_head {n : ℕ} (x : Fin n → EReal) (before : Fin n → Fin n → Bool)
    (hb : ∀ i j, before i j = decide (x j < x i)) :
    ∀ l : List (Fin n), l.Pairwise (· < ·) → ∀ k l', stableSort before l = k :: l' →
      k ∈ l ∧ ∀ j ∈ l, x j ≤ x k ∧ (x j = x k → k ≤ j)
  | [], _, k, l', h => by cases h
  | a :: l, hl, k, l', h => by
    rw [List.pairwise_cons] at hl
    have ih := stableSort_head x before hb l hl.2
    unfold stableSort at h
    cases hs : stableSort before l with
    | nil =>
      rw [hs] at h
      have hlen := length_stableSort before l
      rw [hs] at hlen
      obtain rfl : l = [] := List.length_eq_zero_iff.mp hlen.symm
      unfold insertBefore at h
      obtain ⟨rfl, _⟩ := List.cons.inj h
      simp
    | cons b m =>
      obtain ⟨hbm, hbt⟩ := ih b m hs
      rw [hs] at h
      unfold insertBefore at h
      by_cases hba : before b a = true
      · rw [if_pos hba] at h
        obtain ⟨rfl, _⟩ := List.cons.inj h
        rw [hb, decide_eq_true_eq] at hba
        refine ⟨List.mem_cons_of_mem _ hbm, fun j hj => ?_⟩
        rcases List.mem_cons.mp hj with rfl | hj
        · exact ⟨hba.le, fun he => absurd he hba.ne⟩
        · exact hbt j hj
      · rw [if_neg hba] at h
        obtain ⟨rfl, _⟩ := List.cons.inj h
        rw [hb, decide_eq_true_eq, not_lt] at hba
        refine ⟨List.mem_cons_self, fun j hj => ?_⟩
        rcases List.mem_cons.mp hj with rfl | hj
        · exact ⟨le_refl _, fun _ => le_refl _⟩
        · exact ⟨((hbt j hj).1).trans hba, fun _ => (hl.1 j hj).le⟩

/-- A row's first column cut out of a table. -/
theorem slice_first {B N : ℕ} {α : Type} (hN : 0 < N) (v : (⟨2, ![B, N]⟩ : Shape).Idx → α)
    (h : (⟨2, ![B, N]⟩ : Shape).Slices (fun _ => 0) ⟨2, ![B, 1]⟩) (b : Fin B) :
    extractStridedSlice ⟨2, ![B, 1]⟩ (fun _ => 0) v h (ix2 b 0) = v (ix2 b ⟨0, hN⟩) := by
  unfold extractStridedSlice
  congr 1
  funext a
  match a with
  | ⟨0, _⟩ => exact Fin.ext (Nat.zero_add b.val)
  | ⟨1, _⟩ => exact Fin.ext rfl

/-- An index along the last axis of a matrix. -/
theorem along_ix2 {B N : ℕ} (b : Fin B) (i k : Fin N) :
    Shape.Idx.along (s := ⟨2, ![B, N]⟩) (ix2 b i) 1 k = ix2 b k := by
  funext a
  match a with
  | ⟨0, _⟩ => rfl
  | ⟨1, _⟩ => rfl

/-- The one best of each row, with its place: the row's first largest value. -/
theorem topK_spec {B N : ℕ} (hN : 0 < N) (x : FVec Ideal ⟨2, ![B, N]⟩ .f32)
    (h : (⟨2, ![B, N]⟩ : Shape).Slices (fun _ => 0) ⟨2, ![B, 1]⟩) (b : Fin B) :
    ∃ k : Fin N, (Host.topK ⟨2, ![B, 1]⟩ 1 (FloatOps.cmpfTotal (F := Ideal) .gt) x h).1 (ix2 b 0) = x (ix2 b k)
      ∧ (Host.topK ⟨2, ![B, 1]⟩ 1 (FloatOps.cmpfTotal (F := Ideal) .gt) x h).2 (ix2 b 0) = BitVec.ofNat 32 k.val
      ∧ IsTop (fun q => x (ix2 b q)) k := by
  let before : Fin N → Fin N → Bool := fun k k' =>
    FloatOps.cmpfTotal (F := Ideal) (φ := .f32) .gt (x (Shape.Idx.along (s := ⟨2, ![B, N]⟩) (ix2 b ⟨0, hN⟩) 1 k))
      (x (Shape.Idx.along (s := ⟨2, ![B, N]⟩) (ix2 b ⟨0, hN⟩) 1 k')) == 1#1
  have hb : ∀ i j, before i j = decide (x (ix2 b j) < x (ix2 b i)) := by
    intro i j
    show (FloatOps.cmpfTotal (F := Ideal) (φ := .f32) .gt (x (Shape.Idx.along (s := ⟨2, ![B, N]⟩) (ix2 b ⟨0, hN⟩) 1 i))
      (x (Shape.Idx.along (s := ⟨2, ![B, N]⟩) (ix2 b ⟨0, hN⟩) 1 j)) == 1#1) = _
    rw [along_ix2, along_ix2, Ideal.cmpfTotal_def]
    by_cases hij : x (ix2 b j) < x (ix2 b i)
    · simp [CmpDirection.ordered, Ideal.cmp, hij]
    · simp [CmpDirection.ordered, Ideal.cmp, hij]
  have hlen := length_sortPositions N before
  obtain ⟨k, l', hk⟩ : ∃ k l', sortPositions N before = k :: l' := by
    cases hc : sortPositions N before with
    | nil => rw [hc] at hlen; simp at hlen; omega
    | cons k l' => exact ⟨k, l', rfl⟩
  have hfrom : sortedFrom before ⟨0, hN⟩ = k := by
    unfold sortedFrom
    simp [hk]
  obtain ⟨_, hkt⟩ := stableSort_head (fun j => x (ix2 b j)) before hb (List.finRange N)
    (List.pairwise_lt_finRange N) k l' hk
  refine ⟨k, ?_, ?_, fun j => (hkt j (List.mem_finRange j)).1, fun j => (hkt j (List.mem_finRange j)).2⟩
  · unfold Host.topK
    dsimp only
    refine (slice_first hN _ h b).trans ?_
    exact (congrArg (fun i : Fin N => x (Shape.Idx.along (s := ⟨2, ![B, N]⟩) (ix2 b ⟨0, hN⟩) 1 i)) hfrom).trans
      (congrArg x (along_ix2 b _ k))
  · unfold Host.topK
    dsimp only
    refine (slice_first hN _ h b).trans ?_
    exact congrArg (fun i : Fin N => BitVec.ofNat 32 i.val) hfrom

end Cert.Nms

end
-- ==== Proof.Value.Gather.lean ====
module

public import Idealize.ShloMosaic.Lib.Pointwise

@[expose] public section

noncomputable section

namespace Cert.Nms

open Idealize.ShloMosaic Idealize.ShloMosaic.Pointwise
variable {α : Type}

/-- The gather of one value per image. -/
abbrev ptDims (B N : Nat) (wf : GatherDims.WF ⟨2, ![B, N]⟩ ⟨2, ![B, 2]⟩ ⟨1, ![B]⟩ [] [0, 1] [] [0, 1] [] 1 ![1, 1]) :
    GatherDims ⟨2, ![B, N]⟩ ⟨2, ![B, 2]⟩ ⟨1, ![B]⟩ where
  offsetDims := []
  collapsedSliceDims := [0, 1]
  operandBatchingDims := []
  startIndicesBatchingDims := []
  startIndexMap := [0, 1]
  indexVectorDim := 1
  sliceSizes := ![1, 1]
  wf := wf

/-- The gather of one value per image reads the table at the start index, each part kept inside the table. -/
theorem gather_pt {B N w : ℕ} (wf) (x : (⟨2, ![B, N]⟩ : Shape).Idx → α) (idx : IVec ⟨2, ![B, 2]⟩ w) (b i : Fin B) (k : Fin N)
    (h0 : (idx (ix2 b 0)).toInt.toNat = i.val) (h1 : (idx (ix2 b 1)).toInt.toNat = k.val) :
    Host.gather (ptDims B N wf) x idx (ix1 b) = x (ix2 i k) := by
  unfold Host.gather
  congr 1
  funext a
  refine Fin.ext ?_
  show (ptDims B N wf).start (ix1 b) idx a + (ptDims B N wf).batchCoord (ix1 b) a + (ptDims B N wf).offCoord (ix1 b) a = _
  have h01 : a = 0 ∨ a = 1 := by
    match a with
    | ⟨0, _⟩ => exact Or.inl rfl
    | ⟨1, _⟩ => exact Or.inr rfl
  rw [GatherDims.batchCoord_eq_zero _ _ _ List.not_mem_nil,
    GatherDims.offCoord_eq_zero _ _ _ (fun h => ((GatherDims.mem_sKept _ _).mp h).1 (by
      rcases h01 with rfl | rfl <;> simp))]
  simp only [Nat.add_zero]
  rcases h01 with rfl | rfl
  · unfold GatherDims.start
    rw [dif_pos (show (0 : Fin 2) ∈ (ptDims B N wf).startIndexMap by simp)]
    have hsi : (ptDims B N wf).siIdx (ix1 b) ⟨List.idxOf (0 : Fin 2) (ptDims B N wf).startIndexMap,
        List.idxOf_lt_length_iff.2 (by simp)⟩ = ix2 b 0 := by
      funext e; refine Fin.ext ?_
      match e with
      | ⟨0, _⟩ => rfl
      | ⟨1, _⟩ => rfl
    rw [hsi, h0]
    show min i.val (B - 1) = i.val
    omega
  · unfold GatherDims.start
    rw [dif_pos (show (1 : Fin 2) ∈ (ptDims B N wf).startIndexMap by simp)]
    have hsi : (ptDims B N wf).siIdx (ix1 b) ⟨List.idxOf (1 : Fin 2) (ptDims B N wf).startIndexMap,
        List.idxOf_lt_length_iff.2 (by simp)⟩ = ix2 b 1 := by
      funext e; refine Fin.ext ?_
      match e with
      | ⟨0, _⟩ => rfl
      | ⟨1, _⟩ => rfl
    rw [hsi, h1]
    show min k.val (N - 1) = k.val
    omega

/-- The gather of one value per image and slot. -/
abbrev slotDims (B N D : Nat)
    (wf : GatherDims.WF ⟨2, ![B, N]⟩ ⟨3, ![B, D, 2]⟩ ⟨2, ![B, D]⟩ [] [0, 1] [] [0, 1] [] 2 ![1, 1]) :
    GatherDims ⟨2, ![B, N]⟩ ⟨3, ![B, D, 2]⟩ ⟨2, ![B, D]⟩ where
  offsetDims := []
  collapsedSliceDims := [0, 1]
  operandBatchingDims := []
  startIndicesBatchingDims := []
  startIndexMap := [0, 1]
  indexVectorDim := 2
  sliceSizes := ![1, 1]
  wf := wf

/-- The gather of one value per image and slot reads the table at the start index. -/
theorem gather_slot {B N D w : ℕ} (wf) (x : (⟨2, ![B, N]⟩ : Shape).Idx → α) (idx : IVec ⟨3, ![B, D, 2]⟩ w)
    (b : Fin B) (d : Fin D) (i : Fin B) (k : Fin N)
    (h0 : (idx (ix3 b d 0)).toInt.toNat = i.val) (h1 : (idx (ix3 b d 1)).toInt.toNat = k.val) :
    Host.gather (slotDims B N D wf) x idx (ix2 b d) = x (ix2 i k) := by
  unfold Host.gather
  congr 1
  funext a
  refine Fin.ext ?_
  show (slotDims B N D wf).start (ix2 b d) idx a + (slotDims B N D wf).batchCoord (ix2 b d) a + (slotDims B N D wf).offCoord (ix2 b d) a = _
  have h01 : a = 0 ∨ a = 1 := by
    match a with
    | ⟨0, _⟩ => exact Or.inl rfl
    | ⟨1, _⟩ => exact Or.inr rfl
  rw [GatherDims.batchCoord_eq_zero _ _ _ List.not_mem_nil,
    GatherDims.offCoord_eq_zero _ _ _ (fun h => ((GatherDims.mem_sKept _ _).mp h).1 (by
      rcases h01 with rfl | rfl <;> simp))]
  simp only [Nat.add_zero]
  rcases h01 with rfl | rfl
  · unfold GatherDims.start
    rw [dif_pos (show (0 : Fin 2) ∈ (slotDims B N D wf).startIndexMap by simp)]
    have hsi : (slotDims B N D wf).siIdx (ix2 b d) ⟨List.idxOf (0 : Fin 2) (slotDims B N D wf).startIndexMap,
        List.idxOf_lt_length_iff.2 (by simp)⟩ = ix3 b d 0 := by
      funext e; refine Fin.ext ?_
      match e with
      | ⟨0, _⟩ => rfl
      | ⟨1, _⟩ => rfl
      | ⟨2, _⟩ => rfl
    rw [hsi, h0]
    show min i.val (B - 1) = i.val
    omega
  · unfold GatherDims.start
    rw [dif_pos (show (1 : Fin 2) ∈ (slotDims B N D wf).startIndexMap by simp)]
    have hsi : (slotDims B N D wf).siIdx (ix2 b d) ⟨List.idxOf (1 : Fin 2) (slotDims B N D wf).startIndexMap,
        List.idxOf_lt_length_iff.2 (by simp)⟩ = ix3 b d 1 := by
      funext e; refine Fin.ext ?_
      match e with
      | ⟨0, _⟩ => rfl
      | ⟨1, _⟩ => rfl
      | ⟨2, _⟩ => rfl
    rw [hsi, h1]
    show min k.val (N - 1) = k.val
    omega

/-- The gather of a row of channels per image and slot. -/
abbrev rowDims (B Y X C D : Nat)
    (wf : GatherDims.WF ⟨4, ![B, Y, X, C]⟩ ⟨3, ![B, D, 3]⟩ ⟨3, ![B, D, C]⟩ [2] [0, 1, 2] [] [0, 1, 2] [] 2 ![1, 1, 1, C]) :
    GatherDims ⟨4, ![B, Y, X, C]⟩ ⟨3, ![B, D, 3]⟩ ⟨3, ![B, D, C]⟩ where
  offsetDims := [2]
  collapsedSliceDims := [0, 1, 2]
  operandBatchingDims := []
  startIndicesBatchingDims := []
  startIndexMap := [0, 1, 2]
  indexVectorDim := 2
  sliceSizes := ![1, 1, 1, C]
  wf := wf

/-- The gather of a row of channels per image and slot reads the row at the start index. -/
theorem gather_row {B Y X C D w : ℕ} (wf) (x : (⟨4, ![B, Y, X, C]⟩ : Shape).Idx → α) (idx : IVec ⟨3, ![B, D, 3]⟩ w)
    (b : Fin B) (d : Fin D) (c : Fin C) (i : Fin B) (yy : Fin Y) (xx : Fin X)
    (h0 : (idx (ix3 b d 0)).toInt.toNat = i.val) (h1 : (idx (ix3 b d 1)).toInt.toNat = yy.val)
    (h2 : (idx (ix3 b d 2)).toInt.toNat = xx.val) :
    Host.gather (rowDims B Y X C D wf) x idx (ix3 b d c) = x (ix4 i yy xx c) := by
  unfold Host.gather
  congr 1
  funext a
  refine Fin.ext ?_
  show (rowDims B Y X C D wf).start (ix3 b d c) idx a + (rowDims B Y X C D wf).batchCoord (ix3 b d c) a + (rowDims B Y X C D wf).offCoord (ix3 b d c) a = _
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rw [GatherDims.batchCoord_eq_zero _ _ _ List.not_mem_nil]
  simp only [Nat.add_zero]
  rcases h01 with rfl | rfl | rfl | rfl
  · rw [GatherDims.offCoord_eq_zero _ _ _ (fun h => ((GatherDims.mem_sKept _ _).mp h).1 (by simp))]
    unfold GatherDims.start
    rw [dif_pos (show (0 : Fin 4) ∈ (rowDims B Y X C D wf).startIndexMap by simp)]
    have hsi : (rowDims B Y X C D wf).siIdx (ix3 b d c) ⟨List.idxOf (0 : Fin 4) (rowDims B Y X C D wf).startIndexMap,
        List.idxOf_lt_length_iff.2 (by simp)⟩ = ix3 b d 0 := by
      funext e; refine Fin.ext ?_
      match e with
      | ⟨0, _⟩ => rfl
      | ⟨1, _⟩ => rfl
      | ⟨2, _⟩ => rfl
    rw [hsi, h0]
    show min i.val (B - 1) + 0 = i.val
    omega
  · rw [GatherDims.offCoord_eq_zero _ _ _ (fun h => ((GatherDims.mem_sKept _ _).mp h).1 (by simp))]
    unfold GatherDims.start
    rw [dif_pos (show (1 : Fin 4) ∈ (rowDims B Y X C D wf).startIndexMap by simp)]
    have hsi : (rowDims B Y X C D wf).siIdx (ix3 b d c) ⟨List.idxOf (1 : Fin 4) (rowDims B Y X C D wf).startIndexMap,
        List.idxOf_lt_length_iff.2 (by simp)⟩ = ix3 b d 1 := by
      funext e; refine Fin.ext ?_
      match e with
      | ⟨0, _⟩ => rfl
      | ⟨1, _⟩ => rfl
      | ⟨2, _⟩ => rfl
    rw [hsi, h1]
    show min yy.val (Y - 1) + 0 = yy.val
    omega
  · rw [GatherDims.offCoord_eq_zero _ _ _ (fun h => ((GatherDims.mem_sKept _ _).mp h).1 (by simp))]
    unfold GatherDims.start
    rw [dif_pos (show (2 : Fin 4) ∈ (rowDims B Y X C D wf).startIndexMap by simp)]
    have hsi : (rowDims B Y X C D wf).siIdx (ix3 b d c) ⟨List.idxOf (2 : Fin 4) (rowDims B Y X C D wf).startIndexMap,
        List.idxOf_lt_length_iff.2 (by simp)⟩ = ix3 b d 2 := by
      funext e; refine Fin.ext ?_
      match e with
      | ⟨0, _⟩ => rfl
      | ⟨1, _⟩ => rfl
      | ⟨2, _⟩ => rfl
    rw [hsi, h2]
    show min xx.val (X - 1) + 0 = xx.val
    omega
  · unfold GatherDims.start
    rw [dif_neg (show (3 : Fin 4) ∉ (rowDims B Y X C D wf).startIndexMap by simp)]
    unfold GatherDims.offCoord
    rw [dif_pos (show (3 : Fin 4) ∈ (rowDims B Y X C D wf).sKept by
      rw [GatherDims.mem_sKept]; simp)]
    show 0 + _ = c.val
    rw [Nat.zero_add]
    rfl

end Cert.Nms

end
-- ==== Proof.Value.Ref0.lean ====
module

public import proofs.«01_k».proof.Proof.Gen.ReferenceIdeal.Run
public import Idealize.ShloMosaic.Lib.Pointwise
public import proofs.«01_k».proof.Proof.Value.Cells
public import proofs.«01_k».proof.Proof.Value.TopK
public import proofs.«01_k».proof.Proof.Value.Gather

@[expose] public section

noncomputable section

namespace Cert.ReferenceIdeal.Value.L0

open Cert.ReferenceIdeal Cert.ReferenceIdeal.Value Idealize.ShloMosaic Idealize.ShloMosaic.TcCoe Idealize.SL.Sem
open Idealize.ShloMosaic.StableHlo Idealize.ShloMosaic.Pointwise Cert.Nms

/-- What holds of the reference's state for the first level after `t` selections. -/
structure RInv (bx : Fin 4 → Boxes 19200) (S0 : Fin 4 → Fin 19200 → EReal) (t : ℕ) (V : Valuation τ sig (Elt Ideal)) : Prop where
  x1 : ∀ b q, (V (Proc.devRef .tc main_v33_1) : FVec Ideal S4x19200 .f32) (ix2 b q) = (bx b).x1 q
  y1 : ∀ b q, (V (Proc.devRef .tc main_v33_3) : FVec Ideal S4x19200 .f32) (ix2 b q) = (bx b).y1 q
  x2 : ∀ b q, (V (Proc.devRef .tc main_v33_0) : FVec Ideal S4x19200 .f32) (ix2 b q) = (bx b).x2 q
  y2 : ∀ b q, (V (Proc.devRef .tc main_v33_2) : FVec Ideal S4x19200 .f32) (ix2 b q) = (bx b).y2 q
  area : ∀ b q, (V (Proc.devRef .tc main_v33_4) : FVec Ideal S4x19200 .f32) (ix2 b q)
    = areaOf ((bx b).x1 q) ((bx b).y1 q) ((bx b).x2 q) ((bx b).y2 q)
  num : ∀ b q, (V (Proc.devRef .tc main_v33_5) : IVec S4x19200 32) (ix2 b q) = BitVec.ofNat 32 q.val
  cnt : ∀ i, (V (Proc.devRef .tc main_v33_19) : IVec S_ 32) i = BitVec.ofNat 32 t
  sc : ∀ b q, (V (Proc.devRef .tc main_v33_20) : FVec Ideal S4x19200 .f32) (ix2 b q) = scores (bx b) (S0 b) t q
  idx : ∀ b (d : Fin 25), d.val < t →
    (V (Proc.devRef .tc main_v33_21) : IVec S4x25 32) (ix2 b d) = BitVec.ofNat 32 (chosen (bx b) (S0 b) d.val).val
  val_one : ∀ b (d : Fin 25), d.val < t → alive (bx b) (S0 b) d.val →
    (V (Proc.devRef .tc main_v33_22) : IVec S4x25 1) (ix2 b d) = 1#1
  val_zero : ∀ b (d : Fin 25), d.val < t → ¬ alive (bx b) (S0 b) d.val →
    (V (Proc.devRef .tc main_v33_22) : IVec S4x25 1) (ix2 b d) = 0#1

variable (V : Valuation τ sig (Elt Ideal))

/-- The scores of image `b`. -/
abbrev scAt (b : Fin 4) : Fin 19200 → EReal := fun q => (V (Proc.devRef .tc main_v33_20) : FVec Ideal S4x19200 .f32) (ix2 b q)

/-- The reference takes the first of the candidates with the largest score. -/
theorem word (b : Fin 4) : (res_main_while0b_v106 V : IVec S4 32) (ix1 b) = BitVec.ofNat 32 (pick (scAt V b)).val := by
  obtain ⟨k, h1, h2, hk⟩ := topK_spec (by norm_num) (V (Proc.devRef .tc main_v33_20) : FVec Ideal S4x19200 .f32) Gen.sliceFits_S4x19200_S4x1 b
  obtain rfl := hk.eq_pick
  refine Eq.trans ?_ h2
  unfold res_main_while0b_v106
  pointwise

/-- The largest score. -/
theorem best (b : Fin 4) :
    (Host.topK S4x1 1 (FloatOps.cmpfTotal (F := Ideal) (φ := .f32) .gt) (V (Proc.devRef .tc main_v33_20) : FVec Ideal S4x19200 .f32)
      Gen.sliceFits_S4x19200_S4x1).1 (ix2 b 0) = scAt V b (pick (scAt V b)) := by
  obtain ⟨k, h1, h2, hk⟩ := topK_spec (by norm_num) (V (Proc.devRef .tc main_v33_20) : FVec Ideal S4x19200 .f32) Gen.sliceFits_S4x19200_S4x1 b
  obtain rfl := hk.eq_pick
  exact h1

/-- A plane read at one candidate of each image. -/
theorem gat (x : FVec Ideal S4x19200 .f32) (w : IVec S4 32) (b : Fin 4) (k : Fin 19200) (hw : w (ix1 b) = BitVec.ofNat 32 k.val) :
    Host.gather gather_S4x19200_S4x2_S4_n_01_n_n_01_1_11 x
      (concatenate S4x2 1 [⟨S4x1, broadcastInDim S4x1 ![0] Gen.bcast_S4_S4x1_0 (iotaInDim S4 32 0)⟩,
        ⟨S4x1, broadcastInDim S4x1 ![0] Gen.bcast_S4_S4x1_0 w⟩] Gen.concatenates_S4x1_S4x1_S4x2_d1) (ix1 b) = x (ix2 b k) := by
  refine gather_pt _ x _ b b k ?_ ?_
  · pointwise
    exact word_nat _ (by omega)
  · pointwise
    rw [hw]
    exact word_nat _ (by omega)

/-- The scores after a selection. -/
theorem step_score {bx : Fin 4 → Boxes 19200} {S0 : Fin 4 → Fin 19200 → EReal} {t : ℕ} (h : RInv bx S0 t V) (b : Fin 4) (q : Fin 19200) :
    (step_main_v33_20 V : FVec Ideal S4x19200 .f32) (ix2 b q) = next (bx b) (scAt V b) q := by
  have hw := word V b
  unfold step_main_v33_20 res_main_while0b_v157
  simp only [id_eq]
  pointwise
  rw [gat (V (Proc.devRef .tc main_v33_1)) _ b _ hw, gat (V (Proc.devRef .tc main_v33_0)) _ b _ hw,
    gat (V (Proc.devRef .tc main_v33_3)) _ b _ hw, gat (V (Proc.devRef .tc main_v33_2)) _ b _ hw,
    gat (V (Proc.devRef .tc main_v33_4)) _ b _ hw]
  simp only [hw, h.num, h.x1, h.y1, h.x2, h.y2, h.area, select_eq, ofBits_negInf]
  rw [if_congr ((word_inj q.val _ (by omega) (by omega)).trans Fin.ext_iff.symm) rfl rfl]
  unfold next dropped
  first | rfl | congr!

/-- The list of taken candidates after a selection. -/
theorem step_idx {bx : Fin 4 → Boxes 19200} {S0 : Fin 4 → Fin 19200 → EReal} {t : ℕ} (ht : t < 25) (h : RInv bx S0 t V) (b : Fin 4) (d : Fin 25) :
    (step_main_v33_21 V : IVec S4x25 32) (ix2 b d)
      = if d.val = t then BitVec.ofNat 32 (pick (scAt V b)).val else (V (Proc.devRef .tc main_v33_21) : IVec S4x25 32) (ix2 b d) := by
  have hw := word V b
  unfold step_main_v33_21 res_main_while0b_v104
  simp only [id_eq]
  pointwise
  simp only [h.cnt, hw, select_eq]
  exact if_congr (word_inj d.val t (by omega) (by omega)) rfl rfl

/-- Which of the taken candidates stand, after a selection. -/
theorem step_val {bx : Fin 4 → Boxes 19200} {S0 : Fin 4 → Fin 19200 → EReal} {t : ℕ} (ht : t < 25) (h : RInv bx S0 t V) (b : Fin 4) (d : Fin 25) :
    (step_main_v33_22 V : IVec S4x25 1) (ix2 b d)
      = if d.val = t then BitVec.ofBool (decide (scAt V b (pick (scAt V b)) ≠ ⊥)) else (V (Proc.devRef .tc main_v33_22) : IVec S4x25 1) (ix2 b d) := by
  have hb := best V b
  unfold step_main_v33_22 res_main_while0b_v104
  simp only [id_eq]
  pointwise
  rw [hb]
  simp only [h.cnt, select_eq, ofBits_negInf]
  rw [if_congr (word_inj d.val t (by omega) (by omega)) rfl rfl]

/-- One selection keeps what holds of the state. -/
theorem RInv.step {bx : Fin 4 → Boxes 19200} {S0 : Fin 4 → Fin 19200 → EReal} {t : ℕ} (ht : t < 25) (h : RInv bx S0 t V) : RInv bx S0 (t + 1) (STEP V) := by
  have hs : ∀ b, scAt V b = scores (bx b) (S0 b) t := fun b => funext (h.sc b)
  refine ⟨?_, ?_, ?_, ?_, ?_, ?_, ?_, ?_, ?_, ?_, ?_⟩
  · rw [STEP_main_v33_1]; exact h.x1
  · rw [STEP_main_v33_3]; exact h.y1
  · rw [STEP_main_v33_0]; exact h.x2
  · rw [STEP_main_v33_2]; exact h.y2
  · rw [STEP_main_v33_4]; exact h.area
  · rw [STEP_main_v33_5]; exact h.num
  · intro i
    rw [STEP_main_v33_19]
    unfold step_main_v33_19
    simp only [id_eq]
    exact (congrArg (fun w : BitVec 32 => w + 1#32) (h.cnt i)).trans (by rw [BitVec.ofNat_add])
  · intro b q
    rw [STEP_main_v33_20, step_score V h, hs, scores_succ]
  · intro b d hd
    rw [STEP_main_v33_21, step_idx V ht h, hs]
    by_cases e : d.val = t
    · rw [if_pos e, e]; rfl
    · rw [if_neg e]; exact h.idx b d (by omega)
  · intro b d hd ha
    rw [STEP_main_v33_22, step_val V ht h, hs]
    by_cases e : d.val = t
    · rw [if_pos e]
      rw [e] at ha
      have ha : scores (bx b) (S0 b) t (pick (scores (bx b) (S0 b) t)) ≠ ⊥ := ha
      simp [ha]
    · rw [if_neg e]; exact h.val_one b d (by omega) ha
  · intro b d hd ha
    rw [STEP_main_v33_22, step_val V ht h, hs]
    by_cases e : d.val = t
    · rw [if_pos e]
      rw [e] at ha
      have ha : ¬ scores (bx b) (S0 b) t (pick (scores (bx b) (S0 b) t)) ≠ ⊥ := ha
      rw [decide_eq_false ha]
      rfl
    · rw [if_neg e]; exact h.val_zero b d (by omega) ha

/-- What holds after all selections. -/
theorem RInv.iter {bx : Fin 4 → Boxes 19200} {S0 : Fin 4 → Fin 19200 → EReal} (h : RInv bx S0 0 V) (t : ℕ) (ht : t ≤ 25) : RInv bx S0 t (STEP^[t] V) := by
  induction t with
  | zero => exact h
  | succ t ih =>
    rw [Function.iterate_succ_apply']
    exact (ih (by omega)).step _ (by omega)

/-- A table of words read at a taken candidate. -/
theorem gslot (x : IVec S4x19200 32) (w : IVec S4x25 32) (b : Fin 4) (d : Fin 25) (k : Fin 19200) (hw : w (ix2 b d) = BitVec.ofNat 32 k.val) :
    Host.gather gather_S4x19200_S4x25x2_S4x25_n_01_n_n_01_2_11 x
      (concatenate S4x25x2 2 [⟨S4x25x1, broadcastInDim S4x25x1 ![0, 1] Gen.bcast_S4x25_S4x25x1_0_1 (iotaInDim S4x25 32 0)⟩,
        ⟨S4x25x1, broadcastInDim S4x25x1 ![0, 1] Gen.bcast_S4x25_S4x25x1_0_1 w⟩] Gen.concatenates_S4x25x1_S4x25x1_S4x25x2_d2) (ix2 b d)
      = x (ix2 b k) := by
  refine gather_slot _ x _ b d b k ?_ ?_
  · pointwise
    exact word_nat _ (by omega)
  · pointwise
    rw [hw]
    exact word_nat _ (by omega)

/-- The row of pixels that a candidate lies in. -/
theorem row (b : Fin 4) (k : Fin 19200) :
    (shapeCast S4x19200 (iotaInDim S4x3x80x80 32 2) Gen.shapeCasts_S4x3x80x80_S4x19200) (ix2 b k) = BitVec.ofNat 32 (k.val / 80 % 80) := by
  pointwise

/-- The column of pixels that a candidate lies in. -/
theorem col (b : Fin 4) (k : Fin 19200) :
    (shapeCast S4x19200 (iotaInDim S4x3x80x80 32 3) Gen.shapeCasts_S4x3x80x80_S4x19200) (ix2 b k) = BitVec.ofNat 32 (k.val % 80) := by
  pointwise

/-- The reference's feature vectors, read at the pixels of the taken candidates. -/
theorem feat {bx : Fin 4 → Boxes 19200} {S0 : Fin 4 → Fin 19200 → EReal} (h : RInv bx S0 25 V) (b : Fin 4) (d : Fin 25) (c : Fin 128) :
    (out_main_v56 V : FVec Ideal S4x25x128 .f32) (ix3 b d c)
      = Scalar.select ((V (Proc.devRef .tc main_v33_22) : IVec S4x25 1) (ix2 b d))
        ((V (Proc.devRef .tc main_arg0) : FVec Ideal S4x128x80x80 .f32)
          (ix4 b c ⟨(chosen (bx b) (S0 b) d.val).val / 80 % 80, Nat.mod_lt _ (by norm_num)⟩
            ⟨(chosen (bx b) (S0 b) d.val).val % 80, Nat.mod_lt _ (by norm_num)⟩)) (0 : EReal) := by
  have hi := h.idx b d d.isLt
  unfold out_main_v56
  pointwise
  congr 1
  · refine (gather_row _ _ _ b d c b ⟨(chosen (bx b) (S0 b) d.val).val / 80 % 80, Nat.mod_lt _ (by norm_num)⟩
      ⟨(chosen (bx b) (S0 b) d.val).val % 80, Nat.mod_lt _ (by norm_num)⟩ ?_ ?_ ?_).trans ?_
    · pointwise
      exact word_nat _ (by omega)
    · pointwise
      rw [gslot _ _ b d _ hi, row]
      exact word_nat _ (by omega)
    · pointwise
      rw [gslot _ _ b d _ hi, col]
      exact word_nat _ (by omega)
    · pointwise
  · simp only [id_eq]
    pointwise

/-- A candidate that stands gives its pixel's feature vector. -/
theorem out_one {bx : Fin 4 → Boxes 19200} {S0 : Fin 4 → Fin 19200 → EReal} (h : RInv bx S0 25 V) (b : Fin 4) (d : Fin 25) (c : Fin 128)
    (ha : alive (bx b) (S0 b) d.val) :
    (out_main_v56 V : FVec Ideal S4x25x128 .f32) (ix3 b d c)
      = (V (Proc.devRef .tc main_arg0) : FVec Ideal S4x128x80x80 .f32)
          (ix4 b c ⟨(chosen (bx b) (S0 b) d.val).val / 80 % 80, Nat.mod_lt _ (by norm_num)⟩
            ⟨(chosen (bx b) (S0 b) d.val).val % 80, Nat.mod_lt _ (by norm_num)⟩) := by
  rw [feat V h, h.val_one b d d.isLt ha]
  rfl

/-- A candidate that does not stand gives nothing. -/
theorem out_zero {bx : Fin 4 → Boxes 19200} {S0 : Fin 4 → Fin 19200 → EReal} (h : RInv bx S0 25 V) (b : Fin 4) (d : Fin 25) (c : Fin 128)
    (ha : ¬ alive (bx b) (S0 b) d.val) :
    (out_main_v56 V : FVec Ideal S4x25x128 .f32) (ix3 b d c) = (0 : EReal) := by
  rw [feat V h, h.val_zero b d d.isLt ha]
  rfl

end Cert.ReferenceIdeal.Value.L0

end
-- ==== Proof.Value.Ref1.lean ====
module

public import proofs.«01_k».proof.Proof.Gen.ReferenceIdeal.Run
public import Idealize.ShloMosaic.Lib.Pointwise
public import proofs.«01_k».proof.Proof.Value.Cells
public import proofs.«01_k».proof.Proof.Value.TopK
public import proofs.«01_k».proof.Proof.Value.Gather

@[expose] public section

noncomputable section

namespace Cert.ReferenceIdeal.Value.L1

open Cert.ReferenceIdeal Cert.ReferenceIdeal.Value Idealize.ShloMosaic Idealize.ShloMosaic.TcCoe Idealize.SL.Sem
open Idealize.ShloMosaic.StableHlo Idealize.ShloMosaic.Pointwise Cert.Nms

/-- What holds of the reference's state for the second level after `t` selections. -/
structure RInv (bx : Fin 4 → Boxes 4800) (S0 : Fin 4 → Fin 4800 → EReal) (t : ℕ) (V : Valuation τ sig (Elt Ideal)) : Prop where
  x1 : ∀ b q, (V (Proc.devRef .tc main_v33_7) : FVec Ideal S4x4800 .f32) (ix2 b q) = (bx b).x1 q
  y1 : ∀ b q, (V (Proc.devRef .tc main_v33_9) : FVec Ideal S4x4800 .f32) (ix2 b q) = (bx b).y1 q
  x2 : ∀ b q, (V (Proc.devRef .tc main_v33_6) : FVec Ideal S4x4800 .f32) (ix2 b q) = (bx b).x2 q
  y2 : ∀ b q, (V (Proc.devRef .tc main_v33_8) : FVec Ideal S4x4800 .f32) (ix2 b q) = (bx b).y2 q
  area : ∀ b q, (V (Proc.devRef .tc main_v33_10) : FVec Ideal S4x4800 .f32) (ix2 b q)
    = areaOf ((bx b).x1 q) ((bx b).y1 q) ((bx b).x2 q) ((bx b).y2 q)
  num : ∀ b q, (V (Proc.devRef .tc main_v33_11) : IVec S4x4800 32) (ix2 b q) = BitVec.ofNat 32 q.val
  cnt : ∀ i, (V (Proc.devRef .tc main_v33_19) : IVec S_ 32) i = BitVec.ofNat 32 t
  sc : ∀ b q, (V (Proc.devRef .tc main_v33_23) : FVec Ideal S4x4800 .f32) (ix2 b q) = scores (bx b) (S0 b) t q
  idx : ∀ b (d : Fin 25), d.val < t →
    (V (Proc.devRef .tc main_v33_24) : IVec S4x25 32) (ix2 b d) = BitVec.ofNat 32 (chosen (bx b) (S0 b) d.val).val
  val_one : ∀ b (d : Fin 25), d.val < t → alive (bx b) (S0 b) d.val →
    (V (Proc.devRef .tc main_v33_25) : IVec S4x25 1) (ix2 b d) = 1#1
  val_zero : ∀ b (d : Fin 25), d.val < t → ¬ alive (bx b) (S0 b) d.val →
    (V (Proc.devRef .tc main_v33_25) : IVec S4x25 1) (ix2 b d) = 0#1

variable (V : Valuation τ sig (Elt Ideal))

/-- The scores of image `b`. -/
abbrev scAt (b : Fin 4) : Fin 4800 → EReal := fun q => (V (Proc.devRef .tc main_v33_23) : FVec Ideal S4x4800 .f32) (ix2 b q)

/-- The reference takes the first of the candidates with the largest score. -/
theorem word (b : Fin 4) : (res_main_while0b_v177 V : IVec S4 32) (ix1 b) = BitVec.ofNat 32 (pick (scAt V b)).val := by
  obtain ⟨k, h1, h2, hk⟩ := topK_spec (by norm_num) (V (Proc.devRef .tc main_v33_23) : FVec Ideal S4x4800 .f32) Gen.sliceFits_S4x4800_S4x1 b
  obtain rfl := hk.eq_pick
  refine Eq.trans ?_ h2
  unfold res_main_while0b_v177
  pointwise

/-- The largest score. -/
theorem best (b : Fin 4) :
    (Host.topK S4x1 1 (FloatOps.cmpfTotal (F := Ideal) (φ := .f32) .gt) (V (Proc.devRef .tc main_v33_23) : FVec Ideal S4x4800 .f32)
      Gen.sliceFits_S4x4800_S4x1).1 (ix2 b 0) = scAt V b (pick (scAt V b)) := by
  obtain ⟨k, h1, h2, hk⟩ := topK_spec (by norm_num) (V (Proc.devRef .tc main_v33_23) : FVec Ideal S4x4800 .f32) Gen.sliceFits_S4x4800_S4x1 b
  obtain rfl := hk.eq_pick
  exact h1

/-- A plane read at one candidate of each image. -/
theorem gat (x : FVec Ideal S4x4800 .f32) (w : IVec S4 32) (b : Fin 4) (k : Fin 4800) (hw : w (ix1 b) = BitVec.ofNat 32 k.val) :
    Host.gather gather_S4x4800_S4x2_S4_n_01_n_n_01_1_11 x
      (concatenate S4x2 1 [⟨S4x1, broadcastInDim S4x1 ![0] Gen.bcast_S4_S4x1_0 (iotaInDim S4 32 0)⟩,
        ⟨S4x1, broadcastInDim S4x1 ![0] Gen.bcast_S4_S4x1_0 w⟩] Gen.concatenates_S4x1_S4x1_S4x2_d1) (ix1 b) = x (ix2 b k) := by
  refine gather_pt _ x _ b b k ?_ ?_
  · pointwise
    exact word_nat _ (by omega)
  · pointwise
    rw [hw]
    exact word_nat _ (by omega)

/-- The scores after a selection. -/
theorem step_score {bx : Fin 4 → Boxes 4800} {S0 : Fin 4 → Fin 4800 → EReal} {t : ℕ} (h : RInv bx S0 t V) (b : Fin 4) (q : Fin 4800) :
    (step_main_v33_23 V : FVec Ideal S4x4800 .f32) (ix2 b q) = next (bx b) (scAt V b) q := by
  have hw := word V b
  unfold step_main_v33_23 res_main_while0b_v228
  simp only [id_eq]
  pointwise
  rw [gat (V (Proc.devRef .tc main_v33_7)) _ b _ hw, gat (V (Proc.devRef .tc main_v33_6)) _ b _ hw,
    gat (V (Proc.devRef .tc main_v33_9)) _ b _ hw, gat (V (Proc.devRef .tc main_v33_8)) _ b _ hw,
    gat (V (Proc.devRef .tc main_v33_10)) _ b _ hw]
  simp only [hw, h.num, h.x1, h.y1, h.x2, h.y2, h.area, select_eq, ofBits_negInf]
  rw [if_congr ((word_inj q.val _ (by omega) (by omega)).trans Fin.ext_iff.symm) rfl rfl]
  unfold next dropped
  first | rfl | congr!

/-- The list of taken candidates after a selection. -/
theorem step_idx {bx : Fin 4 → Boxes 4800} {S0 : Fin 4 → Fin 4800 → EReal} {t : ℕ} (ht : t < 25) (h : RInv bx S0 t V) (b : Fin 4) (d : Fin 25) :
    (step_main_v33_24 V : IVec S4x25 32) (ix2 b d)
      = if d.val = t then BitVec.ofNat 32 (pick (scAt V b)).val else (V (Proc.devRef .tc main_v33_24) : IVec S4x25 32) (ix2 b d) := by
  have hw := word V b
  unfold step_main_v33_24 res_main_while0b_v175
  simp only [id_eq]
  pointwise
  simp only [h.cnt, hw, select_eq]
  exact if_congr (word_inj d.val t (by omega) (by omega)) rfl rfl

/-- Which of the taken candidates stand, after a selection. -/
theorem step_val {bx : Fin 4 → Boxes 4800} {S0 : Fin 4 → Fin 4800 → EReal} {t : ℕ} (ht : t < 25) (h : RInv bx S0 t V) (b : Fin 4) (d : Fin 25) :
    (step_main_v33_25 V : IVec S4x25 1) (ix2 b d)
      = if d.val = t then BitVec.ofBool (decide (scAt V b (pick (scAt V b)) ≠ ⊥)) else (V (Proc.devRef .tc main_v33_25) : IVec S4x25 1) (ix2 b d) := by
  have hb := best V b
  unfold step_main_v33_25 res_main_while0b_v175
  simp only [id_eq]
  pointwise
  rw [hb]
  simp only [h.cnt, select_eq, ofBits_negInf]
  rw [if_congr (word_inj d.val t (by omega) (by omega)) rfl rfl]

/-- One selection keeps what holds of the state. -/
theorem RInv.step {bx : Fin 4 → Boxes 4800} {S0 : Fin 4 → Fin 4800 → EReal} {t : ℕ} (ht : t < 25) (h : RInv bx S0 t V) : RInv bx S0 (t + 1) (STEP V) := by
  have hs : ∀ b, scAt V b = scores (bx b) (S0 b) t := fun b => funext (h.sc b)
  refine ⟨?_, ?_, ?_, ?_, ?_, ?_, ?_, ?_, ?_, ?_, ?_⟩
  · rw [STEP_main_v33_7]; exact h.x1
  · rw [STEP_main_v33_9]; exact h.y1
  · rw [STEP_main_v33_6]; exact h.x2
  · rw [STEP_main_v33_8]; exact h.y2
  · rw [STEP_main_v33_10]; exact h.area
  · rw [STEP_main_v33_11]; exact h.num
  · intro i
    rw [STEP_main_v33_19]
    unfold step_main_v33_19
    simp only [id_eq]
    exact (congrArg (fun w : BitVec 32 => w + 1#32) (h.cnt i)).trans (by rw [BitVec.ofNat_add])
  · intro b q
    rw [STEP_main_v33_23, step_score V h, hs, scores_succ]
  · intro b d hd
    rw [STEP_main_v33_24, step_idx V ht h, hs]
    by_cases e : d.val = t
    · rw [if_pos e, e]; rfl
    · rw [if_neg e]; exact h.idx b d (by omega)
  · intro b d hd ha
    rw [STEP_main_v33_25, step_val V ht h, hs]
    by_cases e : d.val = t
    · rw [if_pos e]
      rw [e] at ha
      have ha : scores (bx b) (S0 b) t (pick (scores (bx b) (S0 b) t)) ≠ ⊥ := ha
      simp [ha]
    · rw [if_neg e]; exact h.val_one b d (by omega) ha
  · intro b d hd ha
    rw [STEP_main_v33_25, step_val V ht h, hs]
    by_cases e : d.val = t
    · rw [if_pos e]
      rw [e] at ha
      have ha : ¬ scores (bx b) (S0 b) t (pick (scores (bx b) (S0 b) t)) ≠ ⊥ := ha
      rw [decide_eq_false ha]
      rfl
    · rw [if_neg e]; exact h.val_zero b d (by omega) ha

/-- What holds after all selections. -/
theorem RInv.iter {bx : Fin 4 → Boxes 4800} {S0 : Fin 4 → Fin 4800 → EReal} (h : RInv bx S0 0 V) (t : ℕ) (ht : t ≤ 25) : RInv bx S0 t (STEP^[t] V) := by
  induction t with
  | zero => exact h
  | succ t ih =>
    rw [Function.iterate_succ_apply']
    exact (ih (by omega)).step _ (by omega)

/-- A table of words read at a taken candidate. -/
theorem gslot (x : IVec S4x4800 32) (w : IVec S4x25 32) (b : Fin 4) (d : Fin 25) (k : Fin 4800) (hw : w (ix2 b d) = BitVec.ofNat 32 k.val) :
    Host.gather gather_S4x4800_S4x25x2_S4x25_n_01_n_n_01_2_11 x
      (concatenate S4x25x2 2 [⟨S4x25x1, broadcastInDim S4x25x1 ![0, 1] Gen.bcast_S4x25_S4x25x1_0_1 (iotaInDim S4x25 32 0)⟩,
        ⟨S4x25x1, broadcastInDim S4x25x1 ![0, 1] Gen.bcast_S4x25_S4x25x1_0_1 w⟩] Gen.concatenates_S4x25x1_S4x25x1_S4x25x2_d2) (ix2 b d)
      = x (ix2 b k) := by
  refine gather_slot _ x _ b d b k ?_ ?_
  · pointwise
    exact word_nat _ (by omega)
  · pointwise
    rw [hw]
    exact word_nat _ (by omega)

/-- The row of pixels that a candidate lies in. -/
theorem row (b : Fin 4) (k : Fin 4800) :
    (shapeCast S4x4800 (iotaInDim S4x3x40x40 32 2) Gen.shapeCasts_S4x3x40x40_S4x4800) (ix2 b k) = BitVec.ofNat 32 (k.val / 40 % 40) := by
  pointwise

/-- The column of pixels that a candidate lies in. -/
theorem col (b : Fin 4) (k : Fin 4800) :
    (shapeCast S4x4800 (iotaInDim S4x3x40x40 32 3) Gen.shapeCasts_S4x3x40x40_S4x4800) (ix2 b k) = BitVec.ofNat 32 (k.val % 40) := by
  pointwise

/-- The reference's feature vectors, read at the pixels of the taken candidates. -/
theorem feat {bx : Fin 4 → Boxes 4800} {S0 : Fin 4 → Fin 4800 → EReal} (h : RInv bx S0 25 V) (b : Fin 4) (d : Fin 25) (c : Fin 256) :
    (out_main_v79 V : FVec Ideal S4x25x256 .f32) (ix3 b d c)
      = Scalar.select ((V (Proc.devRef .tc main_v33_25) : IVec S4x25 1) (ix2 b d))
        ((V (Proc.devRef .tc main_arg1) : FVec Ideal S4x256x40x40 .f32)
          (ix4 b c ⟨(chosen (bx b) (S0 b) d.val).val / 40 % 40, Nat.mod_lt _ (by norm_num)⟩
            ⟨(chosen (bx b) (S0 b) d.val).val % 40, Nat.mod_lt _ (by norm_num)⟩)) (0 : EReal) := by
  have hi := h.idx b d d.isLt
  unfold out_main_v79
  pointwise
  congr 1
  · refine (gather_row _ _ _ b d c b ⟨(chosen (bx b) (S0 b) d.val).val / 40 % 40, Nat.mod_lt _ (by norm_num)⟩
      ⟨(chosen (bx b) (S0 b) d.val).val % 40, Nat.mod_lt _ (by norm_num)⟩ ?_ ?_ ?_).trans ?_
    · pointwise
      exact word_nat _ (by omega)
    · pointwise
      rw [gslot _ _ b d _ hi, row]
      exact word_nat _ (by omega)
    · pointwise
      rw [gslot _ _ b d _ hi, col]
      exact word_nat _ (by omega)
    · pointwise
  · simp only [id_eq]
    pointwise

/-- A candidate that stands gives its pixel's feature vector. -/
theorem out_one {bx : Fin 4 → Boxes 4800} {S0 : Fin 4 → Fin 4800 → EReal} (h : RInv bx S0 25 V) (b : Fin 4) (d : Fin 25) (c : Fin 256)
    (ha : alive (bx b) (S0 b) d.val) :
    (out_main_v79 V : FVec Ideal S4x25x256 .f32) (ix3 b d c)
      = (V (Proc.devRef .tc main_arg1) : FVec Ideal S4x256x40x40 .f32)
          (ix4 b c ⟨(chosen (bx b) (S0 b) d.val).val / 40 % 40, Nat.mod_lt _ (by norm_num)⟩
            ⟨(chosen (bx b) (S0 b) d.val).val % 40, Nat.mod_lt _ (by norm_num)⟩) := by
  rw [feat V h, h.val_one b d d.isLt ha]
  rfl

/-- A candidate that does not stand gives nothing. -/
theorem out_zero {bx : Fin 4 → Boxes 4800} {S0 : Fin 4 → Fin 4800 → EReal} (h : RInv bx S0 25 V) (b : Fin 4) (d : Fin 25) (c : Fin 256)
    (ha : ¬ alive (bx b) (S0 b) d.val) :
    (out_main_v79 V : FVec Ideal S4x25x256 .f32) (ix3 b d c) = (0 : EReal) := by
  rw [feat V h, h.val_zero b d d.isLt ha]
  rfl

end Cert.ReferenceIdeal.Value.L1

end
-- ==== Proof.Value.Ref2.lean ====
module

public import proofs.«01_k».proof.Proof.Gen.ReferenceIdeal.Run
public import Idealize.ShloMosaic.Lib.Pointwise
public import proofs.«01_k».proof.Proof.Value.Cells
public import proofs.«01_k».proof.Proof.Value.TopK
public import proofs.«01_k».proof.Proof.Value.Gather

@[expose] public section

noncomputable section

namespace Cert.ReferenceIdeal.Value.L2

open Cert.ReferenceIdeal Cert.ReferenceIdeal.Value Idealize.ShloMosaic Idealize.ShloMosaic.TcCoe Idealize.SL.Sem
open Idealize.ShloMosaic.StableHlo Idealize.ShloMosaic.Pointwise Cert.Nms

/-- What holds of the reference's state for the third level after `t` selections. -/
structure RInv (bx : Fin 4 → Boxes 1200) (S0 : Fin 4 → Fin 1200 → EReal) (t : ℕ) (V : Valuation τ sig (Elt Ideal)) : Prop where
  x1 : ∀ b q, (V (Proc.devRef .tc main_v33_13) : FVec Ideal S4x1200 .f32) (ix2 b q) = (bx b).x1 q
  y1 : ∀ b q, (V (Proc.devRef .tc main_v33_15) : FVec Ideal S4x1200 .f32) (ix2 b q) = (bx b).y1 q
  x2 : ∀ b q, (V (Proc.devRef .tc main_v33_12) : FVec Ideal S4x1200 .f32) (ix2 b q) = (bx b).x2 q
  y2 : ∀ b q, (V (Proc.devRef .tc main_v33_14) : FVec Ideal S4x1200 .f32) (ix2 b q) = (bx b).y2 q
  area : ∀ b q, (V (Proc.devRef .tc main_v33_16) : FVec Ideal S4x1200 .f32) (ix2 b q)
    = areaOf ((bx b).x1 q) ((bx b).y1 q) ((bx b).x2 q) ((bx b).y2 q)
  num : ∀ b q, (V (Proc.devRef .tc main_v33_17) : IVec S4x1200 32) (ix2 b q) = BitVec.ofNat 32 q.val
  cnt : ∀ i, (V (Proc.devRef .tc main_v33_19) : IVec S_ 32) i = BitVec.ofNat 32 t
  sc : ∀ b q, (V (Proc.devRef .tc main_v33_26) : FVec Ideal S4x1200 .f32) (ix2 b q) = scores (bx b) (S0 b) t q
  idx : ∀ b (d : Fin 25), d.val < t →
    (V (Proc.devRef .tc main_v33_27) : IVec S4x25 32) (ix2 b d) = BitVec.ofNat 32 (chosen (bx b) (S0 b) d.val).val
  val_one : ∀ b (d : Fin 25), d.val < t → alive (bx b) (S0 b) d.val →
    (V (Proc.devRef .tc main_v33_28) : IVec S4x25 1) (ix2 b d) = 1#1
  val_zero : ∀ b (d : Fin 25), d.val < t → ¬ alive (bx b) (S0 b) d.val →
    (V (Proc.devRef .tc main_v33_28) : IVec S4x25 1) (ix2 b d) = 0#1

variable (V : Valuation τ sig (Elt Ideal))

/-- The scores of image `b`. -/
abbrev scAt (b : Fin 4) : Fin 1200 → EReal := fun q => (V (Proc.devRef .tc main_v33_26) : FVec Ideal S4x1200 .f32) (ix2 b q)

/-- The reference takes the first of the candidates with the largest score. -/
theorem word (b : Fin 4) : (res_main_while0b_v248 V : IVec S4 32) (ix1 b) = BitVec.ofNat 32 (pick (scAt V b)).val := by
  obtain ⟨k, h1, h2, hk⟩ := topK_spec (by norm_num) (V (Proc.devRef .tc main_v33_26) : FVec Ideal S4x1200 .f32) Gen.sliceFits_S4x1200_S4x1 b
  obtain rfl := hk.eq_pick
  refine Eq.trans ?_ h2
  unfold res_main_while0b_v248
  pointwise

/-- The largest score. -/
theorem best (b : Fin 4) :
    (Host.topK S4x1 1 (FloatOps.cmpfTotal (F := Ideal) (φ := .f32) .gt) (V (Proc.devRef .tc main_v33_26) : FVec Ideal S4x1200 .f32)
      Gen.sliceFits_S4x1200_S4x1).1 (ix2 b 0) = scAt V b (pick (scAt V b)) := by
  obtain ⟨k, h1, h2, hk⟩ := topK_spec (by norm_num) (V (Proc.devRef .tc main_v33_26) : FVec Ideal S4x1200 .f32) Gen.sliceFits_S4x1200_S4x1 b
  obtain rfl := hk.eq_pick
  exact h1

/-- A plane read at one candidate of each image. -/
theorem gat (x : FVec Ideal S4x1200 .f32) (w : IVec S4 32) (b : Fin 4) (k : Fin 1200) (hw : w (ix1 b) = BitVec.ofNat 32 k.val) :
    Host.gather gather_S4x1200_S4x2_S4_n_01_n_n_01_1_11 x
      (concatenate S4x2 1 [⟨S4x1, broadcastInDim S4x1 ![0] Gen.bcast_S4_S4x1_0 (iotaInDim S4 32 0)⟩,
        ⟨S4x1, broadcastInDim S4x1 ![0] Gen.bcast_S4_S4x1_0 w⟩] Gen.concatenates_S4x1_S4x1_S4x2_d1) (ix1 b) = x (ix2 b k) := by
  refine gather_pt _ x _ b b k ?_ ?_
  · pointwise
    exact word_nat _ (by omega)
  · pointwise
    rw [hw]
    exact word_nat _ (by omega)

/-- The scores after a selection. -/
theorem step_score {bx : Fin 4 → Boxes 1200} {S0 : Fin 4 → Fin 1200 → EReal} {t : ℕ} (h : RInv bx S0 t V) (b : Fin 4) (q : Fin 1200) :
    (step_main_v33_26 V : FVec Ideal S4x1200 .f32) (ix2 b q) = next (bx b) (scAt V b) q := by
  have hw := word V b
  unfold step_main_v33_26 res_main_while0b_v299
  simp only [id_eq]
  pointwise
  rw [gat (V (Proc.devRef .tc main_v33_13)) _ b _ hw, gat (V (Proc.devRef .tc main_v33_12)) _ b _ hw,
    gat (V (Proc.devRef .tc main_v33_15)) _ b _ hw, gat (V (Proc.devRef .tc main_v33_14)) _ b _ hw,
    gat (V (Proc.devRef .tc main_v33_16)) _ b _ hw]
  simp only [hw, h.num, h.x1, h.y1, h.x2, h.y2, h.area, select_eq, ofBits_negInf]
  rw [if_congr ((word_inj q.val _ (by omega) (by omega)).trans Fin.ext_iff.symm) rfl rfl]
  unfold next dropped
  first | rfl | congr!

/-- The list of taken candidates after a selection. -/
theorem step_idx {bx : Fin 4 → Boxes 1200} {S0 : Fin 4 → Fin 1200 → EReal} {t : ℕ} (ht : t < 25) (h : RInv bx S0 t V) (b : Fin 4) (d : Fin 25) :
    (step_main_v33_27 V : IVec S4x25 32) (ix2 b d)
      = if d.val = t then BitVec.ofNat 32 (pick (scAt V b)).val else (V (Proc.devRef .tc main_v33_27) : IVec S4x25 32) (ix2 b d) := by
  have hw := word V b
  unfold step_main_v33_27 res_main_while0b_v246
  simp only [id_eq]
  pointwise
  simp only [h.cnt, hw, select_eq]
  exact if_congr (word_inj d.val t (by omega) (by omega)) rfl rfl

/-- Which of the taken candidates stand, after a selection. -/
theorem step_val {bx : Fin 4 → Boxes 1200} {S0 : Fin 4 → Fin 1200 → EReal} {t : ℕ} (ht : t < 25) (h : RInv bx S0 t V) (b : Fin 4) (d : Fin 25) :
    (step_main_v33_28 V : IVec S4x25 1) (ix2 b d)
      = if d.val = t then BitVec.ofBool (decide (scAt V b (pick (scAt V b)) ≠ ⊥)) else (V (Proc.devRef .tc main_v33_28) : IVec S4x25 1) (ix2 b d) := by
  have hb := best V b
  unfold step_main_v33_28 res_main_while0b_v246
  simp only [id_eq]
  pointwise
  rw [hb]
  simp only [h.cnt, select_eq, ofBits_negInf]
  rw [if_congr (word_inj d.val t (by omega) (by omega)) rfl rfl]

/-- One selection keeps what holds of the state. -/
theorem RInv.step {bx : Fin 4 → Boxes 1200} {S0 : Fin 4 → Fin 1200 → EReal} {t : ℕ} (ht : t < 25) (h : RInv bx S0 t V) : RInv bx S0 (t + 1) (STEP V) := by
  have hs : ∀ b, scAt V b = scores (bx b) (S0 b) t := fun b => funext (h.sc b)
  refine ⟨?_, ?_, ?_, ?_, ?_, ?_, ?_, ?_, ?_, ?_, ?_⟩
  · rw [STEP_main_v33_13]; exact h.x1
  · rw [STEP_main_v33_15]; exact h.y1
  · rw [STEP_main_v33_12]; exact h.x2
  · rw [STEP_main_v33_14]; exact h.y2
  · rw [STEP_main_v33_16]; exact h.area
  · rw [STEP_main_v33_17]; exact h.num
  · intro i
    rw [STEP_main_v33_19]
    unfold step_main_v33_19
    simp only [id_eq]
    exact (congrArg (fun w : BitVec 32 => w + 1#32) (h.cnt i)).trans (by rw [BitVec.ofNat_add])
  · intro b q
    rw [STEP_main_v33_26, step_score V h, hs, scores_succ]
  · intro b d hd
    rw [STEP_main_v33_27, step_idx V ht h, hs]
    by_cases e : d.val = t
    · rw [if_pos e, e]; rfl
    · rw [if_neg e]; exact h.idx b d (by omega)
  · intro b d hd ha
    rw [STEP_main_v33_28, step_val V ht h, hs]
    by_cases e : d.val = t
    · rw [if_pos e]
      rw [e] at ha
      have ha : scores (bx b) (S0 b) t (pick (scores (bx b) (S0 b) t)) ≠ ⊥ := ha
      simp [ha]
    · rw [if_neg e]; exact h.val_one b d (by omega) ha
  · intro b d hd ha
    rw [STEP_main_v33_28, step_val V ht h, hs]
    by_cases e : d.val = t
    · rw [if_pos e]
      rw [e] at ha
      have ha : ¬ scores (bx b) (S0 b) t (pick (scores (bx b) (S0 b) t)) ≠ ⊥ := ha
      rw [decide_eq_false ha]
      rfl
    · rw [if_neg e]; exact h.val_zero b d (by omega) ha

/-- What holds after all selections. -/
theorem RInv.iter {bx : Fin 4 → Boxes 1200} {S0 : Fin 4 → Fin 1200 → EReal} (h : RInv bx S0 0 V) (t : ℕ) (ht : t ≤ 25) : RInv bx S0 t (STEP^[t] V) := by
  induction t with
  | zero => exact h
  | succ t ih =>
    rw [Function.iterate_succ_apply']
    exact (ih (by omega)).step _ (by omega)

/-- A table of words read at a taken candidate. -/
theorem gslot (x : IVec S4x1200 32) (w : IVec S4x25 32) (b : Fin 4) (d : Fin 25) (k : Fin 1200) (hw : w (ix2 b d) = BitVec.ofNat 32 k.val) :
    Host.gather gather_S4x1200_S4x25x2_S4x25_n_01_n_n_01_2_11 x
      (concatenate S4x25x2 2 [⟨S4x25x1, broadcastInDim S4x25x1 ![0, 1] Gen.bcast_S4x25_S4x25x1_0_1 (iotaInDim S4x25 32 0)⟩,
        ⟨S4x25x1, broadcastInDim S4x25x1 ![0, 1] Gen.bcast_S4x25_S4x25x1_0_1 w⟩] Gen.concatenates_S4x25x1_S4x25x1_S4x25x2_d2) (ix2 b d)
      = x (ix2 b k) := by
  refine gather_slot _ x _ b d b k ?_ ?_
  · pointwise
    exact word_nat _ (by omega)
  · pointwise
    rw [hw]
    exact word_nat _ (by omega)

/-- The row of pixels that a candidate lies in. -/
theorem row (b : Fin 4) (k : Fin 1200) :
    (shapeCast S4x1200 (iotaInDim S4x3x20x20 32 2) Gen.shapeCasts_S4x3x20x20_S4x1200) (ix2 b k) = BitVec.ofNat 32 (k.val / 20 % 20) := by
  pointwise

/-- The column of pixels that a candidate lies in. -/
theorem col (b : Fin 4) (k : Fin 1200) :
    (shapeCast S4x1200 (iotaInDim S4x3x20x20 32 3) Gen.shapeCasts_S4x3x20x20_S4x1200) (ix2 b k) = BitVec.ofNat 32 (k.val % 20) := by
  pointwise

/-- The reference's feature vectors, read at the pixels of the taken candidates. -/
theorem feat {bx : Fin 4 → Boxes 1200} {S0 : Fin 4 → Fin 1200 → EReal} (h : RInv bx S0 25 V) (b : Fin 4) (d : Fin 25) (c : Fin 512) :
    (out_main_v102 V : FVec Ideal S4x25x512 .f32) (ix3 b d c)
      = Scalar.select ((V (Proc.devRef .tc main_v33_28) : IVec S4x25 1) (ix2 b d))
        ((V (Proc.devRef .tc main_arg2) : FVec Ideal S4x512x20x20 .f32)
          (ix4 b c ⟨(chosen (bx b) (S0 b) d.val).val / 20 % 20, Nat.mod_lt _ (by norm_num)⟩
            ⟨(chosen (bx b) (S0 b) d.val).val % 20, Nat.mod_lt _ (by norm_num)⟩)) (0 : EReal) := by
  have hi := h.idx b d d.isLt
  unfold out_main_v102
  pointwise
  congr 1
  · refine (gather_row _ _ _ b d c b ⟨(chosen (bx b) (S0 b) d.val).val / 20 % 20, Nat.mod_lt _ (by norm_num)⟩
      ⟨(chosen (bx b) (S0 b) d.val).val % 20, Nat.mod_lt _ (by norm_num)⟩ ?_ ?_ ?_).trans ?_
    · pointwise
      exact word_nat _ (by omega)
    · pointwise
      rw [gslot _ _ b d _ hi, row]
      exact word_nat _ (by omega)
    · pointwise
      rw [gslot _ _ b d _ hi, col]
      exact word_nat _ (by omega)
    · pointwise
  · simp only [id_eq]
    pointwise

/-- A candidate that stands gives its pixel's feature vector. -/
theorem out_one {bx : Fin 4 → Boxes 1200} {S0 : Fin 4 → Fin 1200 → EReal} (h : RInv bx S0 25 V) (b : Fin 4) (d : Fin 25) (c : Fin 512)
    (ha : alive (bx b) (S0 b) d.val) :
    (out_main_v102 V : FVec Ideal S4x25x512 .f32) (ix3 b d c)
      = (V (Proc.devRef .tc main_arg2) : FVec Ideal S4x512x20x20 .f32)
          (ix4 b c ⟨(chosen (bx b) (S0 b) d.val).val / 20 % 20, Nat.mod_lt _ (by norm_num)⟩
            ⟨(chosen (bx b) (S0 b) d.val).val % 20, Nat.mod_lt _ (by norm_num)⟩) := by
  rw [feat V h, h.val_one b d d.isLt ha]
  rfl

/-- A candidate that does not stand gives nothing. -/
theorem out_zero {bx : Fin 4 → Boxes 1200} {S0 : Fin 4 → Fin 1200 → EReal} (h : RInv bx S0 25 V) (b : Fin 4) (d : Fin 25) (c : Fin 512)
    (ha : ¬ alive (bx b) (S0 b) d.val) :
    (out_main_v102 V : FVec Ideal S4x25x512 .f32) (ix3 b d c) = (0 : EReal) := by
  rw [feat V h, h.val_zero b d d.isLt ha]
  rfl

end Cert.ReferenceIdeal.Value.L2

end
-- ==== Proof.Value.RefEntry.lean ====
module

public import proofs.«01_k».proof.Proof.Value.Layout
public import proofs.«01_k».proof.Proof.Value.Ref0
public import proofs.«01_k».proof.Proof.Value.Ref1
public import proofs.«01_k».proof.Proof.Value.Ref2

@[expose] public section

set_option maxRecDepth 16384

noncomputable section

namespace Cert.ReferenceIdeal.Value

open Cert.ReferenceIdeal Cert.ReferenceIdeal.Value Idealize.ShloMosaic Idealize.ShloMosaic.TcCoe Idealize.SL.Sem
open Idealize.ShloMosaic.StableHlo Idealize.ShloMosaic.Pointwise Cert.Nms

variable (m : (ℓ : Loc nD τ sig) → Buf (Elt Ideal) ℓ) (c : Dev nD)

/-- What the loop of the reference starts from. -/
theorem entry0_1 : (entryContents preI m c (Proc.devRef .tc main_v33_1) : FVec Ideal S4x19200 .f32) = shapeCast S4x19200 (m ((c.tc : Thread nD τ).loc main_arg3) : FVec Ideal S4x240x80 .f32) Gen.shapeCasts_S4x240x80_S4x19200 := by
  simp only [entryContents, afterL_cons, afterL_nil]
  after_reads_simp
  try rfl
/-- What the loop of the reference starts from. -/
theorem entry0_3 : (entryContents preI m c (Proc.devRef .tc main_v33_3) : FVec Ideal S4x19200 .f32) = shapeCast S4x19200 (m ((c.tc : Thread nD τ).loc main_arg4) : FVec Ideal S4x240x80 .f32) Gen.shapeCasts_S4x240x80_S4x19200 := by
  simp only [entryContents, afterL_cons, afterL_nil]
  after_reads_simp
  try rfl
/-- What the loop of the reference starts from. -/
theorem entry0_0 : (entryContents preI m c (Proc.devRef .tc main_v33_0) : FVec Ideal S4x19200 .f32) = shapeCast S4x19200 (m ((c.tc : Thread nD τ).loc main_arg5) : FVec Ideal S4x240x80 .f32) Gen.shapeCasts_S4x240x80_S4x19200 := by
  simp only [entryContents, afterL_cons, afterL_nil]
  after_reads_simp
  try rfl
/-- What the loop of the reference starts from. -/
theorem entry0_2 : (entryContents preI m c (Proc.devRef .tc main_v33_2) : FVec Ideal S4x19200 .f32) = shapeCast S4x19200 (m ((c.tc : Thread nD τ).loc main_arg6) : FVec Ideal S4x240x80 .f32) Gen.shapeCasts_S4x240x80_S4x19200 := by
  simp only [entryContents, afterL_cons, afterL_nil]
  after_reads_simp
  try rfl
/-- What the loop of the reference starts from. -/
theorem entry0_20 : (entryContents preI m c (Proc.devRef .tc main_v33_20) : FVec Ideal S4x19200 .f32) = shapeCast S4x19200 (m ((c.tc : Thread nD τ).loc main_arg7) : FVec Ideal S4x240x80 .f32) Gen.shapeCasts_S4x240x80_S4x19200 := by
  simp only [entryContents, afterL_cons, afterL_nil]
  after_reads_simp
  try rfl
/-- What the loop of the reference starts from. -/
theorem entry0_4 : (entryContents preI m c (Proc.devRef .tc main_v33_4) : FVec Ideal S4x19200 .f32) = mulf (F := Ideal) (subf (shapeCast S4x19200 (m ((c.tc : Thread nD τ).loc main_arg5) : FVec Ideal S4x240x80 .f32) Gen.shapeCasts_S4x240x80_S4x19200 : FVec Ideal S4x19200 .f32) (shapeCast S4x19200 (m ((c.tc : Thread nD τ).loc main_arg3) : FVec Ideal S4x240x80 .f32) Gen.shapeCasts_S4x240x80_S4x19200 : FVec Ideal S4x19200 .f32)) (subf (shapeCast S4x19200 (m ((c.tc : Thread nD τ).loc main_arg6) : FVec Ideal S4x240x80 .f32) Gen.shapeCasts_S4x240x80_S4x19200 : FVec Ideal S4x19200 .f32) (shapeCast S4x19200 (m ((c.tc : Thread nD τ).loc main_arg4) : FVec Ideal S4x240x80 .f32) Gen.shapeCasts_S4x240x80_S4x19200 : FVec Ideal S4x19200 .f32)) := by
  simp only [entryContents, afterL_cons, afterL_nil]
  after_reads_simp
  try rfl
/-- What the loop of the reference starts from. -/
theorem entry0_5 : (entryContents preI m c (Proc.devRef .tc main_v33_5) : IVec S4x19200 32) = iotaInDim S4x19200 32 1 := by
  simp only [entryContents, afterL_cons, afterL_nil]
  after_reads_simp
  try rfl
/-- What the loop of the reference starts from. -/
theorem entry0_19 : (entryContents preI m c (Proc.devRef .tc main_v33_19) : IVec S_ 32) = constantI S_ 32 0#32 := by
  simp only [entryContents, afterL_cons, afterL_nil]
  after_reads_simp
  try rfl

/-- What holds of the reference's state at level 0 before the first selection. -/
theorem start0 : L0.RInv (boxesOf phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32)) (scoresOf phi0 (m ((c.tc : Thread nD τ).loc main_arg7) : FVec Ideal S4x240x80 .f32)) 0 (entryContents preI m c) where
  x1 b q := by
    rw [entry0_1]
    pointwise
    try rfl
  y1 b q := by
    rw [entry0_3]
    pointwise
    try rfl
  x2 b q := by
    rw [entry0_0]
    pointwise
    try rfl
  y2 b q := by
    rw [entry0_2]
    pointwise
    try rfl
  sc b q := by
    rw [entry0_20]
    rw [scores_zero]
    pointwise
    try rfl
  area b q := by
    rw [entry0_4]
    pointwise
    try rfl
  num b q := by
    rw [entry0_5]
    pointwise
  cnt i := by
    rw [entry0_19]
    rfl
  idx b d h := absurd h (Nat.not_lt_zero _)
  val_one b d h := absurd h (Nat.not_lt_zero _)
  val_zero b d h := absurd h (Nat.not_lt_zero _)

/-- What the loop of the reference starts from. -/
theorem entry1_7 : (entryContents preI m c (Proc.devRef .tc main_v33_7) : FVec Ideal S4x4800 .f32) = shapeCast S4x4800 (m ((c.tc : Thread nD τ).loc main_arg8) : FVec Ideal S4x120x40 .f32) Gen.shapeCasts_S4x120x40_S4x4800 := by
  simp only [entryContents, afterL_cons, afterL_nil]
  after_reads_simp
  try rfl
/-- What the loop of the reference starts from. -/
theorem entry1_9 : (entryContents preI m c (Proc.devRef .tc main_v33_9) : FVec Ideal S4x4800 .f32) = shapeCast S4x4800 (m ((c.tc : Thread nD τ).loc main_arg9) : FVec Ideal S4x120x40 .f32) Gen.shapeCasts_S4x120x40_S4x4800 := by
  simp only [entryContents, afterL_cons, afterL_nil]
  after_reads_simp
  try rfl
/-- What the loop of the reference starts from. -/
theorem entry1_6 : (entryContents preI m c (Proc.devRef .tc main_v33_6) : FVec Ideal S4x4800 .f32) = shapeCast S4x4800 (m ((c.tc : Thread nD τ).loc main_arg10) : FVec Ideal S4x120x40 .f32) Gen.shapeCasts_S4x120x40_S4x4800 := by
  simp only [entryContents, afterL_cons, afterL_nil]
  after_reads_simp
  try rfl
/-- What the loop of the reference starts from. -/
theorem entry1_8 : (entryContents preI m c (Proc.devRef .tc main_v33_8) : FVec Ideal S4x4800 .f32) = shapeCast S4x4800 (m ((c.tc : Thread nD τ).loc main_arg11) : FVec Ideal S4x120x40 .f32) Gen.shapeCasts_S4x120x40_S4x4800 := by
  simp only [entryContents, afterL_cons, afterL_nil]
  after_reads_simp
  try rfl
/-- What the loop of the reference starts from. -/
theorem entry1_23 : (entryContents preI m c (Proc.devRef .tc main_v33_23) : FVec Ideal S4x4800 .f32) = shapeCast S4x4800 (m ((c.tc : Thread nD τ).loc main_arg12) : FVec Ideal S4x120x40 .f32) Gen.shapeCasts_S4x120x40_S4x4800 := by
  simp only [entryContents, afterL_cons, afterL_nil]
  after_reads_simp
  try rfl
/-- What the loop of the reference starts from. -/
theorem entry1_10 : (entryContents preI m c (Proc.devRef .tc main_v33_10) : FVec Ideal S4x4800 .f32) = mulf (F := Ideal) (subf (shapeCast S4x4800 (m ((c.tc : Thread nD τ).loc main_arg10) : FVec Ideal S4x120x40 .f32) Gen.shapeCasts_S4x120x40_S4x4800 : FVec Ideal S4x4800 .f32) (shapeCast S4x4800 (m ((c.tc : Thread nD τ).loc main_arg8) : FVec Ideal S4x120x40 .f32) Gen.shapeCasts_S4x120x40_S4x4800 : FVec Ideal S4x4800 .f32)) (subf (shapeCast S4x4800 (m ((c.tc : Thread nD τ).loc main_arg11) : FVec Ideal S4x120x40 .f32) Gen.shapeCasts_S4x120x40_S4x4800 : FVec Ideal S4x4800 .f32) (shapeCast S4x4800 (m ((c.tc : Thread nD τ).loc main_arg9) : FVec Ideal S4x120x40 .f32) Gen.shapeCasts_S4x120x40_S4x4800 : FVec Ideal S4x4800 .f32)) := by
  simp only [entryContents, afterL_cons, afterL_nil]
  after_reads_simp
  try rfl
/-- What the loop of the reference starts from. -/
theorem entry1_11 : (entryContents preI m c (Proc.devRef .tc main_v33_11) : IVec S4x4800 32) = iotaInDim S4x4800 32 1 := by
  simp only [entryContents, afterL_cons, afterL_nil]
  after_reads_simp
  try rfl

/-- What holds of the reference's state at level 1 before the first selection. -/
theorem start1 : L1.RInv (boxesOf phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32)) (scoresOf phi1 (m ((c.tc : Thread nD τ).loc main_arg12) : FVec Ideal S4x120x40 .f32)) 0 (entryContents preI m c) where
  x1 b q := by
    rw [entry1_7]
    pointwise
    try rfl
  y1 b q := by
    rw [entry1_9]
    pointwise
    try rfl
  x2 b q := by
    rw [entry1_6]
    pointwise
    try rfl
  y2 b q := by
    rw [entry1_8]
    pointwise
    try rfl
  sc b q := by
    rw [entry1_23]
    rw [scores_zero]
    pointwise
    try rfl
  area b q := by
    rw [entry1_10]
    pointwise
    try rfl
  num b q := by
    rw [entry1_11]
    pointwise
  cnt i := by
    rw [entry0_19]
    rfl
  idx b d h := absurd h (Nat.not_lt_zero _)
  val_one b d h := absurd h (Nat.not_lt_zero _)
  val_zero b d h := absurd h (Nat.not_lt_zero _)

/-- What the loop of the reference starts from. -/
theorem entry2_13 : (entryContents preI m c (Proc.devRef .tc main_v33_13) : FVec Ideal S4x1200 .f32) = shapeCast S4x1200 (m ((c.tc : Thread nD τ).loc main_arg13) : FVec Ideal S4x60x20 .f32) Gen.shapeCasts_S4x60x20_S4x1200 := by
  simp only [entryContents, afterL_cons, afterL_nil]
  after_reads_simp
  try rfl
/-- What the loop of the reference starts from. -/
theorem entry2_15 : (entryContents preI m c (Proc.devRef .tc main_v33_15) : FVec Ideal S4x1200 .f32) = shapeCast S4x1200 (m ((c.tc : Thread nD τ).loc main_arg14) : FVec Ideal S4x60x20 .f32) Gen.shapeCasts_S4x60x20_S4x1200 := by
  simp only [entryContents, afterL_cons, afterL_nil]
  after_reads_simp
  try rfl
/-- What the loop of the reference starts from. -/
theorem entry2_12 : (entryContents preI m c (Proc.devRef .tc main_v33_12) : FVec Ideal S4x1200 .f32) = shapeCast S4x1200 (m ((c.tc : Thread nD τ).loc main_arg15) : FVec Ideal S4x60x20 .f32) Gen.shapeCasts_S4x60x20_S4x1200 := by
  simp only [entryContents, afterL_cons, afterL_nil]
  after_reads_simp
  try rfl
/-- What the loop of the reference starts from. -/
theorem entry2_14 : (entryContents preI m c (Proc.devRef .tc main_v33_14) : FVec Ideal S4x1200 .f32) = shapeCast S4x1200 (m ((c.tc : Thread nD τ).loc main_arg16) : FVec Ideal S4x60x20 .f32) Gen.shapeCasts_S4x60x20_S4x1200 := by
  simp only [entryContents, afterL_cons, afterL_nil]
  after_reads_simp
  try rfl
/-- What the loop of the reference starts from. -/
theorem entry2_26 : (entryContents preI m c (Proc.devRef .tc main_v33_26) : FVec Ideal S4x1200 .f32) = shapeCast S4x1200 (m ((c.tc : Thread nD τ).loc main_arg17) : FVec Ideal S4x60x20 .f32) Gen.shapeCasts_S4x60x20_S4x1200 := by
  simp only [entryContents, afterL_cons, afterL_nil]
  after_reads_simp
  try rfl
/-- What the loop of the reference starts from. -/
theorem entry2_16 : (entryContents preI m c (Proc.devRef .tc main_v33_16) : FVec Ideal S4x1200 .f32) = mulf (F := Ideal) (subf (shapeCast S4x1200 (m ((c.tc : Thread nD τ).loc main_arg15) : FVec Ideal S4x60x20 .f32) Gen.shapeCasts_S4x60x20_S4x1200 : FVec Ideal S4x1200 .f32) (shapeCast S4x1200 (m ((c.tc : Thread nD τ).loc main_arg13) : FVec Ideal S4x60x20 .f32) Gen.shapeCasts_S4x60x20_S4x1200 : FVec Ideal S4x1200 .f32)) (subf (shapeCast S4x1200 (m ((c.tc : Thread nD τ).loc main_arg16) : FVec Ideal S4x60x20 .f32) Gen.shapeCasts_S4x60x20_S4x1200 : FVec Ideal S4x1200 .f32) (shapeCast S4x1200 (m ((c.tc : Thread nD τ).loc main_arg14) : FVec Ideal S4x60x20 .f32) Gen.shapeCasts_S4x60x20_S4x1200 : FVec Ideal S4x1200 .f32)) := by
  simp only [entryContents, afterL_cons, afterL_nil]
  after_reads_simp
  try rfl
/-- What the loop of the reference starts from. -/
theorem entry2_17 : (entryContents preI m c (Proc.devRef .tc main_v33_17) : IVec S4x1200 32) = iotaInDim S4x1200 32 1 := by
  simp only [entryContents, afterL_cons, afterL_nil]
  after_reads_simp
  try rfl

/-- What holds of the reference's state at level 2 before the first selection. -/
theorem start2 : L2.RInv (boxesOf phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32)) (scoresOf phi2 (m ((c.tc : Thread nD τ).loc main_arg17) : FVec Ideal S4x60x20 .f32)) 0 (entryContents preI m c) where
  x1 b q := by
    rw [entry2_13]
    pointwise
    try rfl
  y1 b q := by
    rw [entry2_15]
    pointwise
    try rfl
  x2 b q := by
    rw [entry2_12]
    pointwise
    try rfl
  y2 b q := by
    rw [entry2_14]
    pointwise
    try rfl
  sc b q := by
    rw [entry2_26]
    rw [scores_zero]
    pointwise
    try rfl
  area b q := by
    rw [entry2_16]
    pointwise
    try rfl
  num b q := by
    rw [entry2_17]
    pointwise
  cnt i := by
    rw [entry0_19]
    rfl
  idx b d h := absurd h (Nat.not_lt_zero _)
  val_one b d h := absurd h (Nat.not_lt_zero _)
  val_zero b d h := absurd h (Nat.not_lt_zero _)

end Cert.ReferenceIdeal.Value

end
-- ==== Proof.Value.RefResult.lean ====
module

public import proofs.«01_k».proof.Proof.Value.RefEntry

@[expose] public section

set_option maxRecDepth 16384

noncomputable section

namespace Cert.ReferenceIdeal.Value

open Cert.ReferenceIdeal Cert.ReferenceIdeal.Value Idealize.ShloMosaic Idealize.ShloMosaic.TcCoe Idealize.SL.Sem
open Idealize.ShloMosaic.StableHlo Idealize.ShloMosaic.Pointwise Cert.Nms

variable (m : (ℓ : Loc nD τ sig) → Buf (Elt Ideal) ℓ) (c : Dev nD)

/-- What the reference's result 0 holds. -/
theorem result0 (b : Fin 4) (d : Fin 25) (ch : Fin 128) :
    (out_main_v56 (STEP^[25] (entryContents preI m c)) : FVec Ideal S4x25x128 .f32) (ix3 b d ch)
    = answer (by norm_num : 0 < 80) phi0 (m ((c.tc : Thread nD τ).loc main_arg3) : FVec Ideal S4x240x80 .f32) (m ((c.tc : Thread nD τ).loc main_arg4) : FVec Ideal S4x240x80 .f32) (m ((c.tc : Thread nD τ).loc main_arg5) : FVec Ideal S4x240x80 .f32) (m ((c.tc : Thread nD τ).loc main_arg6) : FVec Ideal S4x240x80 .f32) (m ((c.tc : Thread nD τ).loc main_arg7) : FVec Ideal S4x240x80 .f32)
      (m ((c.tc : Thread nD τ).loc main_arg0) : FVec Ideal S4x128x80x80 .f32) b d.val ch := by
  have h := L0.RInv.iter _ (start0 m c) 25 le_rfl
  unfold answer
  split_ifs with ha
  · refine (L0.out_one _ h b d ch ha).trans ?_
    rw [iter_main_arg0]
  · exact L0.out_zero _ h b d ch ha

/-- What the reference's result 1 holds. -/
theorem result1 (b : Fin 4) (d : Fin 25) (ch : Fin 256) :
    (out_main_v79 (STEP^[25] (entryContents preI m c)) : FVec Ideal S4x25x256 .f32) (ix3 b d ch)
    = answer (by norm_num : 0 < 40) phi1 (m ((c.tc : Thread nD τ).loc main_arg8) : FVec Ideal S4x120x40 .f32) (m ((c.tc : Thread nD τ).loc main_arg9) : FVec Ideal S4x120x40 .f32) (m ((c.tc : Thread nD τ).loc main_arg10) : FVec Ideal S4x120x40 .f32) (m ((c.tc : Thread nD τ).loc main_arg11) : FVec Ideal S4x120x40 .f32) (m ((c.tc : Thread nD τ).loc main_arg12) : FVec Ideal S4x120x40 .f32)
      (m ((c.tc : Thread nD τ).loc main_arg1) : FVec Ideal S4x256x40x40 .f32) b d.val ch := by
  have h := L1.RInv.iter _ (start1 m c) 25 le_rfl
  unfold answer
  split_ifs with ha
  · refine (L1.out_one _ h b d ch ha).trans ?_
    rw [iter_main_arg1]
  · exact L1.out_zero _ h b d ch ha

/-- What the reference's result 2 holds. -/
theorem result2 (b : Fin 4) (d : Fin 25) (ch : Fin 512) :
    (out_main_v102 (STEP^[25] (entryContents preI m c)) : FVec Ideal S4x25x512 .f32) (ix3 b d ch)
    = answer (by norm_num : 0 < 20) phi2 (m ((c.tc : Thread nD τ).loc main_arg13) : FVec Ideal S4x60x20 .f32) (m ((c.tc : Thread nD τ).loc main_arg14) : FVec Ideal S4x60x20 .f32) (m ((c.tc : Thread nD τ).loc main_arg15) : FVec Ideal S4x60x20 .f32) (m ((c.tc : Thread nD τ).loc main_arg16) : FVec Ideal S4x60x20 .f32) (m ((c.tc : Thread nD τ).loc main_arg17) : FVec Ideal S4x60x20 .f32)
      (m ((c.tc : Thread nD τ).loc main_arg2) : FVec Ideal S4x512x20x20 .f32) b d.val ch := by
  have h := L2.RInv.iter _ (start2 m c) 25 le_rfl
  unfold answer
  split_ifs with ha
  · refine (L2.out_one _ h b d ch ha).trans ?_
    rw [iter_main_arg2]
  · exact L2.out_zero _ h b d ch ha

end Cert.ReferenceIdeal.Value

end
-- ==== Proof.Value.Same.lean ====
module

public import proofs.«01_k».proof.Proof.Value.KernelResult
public import proofs.«01_k».proof.Proof.Value.RefResult

@[expose] public section

set_option maxRecDepth 16384

noncomputable section

namespace Cert.Nms

open Idealize.ShloMosaic Idealize.ShloMosaic.TcCoe Idealize.SL.Sem Idealize.ShloMosaic.Pointwise

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- From equal arguments the two programs end with the same result 0. -/
theorem same0 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.ReferenceIdeal.Value.out_main_v56 (Cert.ReferenceIdeal.Value.STEP^[25] (StableHlo.entryContents Cert.ReferenceIdeal.Value.preI m' c)) : FVec Ideal Cert.KernelIdeal.S4x25x128 .f32)
    = extractStridedSlice Cert.KernelIdeal.S4x25x128 ![0, 0, 0] (Cert.KernelIdeal.Value.reg_main_v3_0 m c) Cert.KernelIdeal.Gen.slices_S4x32x128_S4x25x128_0_0_0 := by
  funext i
  have hi : i = ix3 (i 0) (i 1) (i 2) := by
    funext a
    fin_cases a <;> rfl
  rw [hi]
  refine (Cert.ReferenceIdeal.Value.result0 m' c (i 0) (i 1) (i 2)).trans (Eq.trans ?_ (Cert.KernelIdeal.Value.result0 m c (i 0) (i 1) (i 2)).symm)
  rw [h0, h3, h4, h5, h6, h7]

/-- From equal arguments the two programs end with the same result 1. -/
theorem same1 (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (Cert.ReferenceIdeal.Value.out_main_v79 (Cert.ReferenceIdeal.Value.STEP^[25] (StableHlo.entryContents Cert.ReferenceIdeal.Value.preI m' c)) : FVec Ideal Cert.KernelIdeal.S4x25x256 .f32)
    = extractStridedSlice Cert.KernelIdeal.S4x25x256 ![0, 0, 0] (Cert.KernelIdeal.Value.reg_main_v3_1 m c) Cert.KernelIdeal.Gen.slices_S4x32x256_S4x25x256_0_0_0 := by
  funext i
  have hi : i = ix3 (i 0) (i 1) (i 2) := by
    funext a
    fin_cases a <;> rfl
  rw [hi]
  refine (Cert.ReferenceIdeal.Value.result1 m' c (i 0) (i 1) (i 2)).trans (Eq.trans ?_ (Cert.KernelIdeal.Value.result1 m c (i 0) (i 1) (i 2)).symm)
  rw [h1, h8, h9, h10, h11, h12]

/-- From equal arguments the two programs end with the same result 2. -/
theorem same2 (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (Cert.ReferenceIdeal.Value.out_main_v102 (Cert.ReferenceIdeal.Value.STEP^[25] (StableHlo.entryContents Cert.ReferenceIdeal.Value.preI m' c)) : FVec Ideal Cert.KernelIdeal.S4x25x512 .f32)
    = extractStridedSlice Cert.KernelIdeal.S4x25x512 ![0, 0, 0] (Cert.KernelIdeal.Value.reg_main_v3_2 m c) Cert.KernelIdeal.Gen.slices_S4x32x512_S4x25x512_0_0_0 := by
  funext i
  have hi : i = ix3 (i 0) (i 1) (i 2) := by
    funext a
    fin_cases a <;> rfl
  rw [hi]
  refine (Cert.ReferenceIdeal.Value.result2 m' c (i 0) (i 1) (i 2)).trans (Eq.trans ?_ (Cert.KernelIdeal.Value.result2 m c (i 0) (i 1) (i 2)).symm)
  rw [h2, h13, h14, h15, h16, h17]

end Cert.Nms

end
-- ==== Proof.Value.Score.lean ====
/- The largest product of a class's confidence with the objectness, as one product: the logistic function is monotone and
   nonnegative over the extended reals, so the largest product belongs to the largest logit. -/
module

public import Idealize.ShloMosaic.PureOps.Ideal
public import Mathlib.Data.Finset.Fold

@[expose] public section

noncomputable section

namespace Cert.Score

open Idealize.ShloMosaic

/-- The logistic function is nonnegative. -/
theorem logistic_nonneg (x : EReal) : 0 ≤ Ideal.logistic x := by
  induction x using EReal.rec with
  | bot => rw [Ideal.logistic_bot]
  | top => rw [Ideal.logistic_top]; exact zero_le_one
  | coe r =>
    rw [Ideal.logistic_coe]
    have : (0 : ℝ) ≤ (1 + Real.exp (-r))⁻¹ := by positivity
    exact_mod_cast this

/-- The logistic function is at most one. -/
theorem logistic_le_one (x : EReal) : Ideal.logistic x ≤ 1 := by
  induction x using EReal.rec with
  | bot => rw [Ideal.logistic_bot]; exact zero_le_one
  | top => rw [Ideal.logistic_top]
  | coe r =>
    rw [Ideal.logistic_coe]
    have : (1 + Real.exp (-r))⁻¹ ≤ (1 : ℝ) := inv_le_one_of_one_le₀ (by have := Real.exp_pos (-r); linarith)
    exact_mod_cast this

/-- The logistic function is monotone. -/
theorem logistic_mono {x y : EReal} (h : x ≤ y) : Ideal.logistic x ≤ Ideal.logistic y := by
  induction x using EReal.rec with
  | bot => rw [Ideal.logistic_bot]; exact logistic_nonneg y
  | top => rw [top_le_iff.mp h]
  | coe r =>
    induction y using EReal.rec with
    | bot => exact absurd h (by simp)
    | top => rw [Ideal.logistic_top]; exact logistic_le_one _
    | coe s =>
      rw [Ideal.logistic_coe, Ideal.logistic_coe]
      have hrs : r ≤ s := EReal.coe_le_coe_iff.mp h
      have : (1 + Real.exp (-r))⁻¹ ≤ (1 + Real.exp (-s))⁻¹ :=
        inv_anti₀ (by have := Real.exp_pos (-s); linarith) (by have := Real.exp_le_exp.mpr (neg_le_neg hrs); linarith)
      exact_mod_cast this

/-- The largest product of a class's confidence with the objectness is the product of the largest logit's confidence with
    the objectness. -/
theorem largest_product (f : Fin 80 → EReal) (o : EReal) :
    Finset.univ.fold max (⊥ : EReal) (fun k => Ideal.logistic (f k) * Ideal.logistic o)
      = Ideal.logistic (Finset.univ.fold max ⊥ f) * Ideal.logistic o := by
  have mono : ∀ {u v : EReal}, u ≤ v → u * Ideal.logistic o ≤ v * Ideal.logistic o := fun h =>
    mul_le_mul_of_nonneg_right h (logistic_nonneg o)
  apply le_antisymm
  · refine Finset.fold_max_le _ |>.mpr ⟨bot_le, fun k _ => mono (logistic_mono ?_)⟩
    exact Finset.le_fold_max _ |>.mpr (.inr ⟨k, Finset.mem_univ k, le_rfl⟩)
  · have : ∃ k, Finset.univ.fold max ⊥ f ≤ f k := by
      rcases (Finset.le_fold_max _).mp (le_refl (Finset.univ.fold max ⊥ f)) with h | ⟨k, _, h⟩
      · exact ⟨0, h.trans bot_le⟩
      · exact ⟨k, h⟩
    obtain ⟨k, hk⟩ := this
    exact Finset.le_fold_max _ |>.mpr (.inr ⟨k, Finset.mem_univ k, mono (logistic_mono hk)⟩)

end Cert.Score

end
-- ==== Proof.Value.Plane0.lean ====
/- The plane of scores of level 0: what a point of the decode call's grid writes, the array after the run, and the reference's
   array, entry by entry. -/
module

public import proofs.«01_k».proof.Proof.Gen.Decode0Ideal.Value
public import proofs.«01_k».proof.Proof.Gen.Scores0Ideal.Run
public import proofs.«01_k».proof.Proof.Value.Cells
public import proofs.«01_k».proof.Proof.Value.Score
public import Idealize.ShloMosaic.Lib.Pointwise
public import Idealize.ShloMosaic.Lib.ValueIdx
public import Idealize.ShloMosaic.PureOps.Ideal.Laws

@[expose] public section

noncomputable section

namespace Cert.Scores0Ideal.Plane

open Cert.Scores0Ideal Cert.Scores0Ideal.Gen Idealize.ShloMosaic Idealize.ShloMosaic.TcCoe Idealize.SL.Sem

/-- The array that the reference computes from `x`. -/
def best (x : FVec Ideal S4x3x80x80x87 .f32) : FVec Ideal S4x3x80x80 .f32 :=
  Host.reduce FloatOps.maximumf (mulf (extractStridedSlice S4x3x80x80x80 ![0, 0, 0, 0, 5] (Host.divf (broadcastInDim S4x3x80x80x87 ![] bcast_S_S4x3x80x80x87 (constant S_ .f32 0x3F800000#32)) (addf (broadcastInDim S4x3x80x80x87 ![] bcast_S_S4x3x80x80x87 (constant S_ .f32 0x3F800000#32)) (Host.exp (Host.negf x)))) slices_S4x3x80x80x87_S4x3x80x80x80_0_0_0_0_5) (broadcastInDim S4x3x80x80x80 ![0, 1, 2, 3, 4] bcast_S4x3x80x80x1_S4x3x80x80x80_0_1_2_3_4 (extractStridedSlice S4x3x80x80x1 ![0, 0, 0, 0, 4] (Host.divf (broadcastInDim S4x3x80x80x87 ![] bcast_S_S4x3x80x80x87 (constant S_ .f32 0x3F800000#32)) (addf (broadcastInDim S4x3x80x80x87 ![] bcast_S_S4x3x80x80x87 (constant S_ .f32 0x3F800000#32)) (Host.exp (Host.negf x)))) slices_S4x3x80x80x87_S4x3x80x80x1_0_0_0_0_4))) (constant S_ .f32 0xFF800000#32) reducesTo_S4x3x80x80x80_S4x3x80x80_d4 h_S_

/-- An entry of it: the largest product of a class's confidence with the objectness. -/
theorem best_apply (x : FVec Ideal S4x3x80x80x87 .f32) (b : Fin 4) (a : Fin 3) (r q : Fin 80) :
    (best x (ix4 b a r q) : EReal) = Finset.univ.fold max (⊥ : EReal) fun k : Fin 80 =>
      Ideal.logistic (x (ix5 b a r q ⟨5 + k.val, by omega⟩)) * Ideal.logistic (x (ix5 b a r q 4)) := by
  unfold best
  pointwise
  rw [Cert.Nms.ofBits_negInf]
  rfl

end Cert.Scores0Ideal.Plane

namespace Cert.Decode0Ideal.Plane

open Cert.Decode0Ideal Cert.Decode0Ideal.Gen Idealize.ShloMosaic Idealize.ShloMosaic.TcCoe Idealize.SL.Sem
open Idealize.ShloMosaic.Pipeline (Dat)

variable (m : (ℓ : Loc nD τ sig) → Buf (Elt Ideal) ℓ)

/-- What the body writes to the plane of scores: the confidence of the largest logit times the objectness. -/
theorem out_apply (i : grid0.Coords) (x : Vec Ideal S1x1x80x80x87 .f32) (r q : Fin 80) :
    (out0_5 i x (ix4 0 0 r q) : EReal)
      = Ideal.logistic (Finset.univ.fold max (⊥ : EReal) fun k : Fin 80 => x (ix5 0 0 r q ⟨5 + k.val, by omega⟩))
        * Ideal.logistic (x (ix5 0 0 r q 4)) := by
  have hz : (![0, 0, 0, 0] : Fin 4 → Nat) = fun _ => 0 := funext fun a => by fin_cases a <;> rfl
  have hz5 : (![0, 0, 0, 0, 0] : Fin 5 → Nat) = fun _ => 0 := funext fun a => by fin_cases a <;> rfl
  have hl : View.ld x r0_0 = x := View.ld_unit_zero hz5 _ _
  unfold out0_5
  rw [View.canon_unit_zero hz, hl]
  unfold k0_pay3 k0_pay8 k0_pay6 k0_pay5 k0_pay4
  pointwise
  rw [Cert.Nms.ofBits_negInf]

/-- The point of the grid that works on image `b` and anchor `a`. -/
def pt (b : Fin 4) (a : Fin 3) : Fin cfg0.N := ⟨b.val * 3 + a.val, by show _ < 12; omega⟩

/-- It writes the block of that image and anchor. -/
theorem idx5 : ∀ (b : Fin 4) (a : Fin 3) (k : Fin 4), win0_5.index (pt b a) k = (![b.val, a.val, 0, 0] : Fin 4 → ℕ) k := by
  decide +kernel

/-- It reads the block of that image and anchor. -/
theorem idx0 : ∀ (b : Fin 4) (a : Fin 3) (k : Fin 5), win0_0.index (pt b a) k = (![b.val, a.val, 0, 0, 0] : Fin 5 → ℕ) k := by
  decide +kernel

/-- The array of scores after the run, at an entry, is what that entry's point wrote. -/
theorem array_apply (c : Dev nD) (b : Fin 4) (a : Fin 3) (r q : Fin 80) :
    (dats m 0 c).arrAt 5 cfg0.N (ix4 b a r q) = out0_5 (grid0.coords (pt b a)) (iblk m c 0 (pt b a)) (ix4 0 0 r q) := by
  have h := congrFun (Value.blocks5 m c (pt b a) (flush0_5 _)) (ix4 0 0 r q)
  rw [Value.flushed5] at h
  refine (congrArg ((dats m 0 c).arrAt 5 cfg0.N) (funext fun k => Fin.ext ?_)).trans h
  change Fin 4 at k
  fin_cases k
  · have e : win0_5.index (pt b a) 0 = b.val := idx5 b a 0
    show b.val = win0_5.index (pt b a) 0 * 1 + 1 * 0
    rw [e]; omega
  · have e : win0_5.index (pt b a) 1 = a.val := idx5 b a 1
    show a.val = win0_5.index (pt b a) 1 * 1 + 1 * 0
    rw [e]; omega
  · have e : win0_5.index (pt b a) 2 = 0 := idx5 b a 2
    show r.val = win0_5.index (pt b a) 2 * 80 + 1 * r.val
    rw [e]; omega
  · have e : win0_5.index (pt b a) 3 = 0 := idx5 b a 3
    show q.val = win0_5.index (pt b a) 3 * 80 + 1 * q.val
    rw [e]; omega

/-- The block that a point reads, at an entry, is the argument at that point's image and anchor. -/
theorem block_apply (c : Dev nD) (b : Fin 4) (a : Fin 3) (r q : Fin 80) (k : Fin 87) :
    iblk m c 0 (pt b a) (ix5 0 0 r q k) = m ((c : Thread nD τ).loc main_arg0) (ix5 b a r q k) := by
  refine Eq.trans ?_ (congrFun (V_main_arg0 m c) _)
  unfold iblk
  refine congrArg (V m c main_arg0) (funext fun j => Fin.ext ?_)
  change Fin 5 at j
  fin_cases j
  · have e : win0_0.index (pt b a) 0 = b.val := idx0 b a 0
    show win0_0.index (pt b a) 0 * 1 + 1 * 0 = b.val
    rw [e]; omega
  · have e : win0_0.index (pt b a) 1 = a.val := idx0 b a 1
    show win0_0.index (pt b a) 1 * 1 + 1 * 0 = a.val
    rw [e]; omega
  · have e : win0_0.index (pt b a) 2 = 0 := idx0 b a 2
    show win0_0.index (pt b a) 2 * 80 + 1 * r.val = r.val
    rw [e]; omega
  · have e : win0_0.index (pt b a) 3 = 0 := idx0 b a 3
    show win0_0.index (pt b a) 3 * 80 + 1 * q.val = q.val
    rw [e]; omega
  · have e : win0_0.index (pt b a) 4 = 0 := idx0 b a 4
    show win0_0.index (pt b a) 4 * 87 + 1 * k.val = k.val
    rw [e]; omega

/-- From equal arguments the array of scores after the run is the reference's array. -/
theorem same (c : Dev nD) (x : FVec Ideal Cert.Scores0Ideal.S4x3x80x80x87 .f32)
    (hx : x = m ((c : Thread nD τ).loc main_arg0)) :
    Cert.Scores0Ideal.Plane.best x = (dats m 0 c).arrAt 5 cfg0.N := by
  funext j
  have hj : j = ix4 (j 0 : Fin 4) (j 1 : Fin 3) (j 2 : Fin 80) (j 3 : Fin 80) := funext fun k => by
    change Fin 4 at k
    fin_cases k <;> rfl
  generalize (j 0 : Fin 4) = b at hj
  generalize (j 1 : Fin 3) = a at hj
  generalize (j 2 : Fin 80) = r at hj
  generalize (j 3 : Fin 80) = q at hj
  subst hj
  subst hx
  refine (Cert.Scores0Ideal.Plane.best_apply _ b a r q).trans (Eq.trans ?_ (array_apply m c b a r q).symm)
  refine Eq.trans ?_ (out_apply _ _ r q).symm
  refine (Cert.Score.largest_product (fun k : Fin 80 => m ((c : Thread nD τ).loc main_arg0) (ix5 b a r q ⟨5 + k.val, by omega⟩)) _).trans ?_
  refine congrArg₂ (fun u v : EReal => Ideal.logistic u * Ideal.logistic v) (Finset.fold_congr fun k _ => ?_) ?_
  · exact (block_apply m c b a r q _).symm
  · exact (block_apply m c b a r q 4).symm

end Cert.Decode0Ideal.Plane

end
-- ==== Proof.Value.Plane1.lean ====
/- The plane of scores of level 1: what a point of the decode call's grid writes, the array after the run, and the reference's
   array, entry by entry. -/
module

public import proofs.«01_k».proof.Proof.Gen.Decode1Ideal.Value
public import proofs.«01_k».proof.Proof.Gen.Scores1Ideal.Run
public import proofs.«01_k».proof.Proof.Value.Cells
public import proofs.«01_k».proof.Proof.Value.Score
public import Idealize.ShloMosaic.Lib.Pointwise
public import Idealize.ShloMosaic.Lib.ValueIdx
public import Idealize.ShloMosaic.PureOps.Ideal.Laws

@[expose] public section

noncomputable section

namespace Cert.Scores1Ideal.Plane

open Cert.Scores1Ideal Cert.Scores1Ideal.Gen Idealize.ShloMosaic Idealize.ShloMosaic.TcCoe Idealize.SL.Sem

/-- The array that the reference computes from `x`. -/
def best (x : FVec Ideal S4x3x40x40x87 .f32) : FVec Ideal S4x3x40x40 .f32 :=
  Host.reduce FloatOps.maximumf (mulf (extractStridedSlice S4x3x40x40x80 ![0, 0, 0, 0, 5] (Host.divf (broadcastInDim S4x3x40x40x87 ![] bcast_S_S4x3x40x40x87 (constant S_ .f32 0x3F800000#32)) (addf (broadcastInDim S4x3x40x40x87 ![] bcast_S_S4x3x40x40x87 (constant S_ .f32 0x3F800000#32)) (Host.exp (Host.negf x)))) slices_S4x3x40x40x87_S4x3x40x40x80_0_0_0_0_5) (broadcastInDim S4x3x40x40x80 ![0, 1, 2, 3, 4] bcast_S4x3x40x40x1_S4x3x40x40x80_0_1_2_3_4 (extractStridedSlice S4x3x40x40x1 ![0, 0, 0, 0, 4] (Host.divf (broadcastInDim S4x3x40x40x87 ![] bcast_S_S4x3x40x40x87 (constant S_ .f32 0x3F800000#32)) (addf (broadcastInDim S4x3x40x40x87 ![] bcast_S_S4x3x40x40x87 (constant S_ .f32 0x3F800000#32)) (Host.exp (Host.negf x)))) slices_S4x3x40x40x87_S4x3x40x40x1_0_0_0_0_4))) (constant S_ .f32 0xFF800000#32) reducesTo_S4x3x40x40x80_S4x3x40x40_d4 h_S_

/-- An entry of it: the largest product of a class's confidence with the objectness. -/
theorem best_apply (x : FVec Ideal S4x3x40x40x87 .f32) (b : Fin 4) (a : Fin 3) (r q : Fin 40) :
    (best x (ix4 b a r q) : EReal) = Finset.univ.fold max (⊥ : EReal) fun k : Fin 80 =>
      Ideal.logistic (x (ix5 b a r q ⟨5 + k.val, by omega⟩)) * Ideal.logistic (x (ix5 b a r q 4)) := by
  unfold best
  pointwise
  rw [Cert.Nms.ofBits_negInf]
  rfl

end Cert.Scores1Ideal.Plane

namespace Cert.Decode1Ideal.Plane

open Cert.Decode1Ideal Cert.Decode1Ideal.Gen Idealize.ShloMosaic Idealize.ShloMosaic.TcCoe Idealize.SL.Sem
open Idealize.ShloMosaic.Pipeline (Dat)

variable (m : (ℓ : Loc nD τ sig) → Buf (Elt Ideal) ℓ)

/-- What the body writes to the plane of scores: the confidence of the largest logit times the objectness. -/
theorem out_apply (i : grid0.Coords) (x : Vec Ideal S1x1x40x40x87 .f32) (r q : Fin 40) :
    (out0_5 i x (ix4 0 0 r q) : EReal)
      = Ideal.logistic (Finset.univ.fold max (⊥ : EReal) fun k : Fin 80 => x (ix5 0 0 r q ⟨5 + k.val, by omega⟩))
        * Ideal.logistic (x (ix5 0 0 r q 4)) := by
  have hz : (![0, 0, 0, 0] : Fin 4 → Nat) = fun _ => 0 := funext fun a => by fin_cases a <;> rfl
  have hz5 : (![0, 0, 0, 0, 0] : Fin 5 → Nat) = fun _ => 0 := funext fun a => by fin_cases a <;> rfl
  have hl : View.ld x r0_0 = x := View.ld_unit_zero hz5 _ _
  unfold out0_5
  rw [View.canon_unit_zero hz, hl]
  unfold k0_pay3 k0_pay8 k0_pay6 k0_pay5 k0_pay4
  pointwise
  rw [Cert.Nms.ofBits_negInf]

/-- The point of the grid that works on image `b` and anchor `a`. -/
def pt (b : Fin 4) (a : Fin 3) : Fin cfg0.N := ⟨b.val * 3 + a.val, by show _ < 12; omega⟩

/-- It writes the block of that image and anchor. -/
theorem idx5 : ∀ (b : Fin 4) (a : Fin 3) (k : Fin 4), win0_5.index (pt b a) k = (![b.val, a.val, 0, 0] : Fin 4 → ℕ) k := by
  decide +kernel

/-- It reads the block of that image and anchor. -/
theorem idx0 : ∀ (b : Fin 4) (a : Fin 3) (k : Fin 5), win0_0.index (pt b a) k = (![b.val, a.val, 0, 0, 0] : Fin 5 → ℕ) k := by
  decide +kernel

/-- The array of scores after the run, at an entry, is what that entry's point wrote. -/
theorem array_apply (c : Dev nD) (b : Fin 4) (a : Fin 3) (r q : Fin 40) :
    (dats m 0 c).arrAt 5 cfg0.N (ix4 b a r q) = out0_5 (grid0.coords (pt b a)) (iblk m c 0 (pt b a)) (ix4 0 0 r q) := by
  have h := congrFun (Value.blocks5 m c (pt b a) (flush0_5 _)) (ix4 0 0 r q)
  rw [Value.flushed5] at h
  refine (congrArg ((dats m 0 c).arrAt 5 cfg0.N) (funext fun k => Fin.ext ?_)).trans h
  change Fin 4 at k
  fin_cases k
  · have e : win0_5.index (pt b a) 0 = b.val := idx5 b a 0
    show b.val = win0_5.index (pt b a) 0 * 1 + 1 * 0
    rw [e]; omega
  · have e : win0_5.index (pt b a) 1 = a.val := idx5 b a 1
    show a.val = win0_5.index (pt b a) 1 * 1 + 1 * 0
    rw [e]; omega
  · have e : win0_5.index (pt b a) 2 = 0 := idx5 b a 2
    show r.val = win0_5.index (pt b a) 2 * 40 + 1 * r.val
    rw [e]; omega
  · have e : win0_5.index (pt b a) 3 = 0 := idx5 b a 3
    show q.val = win0_5.index (pt b a) 3 * 40 + 1 * q.val
    rw [e]; omega

/-- The block that a point reads, at an entry, is the argument at that point's image and anchor. -/
theorem block_apply (c : Dev nD) (b : Fin 4) (a : Fin 3) (r q : Fin 40) (k : Fin 87) :
    iblk m c 0 (pt b a) (ix5 0 0 r q k) = m ((c : Thread nD τ).loc main_arg0) (ix5 b a r q k) := by
  refine Eq.trans ?_ (congrFun (V_main_arg0 m c) _)
  unfold iblk
  refine congrArg (V m c main_arg0) (funext fun j => Fin.ext ?_)
  change Fin 5 at j
  fin_cases j
  · have e : win0_0.index (pt b a) 0 = b.val := idx0 b a 0
    show win0_0.index (pt b a) 0 * 1 + 1 * 0 = b.val
    rw [e]; omega
  · have e : win0_0.index (pt b a) 1 = a.val := idx0 b a 1
    show win0_0.index (pt b a) 1 * 1 + 1 * 0 = a.val
    rw [e]; omega
  · have e : win0_0.index (pt b a) 2 = 0 := idx0 b a 2
    show win0_0.index (pt b a) 2 * 40 + 1 * r.val = r.val
    rw [e]; omega
  · have e : win0_0.index (pt b a) 3 = 0 := idx0 b a 3
    show win0_0.index (pt b a) 3 * 40 + 1 * q.val = q.val
    rw [e]; omega
  · have e : win0_0.index (pt b a) 4 = 0 := idx0 b a 4
    show win0_0.index (pt b a) 4 * 87 + 1 * k.val = k.val
    rw [e]; omega

/-- From equal arguments the array of scores after the run is the reference's array. -/
theorem same (c : Dev nD) (x : FVec Ideal Cert.Scores1Ideal.S4x3x40x40x87 .f32)
    (hx : x = m ((c : Thread nD τ).loc main_arg0)) :
    Cert.Scores1Ideal.Plane.best x = (dats m 0 c).arrAt 5 cfg0.N := by
  funext j
  have hj : j = ix4 (j 0 : Fin 4) (j 1 : Fin 3) (j 2 : Fin 40) (j 3 : Fin 40) := funext fun k => by
    change Fin 4 at k
    fin_cases k <;> rfl
  generalize (j 0 : Fin 4) = b at hj
  generalize (j 1 : Fin 3) = a at hj
  generalize (j 2 : Fin 40) = r at hj
  generalize (j 3 : Fin 40) = q at hj
  subst hj
  subst hx
  refine (Cert.Scores1Ideal.Plane.best_apply _ b a r q).trans (Eq.trans ?_ (array_apply m c b a r q).symm)
  refine Eq.trans ?_ (out_apply _ _ r q).symm
  refine (Cert.Score.largest_product (fun k : Fin 80 => m ((c : Thread nD τ).loc main_arg0) (ix5 b a r q ⟨5 + k.val, by omega⟩)) _).trans ?_
  refine congrArg₂ (fun u v : EReal => Ideal.logistic u * Ideal.logistic v) (Finset.fold_congr fun k _ => ?_) ?_
  · exact (block_apply m c b a r q _).symm
  · exact (block_apply m c b a r q 4).symm

end Cert.Decode1Ideal.Plane

end
-- ==== Proof.Value.Plane2.lean ====
/- The plane of scores of level 2: what a point of the decode call's grid writes, the array after the run, and the reference's
   array, entry by entry. -/
module

public import proofs.«01_k».proof.Proof.Gen.Decode2Ideal.Value
public import proofs.«01_k».proof.Proof.Gen.Scores2Ideal.Run
public import proofs.«01_k».proof.Proof.Value.Cells
public import proofs.«01_k».proof.Proof.Value.Score
public import Idealize.ShloMosaic.Lib.Pointwise
public import Idealize.ShloMosaic.Lib.ValueIdx
public import Idealize.ShloMosaic.PureOps.Ideal.Laws

@[expose] public section

noncomputable section

namespace Cert.Scores2Ideal.Plane

open Cert.Scores2Ideal Cert.Scores2Ideal.Gen Idealize.ShloMosaic Idealize.ShloMosaic.TcCoe Idealize.SL.Sem

/-- The array that the reference computes from `x`. -/
def best (x : FVec Ideal S4x3x20x20x87 .f32) : FVec Ideal S4x3x20x20 .f32 :=
  Host.reduce FloatOps.maximumf (mulf (extractStridedSlice S4x3x20x20x80 ![0, 0, 0, 0, 5] (Host.divf (broadcastInDim S4x3x20x20x87 ![] bcast_S_S4x3x20x20x87 (constant S_ .f32 0x3F800000#32)) (addf (broadcastInDim S4x3x20x20x87 ![] bcast_S_S4x3x20x20x87 (constant S_ .f32 0x3F800000#32)) (Host.exp (Host.negf x)))) slices_S4x3x20x20x87_S4x3x20x20x80_0_0_0_0_5) (broadcastInDim S4x3x20x20x80 ![0, 1, 2, 3, 4] bcast_S4x3x20x20x1_S4x3x20x20x80_0_1_2_3_4 (extractStridedSlice S4x3x20x20x1 ![0, 0, 0, 0, 4] (Host.divf (broadcastInDim S4x3x20x20x87 ![] bcast_S_S4x3x20x20x87 (constant S_ .f32 0x3F800000#32)) (addf (broadcastInDim S4x3x20x20x87 ![] bcast_S_S4x3x20x20x87 (constant S_ .f32 0x3F800000#32)) (Host.exp (Host.negf x)))) slices_S4x3x20x20x87_S4x3x20x20x1_0_0_0_0_4))) (constant S_ .f32 0xFF800000#32) reducesTo_S4x3x20x20x80_S4x3x20x20_d4 h_S_

/-- An entry of it: the largest product of a class's confidence with the objectness. -/
theorem best_apply (x : FVec Ideal S4x3x20x20x87 .f32) (b : Fin 4) (a : Fin 3) (r q : Fin 20) :
    (best x (ix4 b a r q) : EReal) = Finset.univ.fold max (⊥ : EReal) fun k : Fin 80 =>
      Ideal.logistic (x (ix5 b a r q ⟨5 + k.val, by omega⟩)) * Ideal.logistic (x (ix5 b a r q 4)) := by
  unfold best
  pointwise
  rw [Cert.Nms.ofBits_negInf]
  rfl

end Cert.Scores2Ideal.Plane

namespace Cert.Decode2Ideal.Plane

open Cert.Decode2Ideal Cert.Decode2Ideal.Gen Idealize.ShloMosaic Idealize.ShloMosaic.TcCoe Idealize.SL.Sem
open Idealize.ShloMosaic.Pipeline (Dat)

variable (m : (ℓ : Loc nD τ sig) → Buf (Elt Ideal) ℓ)

/-- What the body writes to the plane of scores: the confidence of the largest logit times the objectness. -/
theorem out_apply (i : grid0.Coords) (x : Vec Ideal S1x1x20x20x87 .f32) (r q : Fin 20) :
    (out0_5 i x (ix4 0 0 r q) : EReal)
      = Ideal.logistic (Finset.univ.fold max (⊥ : EReal) fun k : Fin 80 => x (ix5 0 0 r q ⟨5 + k.val, by omega⟩))
        * Ideal.logistic (x (ix5 0 0 r q 4)) := by
  have hz : (![0, 0, 0, 0] : Fin 4 → Nat) = fun _ => 0 := funext fun a => by fin_cases a <;> rfl
  have hz5 : (![0, 0, 0, 0, 0] : Fin 5 → Nat) = fun _ => 0 := funext fun a => by fin_cases a <;> rfl
  have hl : View.ld x r0_0 = x := View.ld_unit_zero hz5 _ _
  unfold out0_5
  rw [View.canon_unit_zero hz, hl]
  unfold k0_pay3 k0_pay8 k0_pay6 k0_pay5 k0_pay4
  pointwise
  rw [Cert.Nms.ofBits_negInf]

/-- The point of the grid that works on image `b` and anchor `a`. -/
def pt (b : Fin 4) (a : Fin 3) : Fin cfg0.N := ⟨b.val * 3 + a.val, by show _ < 12; omega⟩

/-- It writes the block of that image and anchor. -/
theorem idx5 : ∀ (b : Fin 4) (a : Fin 3) (k : Fin 4), win0_5.index (pt b a) k = (![b.val, a.val, 0, 0] : Fin 4 → ℕ) k := by
  decide +kernel

/-- It reads the block of that image and anchor. -/
theorem idx0 : ∀ (b : Fin 4) (a : Fin 3) (k : Fin 5), win0_0.index (pt b a) k = (![b.val, a.val, 0, 0, 0] : Fin 5 → ℕ) k := by
  decide +kernel

/-- The array of scores after the run, at an entry, is what that entry's point wrote. -/
theorem array_apply (c : Dev nD) (b : Fin 4) (a : Fin 3) (r q : Fin 20) :
    (dats m 0 c).arrAt 5 cfg0.N (ix4 b a r q) = out0_5 (grid0.coords (pt b a)) (iblk m c 0 (pt b a)) (ix4 0 0 r q) := by
  have h := congrFun (Value.blocks5 m c (pt b a) (flush0_5 _)) (ix4 0 0 r q)
  rw [Value.flushed5] at h
  refine (congrArg ((dats m 0 c).arrAt 5 cfg0.N) (funext fun k => Fin.ext ?_)).trans h
  change Fin 4 at k
  fin_cases k
  · have e : win0_5.index (pt b a) 0 = b.val := idx5 b a 0
    show b.val = win0_5.index (pt b a) 0 * 1 + 1 * 0
    rw [e]; omega
  · have e : win0_5.index (pt b a) 1 = a.val := idx5 b a 1
    show a.val = win0_5.index (pt b a) 1 * 1 + 1 * 0
    rw [e]; omega
  · have e : win0_5.index (pt b a) 2 = 0 := idx5 b a 2
    show r.val = win0_5.index (pt b a) 2 * 20 + 1 * r.val
    rw [e]; omega
  · have e : win0_5.index (pt b a) 3 = 0 := idx5 b a 3
    show q.val = win0_5.index (pt b a) 3 * 20 + 1 * q.val
    rw [e]; omega

/-- The block that a point reads, at an entry, is the argument at that point's image and anchor. -/
theorem block_apply (c : Dev nD) (b : Fin 4) (a : Fin 3) (r q : Fin 20) (k : Fin 87) :
    iblk m c 0 (pt b a) (ix5 0 0 r q k) = m ((c : Thread nD τ).loc main_arg0) (ix5 b a r q k) := by
  refine Eq.trans ?_ (congrFun (V_main_arg0 m c) _)
  unfold iblk
  refine congrArg (V m c main_arg0) (funext fun j => Fin.ext ?_)
  change Fin 5 at j
  fin_cases j
  · have e : win0_0.index (pt b a) 0 = b.val := idx0 b a 0
    show win0_0.index (pt b a) 0 * 1 + 1 * 0 = b.val
    rw [e]; omega
  · have e : win0_0.index (pt b a) 1 = a.val := idx0 b a 1
    show win0_0.index (pt b a) 1 * 1 + 1 * 0 = a.val
    rw [e]; omega
  · have e : win0_0.index (pt b a) 2 = 0 := idx0 b a 2
    show win0_0.index (pt b a) 2 * 20 + 1 * r.val = r.val
    rw [e]; omega
  · have e : win0_0.index (pt b a) 3 = 0 := idx0 b a 3
    show win0_0.index (pt b a) 3 * 20 + 1 * q.val = q.val
    rw [e]; omega
  · have e : win0_0.index (pt b a) 4 = 0 := idx0 b a 4
    show win0_0.index (pt b a) 4 * 87 + 1 * k.val = k.val
    rw [e]; omega

/-- From equal arguments the array of scores after the run is the reference's array. -/
theorem same (c : Dev nD) (x : FVec Ideal Cert.Scores2Ideal.S4x3x20x20x87 .f32)
    (hx : x = m ((c : Thread nD τ).loc main_arg0)) :
    Cert.Scores2Ideal.Plane.best x = (dats m 0 c).arrAt 5 cfg0.N := by
  funext j
  have hj : j = ix4 (j 0 : Fin 4) (j 1 : Fin 3) (j 2 : Fin 20) (j 3 : Fin 20) := funext fun k => by
    change Fin 4 at k
    fin_cases k <;> rfl
  generalize (j 0 : Fin 4) = b at hj
  generalize (j 1 : Fin 3) = a at hj
  generalize (j 2 : Fin 20) = r at hj
  generalize (j 3 : Fin 20) = q at hj
  subst hj
  subst hx
  refine (Cert.Scores2Ideal.Plane.best_apply _ b a r q).trans (Eq.trans ?_ (array_apply m c b a r q).symm)
  refine Eq.trans ?_ (out_apply _ _ r q).symm
  refine (Cert.Score.largest_product (fun k : Fin 80 => m ((c : Thread nD τ).loc main_arg0) (ix5 b a r q ⟨5 + k.val, by omega⟩)) _).trans ?_
  refine congrArg₂ (fun u v : EReal => Ideal.logistic u * Ideal.logistic v) (Finset.fold_congr fun k _ => ?_) ?_
  · exact (block_apply m c b a r q _).symm
  · exact (block_apply m c b a r q 4).symm

end Cert.Decode2Ideal.Plane

end
-- ==== Proof.lean ====
/- The proof of the certificate's claim: the two printings of the kernel run to the end, leave their arguments as they
   were and every counter at zero; so does the reference; and at exact arithmetic the kernel and the reference end with
   equal results. -/
module

public import proofs.«01_k».proof.Defs
public import proofs.«01_k».proof.Proof.Run.Frame
public import proofs.«01_k».proof.Proof.Value.Same
public import proofs.«01_k».proof.Proof.Gen.Decode0.Frame
public import proofs.«01_k».proof.Proof.Gen.Decode0Ideal.Value
public import proofs.«01_k».proof.Proof.Gen.Scores0Ideal.Run
public import proofs.«01_k».proof.Proof.Value.Plane0
public import proofs.«01_k».proof.Proof.Gen.Decode1.Frame
public import proofs.«01_k».proof.Proof.Gen.Decode1Ideal.Value
public import proofs.«01_k».proof.Proof.Gen.Scores1Ideal.Run
public import proofs.«01_k».proof.Proof.Value.Plane1
public import proofs.«01_k».proof.Proof.Gen.Decode2.Frame
public import proofs.«01_k».proof.Proof.Gen.Decode2Ideal.Value
public import proofs.«01_k».proof.Proof.Gen.Scores2Ideal.Run
public import proofs.«01_k».proof.Proof.Value.Plane2
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments as they were and every counter at zero: it declares no counter. -/
theorem reference_quiescent : Cert.quiescent_ReferenceIdeal (hReferenceIdeal := Cert.ReferenceIdeal.Gen.facts) := fun m ρ _ =>
  (θ_run _ _ _).mono (fun r h => ⟨fun c => (h c).2.2.2, by
    exact Idealize.ShloMosaic.sem_eq_zero_of_no_sems (by decide) r.2⟩) (Cert.ReferenceIdeal.Value.run m ρ)

/-- At exact arithmetic, from equal arguments, the kernel and the reference end with equal results. -/
theorem equal_results : Cert.algebraic_KernelIdeal_ReferenceIdeal (hKernelIdeal := Cert.KernelIdeal.Gen.facts)
    (hReferenceIdeal := Cert.ReferenceIdeal.Gen.facts) := by
  intro m g m' g' _ hag
  refine ⟨_, _, _, Cert.KernelIdeal.Value.run m g, (θ_run _ _ _).mono (fun r h c => ?_) (Cert.ReferenceIdeal.Value.run m' g')⟩
  obtain ⟨a0, a1, a2, a3, a4, a5, a6, a7, a8, a9, a10, a11, a12, a13, a14, a15, a16, a17⟩ := hag c
  exact ⟨(h c).1.trans (Cert.Nms.same0 m m' c a0 a3 a4 a5 a6 a7), (h c).2.1.trans (Cert.Nms.same1 m m' c a1 a8 a9 a10 a11 a12),
    (h c).2.2.1.trans (Cert.Nms.same2 m m' c a2 a13 a14 a15 a16 a17), (h c).2.2.2⟩

/-- The reference of the scores of level 0 runs, leaves its argument as it was and every counter at zero. -/
theorem scores_quiescent0 : Cert.quiescent_Scores0Ideal (hScores0Ideal := Cert.Scores0Ideal.Gen.facts) := fun m ρ _ =>
  (θ_run _ _ _).mono (fun r h => ⟨fun c => (h c).2, by
    exact Idealize.ShloMosaic.sem_eq_zero_of_no_sems (by decide) r.2⟩) (Cert.Scores0Ideal.Value.run m ρ)

/-- At exact arithmetic, from equal arguments, the decode call of level 0 and its reference end with equal scores. -/
theorem equal_scores0 : Cert.algebraic_Decode0Ideal_Scores0Ideal (hDecode0Ideal := Cert.Decode0Ideal.Gen.facts)
    (hScores0Ideal := Cert.Scores0Ideal.Gen.facts) := by
  intro m g m' g' _ hag
  refine ⟨_, (θ_run _ _ _).mono (fun r h c => ⟨(h c).2.2.2.2.1, (h c).2.2.2.2.2⟩) (Cert.Decode0Ideal.Value.run_blocks m g),
    (θ_run _ _ _).mono (fun r h c => ?_) (Cert.Scores0Ideal.Value.run m' g')⟩
  exact ⟨(h c).1.trans (Cert.Decode0Ideal.Plane.same m c _ (hag c)), (h c).2⟩

/-- The reference of the scores of level 1 runs, leaves its argument as it was and every counter at zero. -/
theorem scores_quiescent1 : Cert.quiescent_Scores1Ideal (hScores1Ideal := Cert.Scores1Ideal.Gen.facts) := fun m ρ _ =>
  (θ_run _ _ _).mono (fun r h => ⟨fun c => (h c).2, by
    exact Idealize.ShloMosaic.sem_eq_zero_of_no_sems (by decide) r.2⟩) (Cert.Scores1Ideal.Value.run m ρ)

/-- At exact arithmetic, from equal arguments, the decode call of level 1 and its reference end with equal scores. -/
theorem equal_scores1 : Cert.algebraic_Decode1Ideal_Scores1Ideal (hDecode1Ideal := Cert.Decode1Ideal.Gen.facts)
    (hScores1Ideal := Cert.Scores1Ideal.Gen.facts) := by
  intro m g m' g' _ hag
  refine ⟨_, (θ_run _ _ _).mono (fun r h c => ⟨(h c).2.2.2.2.1, (h c).2.2.2.2.2⟩) (Cert.Decode1Ideal.Value.run_blocks m g),
    (θ_run _ _ _).mono (fun r h c => ?_) (Cert.Scores1Ideal.Value.run m' g')⟩
  exact ⟨(h c).1.trans (Cert.Decode1Ideal.Plane.same m c _ (hag c)), (h c).2⟩

/-- The reference of the scores of level 2 runs, leaves its argument as it was and every counter at zero. -/
theorem scores_quiescent2 : Cert.quiescent_Scores2Ideal (hScores2Ideal := Cert.Scores2Ideal.Gen.facts) := fun m ρ _ =>
  (θ_run _ _ _).mono (fun r h => ⟨fun c => (h c).2, by
    exact Idealize.ShloMosaic.sem_eq_zero_of_no_sems (by decide) r.2⟩) (Cert.Scores2Ideal.Value.run m ρ)

/-- At exact arithmetic, from equal arguments, the decode call of level 2 and its reference end with equal scores. -/
theorem equal_scores2 : Cert.algebraic_Decode2Ideal_Scores2Ideal (hDecode2Ideal := Cert.Decode2Ideal.Gen.facts)
    (hScores2Ideal := Cert.Scores2Ideal.Gen.facts) := by
  intro m g m' g' _ hag
  refine ⟨_, (θ_run _ _ _).mono (fun r h c => ⟨(h c).2.2.2.2.1, (h c).2.2.2.2.2⟩) (Cert.Decode2Ideal.Value.run_blocks m g),
    (θ_run _ _ _).mono (fun r h c => ?_) (Cert.Scores2Ideal.Value.run m' g')⟩
  exact ⟨(h c).1.trans (Cert.Decode2Ideal.Plane.same m c _ (hag c)), (h c).2⟩

/-- The claims of the certificate: five for the selection and the gather, and five for the scores of each level. -/
theorem claim : Cert.Claim :=
  ⟨Cert.Kernel.Gen.facts, Cert.KernelIdeal.Gen.facts, Cert.ReferenceIdeal.Gen.facts,
    Cert.Decode0.Gen.facts, Cert.Decode0Ideal.Gen.facts, Cert.Scores0Ideal.Gen.facts,
    Cert.Decode1.Gen.facts, Cert.Decode1Ideal.Gen.facts, Cert.Scores1Ideal.Gen.facts,
    Cert.Decode2.Gen.facts, Cert.Decode2Ideal.Gen.facts, Cert.Scores2Ideal.Gen.facts,
    fun m g _ => Cert.Kernel.Gen.frame m g, fun m g _ => Cert.KernelIdeal.Gen.frame m g, reference_quiescent,
    fun m g _ => Cert.Decode0.Gen.frame m g, fun m g _ => Cert.Decode0Ideal.Gen.frame m g, scores_quiescent0,
    fun m g _ => Cert.Decode1.Gen.frame m g, fun m g _ => Cert.Decode1Ideal.Gen.frame m g, scores_quiescent1,
    fun m g _ => Cert.Decode2.Gen.frame m g, fun m g _ => Cert.Decode2Ideal.Gen.frame m g, scores_quiescent2,
    trivial, equal_results, trivial, equal_scores0, trivial, equal_scores1, trivial, equal_scores2⟩

end Cert.Proof

end
